-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v69_1)) (v2 : (c : Dev Cert.KernelIdeal.nD) → Buf (Elt Ideal) ((c.tc : Thread Cert.KernelIdeal.nD Cert.KernelIdeal.τ).loc Cert.KernelIdeal.main_v69_2)) (v3 : (c : Dev Cert.KernelIdeal.nD) → Buf (Elt Ideal) ((c.tc : Thread Cert.KernelIdeal.nD Cert.KernelIdeal.τ).loc Cert.KernelIdeal.main_v69_3)) (v4 : (c : Dev Cert.KernelIdeal.nD) → Buf (Elt Ideal) ((c.tc : Thread Cert.KernelIdeal.nD Cert.KernelIdeal.τ).loc Cert.KernelIdeal.main_v69_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v69_1) = v1 c
          ∧ r.2.mem ((c.tc : Thread Cert.KernelIdeal.nD Cert.KernelIdeal.τ).loc Cert.KernelIdeal.main_v69_2) = v2 c
          ∧ r.2.mem ((c.tc : Thread Cert.KernelIdeal.nD Cert.KernelIdeal.τ).loc Cert.KernelIdeal.main_v69_3) = v3 c
          ∧ r.2.mem ((c.tc : Thread Cert.KernelIdeal.nD Cert.KernelIdeal.τ).loc Cert.KernelIdeal.main_v69_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)) (v1 : (c : Dev Cert.Kernel2Ideal.nD) → Buf (Elt Ideal) ((c.tc : Thread Cert.Kernel2Ideal.nD Cert.Kernel2Ideal.τ).loc Cert.Kernel2Ideal.main_v5)) (v2 : (c : Dev Cert.Kernel2Ideal.nD) → Buf (Elt Ideal) ((c.tc : Thread Cert.Kernel2Ideal.nD Cert.Kernel2Ideal.τ).loc Cert.Kernel2Ideal.main_v4_0)) (v3 : (c : Dev Cert.Kernel2Ideal.nD) → Buf (Elt Ideal) ((c.tc : Thread Cert.Kernel2Ideal.nD Cert.Kernel2Ideal.τ).loc Cert.Kernel2Ideal.main_v4_1)) (v4 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_v5) = v1 c
          ∧ r.2.mem ((c.tc : Thread Cert.Kernel2Ideal.nD Cert.Kernel2Ideal.τ).loc Cert.Kernel2Ideal.main_v4_0) = v2 c
          ∧ r.2.mem ((c.tc : Thread Cert.Kernel2Ideal.nD Cert.Kernel2Ideal.τ).loc Cert.Kernel2Ideal.main_v4_1) = v3 c
          ∧ r.2.mem ((c.tc : Thread Cert.Kernel2Ideal.nD Cert.Kernel2Ideal.τ).loc Cert.Kernel2Ideal.main_v3) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_v27) = v3 c
          ∧ r.2.mem ((c.tc : Thread Cert.Reference2Ideal.nD Cert.Reference2Ideal.τ).loc Cert.Reference2Ideal.main_v28) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v1)) (v2 : (c : Dev Cert.Kernel3Ideal.nD) → Buf (Elt Ideal) ((c.tc : Thread Cert.Kernel3Ideal.nD Cert.Kernel3Ideal.τ).loc Cert.Kernel3Ideal.main_v2)) (v3 : (c : Dev Cert.Kernel3Ideal.nD) → Buf (Elt Ideal) ((c.tc : Thread Cert.Kernel3Ideal.nD Cert.Kernel3Ideal.τ).loc Cert.Kernel3Ideal.main_v3)) (v4 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v1) = v1 c
          ∧ r.2.mem ((c.tc : Thread Cert.Kernel3Ideal.nD Cert.Kernel3Ideal.τ).loc Cert.Kernel3Ideal.main_v2) = v2 c
          ∧ r.2.mem ((c.tc : Thread Cert.Kernel3Ideal.nD Cert.Kernel3Ideal.τ).loc Cert.Kernel3Ideal.main_v3) = v3 c
          ∧ r.2.mem ((c.tc : Thread Cert.Kernel3Ideal.nD Cert.Kernel3Ideal.τ).loc Cert.Kernel3Ideal.main_v4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_v17) = v2 c
          ∧ r.2.mem ((c.tc : Thread Cert.Reference3Ideal.nD Cert.Reference3Ideal.τ).loc Cert.Reference3Ideal.main_v18) = v3 c
          ∧ r.2.mem ((c.tc : Thread Cert.Reference3Ideal.nD Cert.Reference3Ideal.τ).loc Cert.Reference3Ideal.main_v12) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
-- ==== Pre_finite.lean ====
abbrev S2048x6144 : Shape := ⟨2, ![2048, 6144]⟩
abbrev S16x2048 : Shape := ⟨2, ![16, 2048]⟩
abbrev S2048x2048 : Shape := ⟨2, ![2048, 2048]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)
  reducesTo_S2048x6144_S_d0_1 : S2048x6144.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x6144 .bf16) (main_arg1 : FVec F S16x2048 .f32) (main_arg2 : FVec F S2048x2048 .bf16) : IVec S_ 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_c : IVec S_ 1 := constantI S_ 1 1#1
  let main_v4 : IVec S_ 1 := (fun x v => Host.reduce IntOp.andi x v reducesTo_S2048x6144_S_d0_1 h_S_) main_v3 main_c
  let main_v5 : FVec F S16x2048 .f32 := Host.absf main_arg1
  let main_cst_0 : FVec F S_ .f32 := constant S_ .f32 0x7F800000#32
  let main_v6 : FVec F S16x2048 .f32 := broadcastInDim S16x2048 ![] bcast_S_S16x2048 main_cst_0
  let main_v7 : IVec S16x2048 1 := cmpf .olt main_v5 main_v6
  let main_c_1 : IVec S_ 1 := constantI S_ 1 1#1
  let main_v8 : IVec S_ 1 := (fun x v => Host.reduce IntOp.andi x v reducesTo_S16x2048_S_d0_1 h_S_) main_v7 main_c_1
  let main_v9 : IVec S_ 1 := andi main_v4 main_v8
  let main_v10 : FVec F S2048x2048 .f32 := (extf .f32 · bitsLt_bf16_f32) main_arg2
  let main_v11 : FVec F S2048x2048 .f32 := Host.absf main_v10
  let main_cst_2 : FVec F S_ .f32 := constant S_ .f32 0x7F800000#32
  let main_v12 : FVec F S2048x2048 .f32 := broadcastInDim S2048x2048 ![] bcast_S_S2048x2048 main_cst_2
  let main_v13 : IVec S2048x2048 1 := cmpf .olt main_v11 main_v12
  let main_c_3 : IVec S_ 1 := constantI S_ 1 1#1
  let main_v14 : IVec S_ 1 := (fun x v => Host.reduce IntOp.andi x v reducesTo_S2048x2048_S_d0_1 h_S_) main_v13 main_c_3
  let main_v15 : IVec S_ 1 := andi main_v9 main_v14
  main_v15
-- ==== Pre_finite2.lean ====
abbrev S2048x2048 : Shape := ⟨2, ![2048, 2048]⟩
abbrev S1x2048x5632 : Shape := ⟨3, ![1, 2048, 5632]⟩
abbrev S1x5632x2048 : Shape := ⟨3, ![1, 5632, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048x5632 : S_.BroadcastsInDim S1x2048x5632 (![] : Fin 0 → Fin S1x2048x5632.rank)
  reducesTo_S1x2048x5632_S_d0_1_2 : S1x2048x5632.ReducesTo [0, 1, 2] S_
  bcast_S_S1x5632x2048 : S_.BroadcastsInDim S1x5632x2048 (![] : Fin 0 → Fin S1x5632x2048.rank)
  reducesTo_S1x5632x2048_S_d0_1_2 : S1x5632x2048.ReducesTo [0, 1, 2] S_

variable [Facts]

def fn_part1 {F : FTy → Type} [FloatOps F] (main_arg4 : FVec F S2048x2048 .bf16) (main_v16 : IVec S_ 1) (main_v17 : FVec F S1x5632x2048 .f32) : IVec S_ 1 :=
  let main_v18 : FVec F S1x5632x2048 .f32 := Host.absf main_v17
  let main_cst_4 : FVec F S_ .f32 := constant S_ .f32 0x7F800000#32
  let main_v19 : FVec F S1x5632x2048 .f32 := broadcastInDim S1x5632x2048 ![] bcast_S_S1x5632x2048 main_cst_4
  let main_v20 : IVec S1x5632x2048 1 := cmpf .olt main_v18 main_v19
  let main_c_5 : IVec S_ 1 := constantI S_ 1 1#1
  let main_v21 : IVec S_ 1 := (fun x v => Host.reduce IntOp.andi x v reducesTo_S1x5632x2048_S_d0_1_2 h_S_) main_v20 main_c_5
  let main_v22 : IVec S_ 1 := andi main_v16 main_v21
  let main_v23 : FVec F S2048x2048 .f32 := (extf .f32 · bitsLt_bf16_f32) main_arg4
  let main_v24 : FVec F S2048x2048 .f32 := Host.absf main_v23
  let main_cst_6 : FVec F S_ .f32 := constant S_ .f32 0x7F800000#32
  let main_v25 : FVec F S2048x2048 .f32 := broadcastInDim S2048x2048 ![] bcast_S_S2048x2048 main_cst_6
  let main_v26 : IVec S2048x2048 1 := cmpf .olt main_v24 main_v25
  let main_c_7 : IVec S_ 1 := constantI S_ 1 1#1
  let main_v27 : IVec S_ 1 := (fun x v => Host.reduce IntOp.andi x v reducesTo_S2048x2048_S_d0_1 h_S_) main_v26 main_c_7
  let main_v28 : IVec S_ 1 := andi main_v22 main_v27
  main_v28

def fn {F : FTy → Type} [FloatOps F] (main_arg0 : FVec F S2048x2048 .bf16) (main_arg1 : FVec F S1x2048x5632 .bf16) (main_arg2 : FVec F S1x2048x5632 .bf16) (main_arg3 : FVec F S1x5632x2048 .bf16) (main_arg4 : FVec F S2048x2048 .bf16) : IVec S_ 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S1x2048x5632 .f32 := (extf .f32 · bitsLt_bf16_f32) main_arg1
  let main_v6 : FVec F S1x2048x5632 .f32 := Host.absf main_v5
  let main_cst_0 : FVec F S_ .f32 := constant S_ .f32 0x7F800000#32
  let main_v7 : FVec F S1x2048x5632 .f32 := broadcastInDim S1x2048x5632 ![] bcast_S_S1x2048x5632 main_cst_0
  let main_v8 : IVec S1x2048x5632 1 := cmpf .olt main_v6 main_v7
  let main_c_1 : IVec S_ 1 := constantI S_ 1 1#1
  let main_v9 : IVec S_ 1 := (fun x v => Host.reduce IntOp.andi x v reducesTo_S1x2048x5632_S_d0_1_2 h_S_) main_v8 main_c_1
  let main_v10 : IVec S_ 1 := andi main_v4 main_v9
  let main_v11 : FVec F S1x2048x5632 .f32 := (extf .f32 · bitsLt_bf16_f32) main_arg2
  let main_v12 : FVec F S1x2048x5632 .f32 := Host.absf main_v11
  let main_cst_2 : FVec F S_ .f32 := constant S_ .f32 0x7F800000#32
  let main_v13 : FVec F S1x2048x5632 .f32 := broadcastInDim S1x2048x5632 ![] bcast_S_S1x2048x5632 main_cst_2
  let main_v14 : IVec S1x2048x5632 1 := cmpf .olt main_v12 main_v13
  let main_c_3 : IVec S_ 1 := constantI S_ 1 1#1
  let main_v15 : IVec S_ 1 := (fun x v => Host.reduce IntOp.andi x v reducesTo_S1x2048x5632_S_d0_1_2 h_S_) main_v14 main_c_3
  let main_v16 : IVec S_ 1 := andi main_v10 main_v15
  let main_v17 : FVec F S1x5632x2048 .f32 := (extf .f32 · bitsLt_bf16_f32) main_arg3
  fn_part1 (F := F) main_arg4 main_v16 main_v17
-- ==== Kernel.lean ====
abbrev S2048x6144 : Shape := ⟨2, ![2048, 6144]⟩
abbrev S16x2048 : Shape := ⟨2, ![16, 2048]⟩
abbrev S2048x2048 : Shape := ⟨2, ![2048, 2048]⟩
abbrev S2048x16x128 : Shape := ⟨3, ![2048, 16, 128]⟩
abbrev S2048 : Shape := ⟨1, ![2048]⟩
abbrev S16x2048x2048 : Shape := ⟨3, ![16, 2048, 2048]⟩
abbrev S_ : Shape := ⟨0, ![]⟩
abbrev S16x2048x1 : Shape := ⟨3, ![16, 2048, 1]⟩
abbrev S16x1x2048 : Shape := ⟨3, ![16, 1, 2048]⟩
abbrev S2048x1 : Shape := ⟨2, ![2048, 1]⟩
abbrev S1x2048 : Shape := ⟨2, ![1, 2048]⟩
abbrev S16x128x2048 : Shape := ⟨3, ![16, 128, 2048]⟩
abbrev S16x2048x128 : Shape := ⟨3, ![16, 2048, 128]⟩
abbrev S512x256 : Shape := ⟨2, ![512, 256]⟩
abbrev S2048x256 : Shape := ⟨2, ![2048, 256]⟩
abbrev S2x512x1 : Shape := ⟨3, ![2, 512, 1]⟩
abbrev S2x1x2048 : Shape := ⟨3, ![2, 1, 2048]⟩
abbrev S2x512x128 : Shape := ⟨3, ![2, 512, 128]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S512x512 : Shape := ⟨2, ![512, 512]⟩
abbrev S1x512x1 : Shape := ⟨3, ![1, 512, 1]⟩
abbrev S1x1x512 : Shape := ⟨3, ![1, 1, 512]⟩
abbrev S1x512 : Shape := ⟨2, ![1, 512]⟩

abbrev nBuf : Space → Nat
  | .hbm => 92
  | .vmem => 28
  | .smem => 0
  | _ => 0

abbrev bufTy : (tb : Table) → Fin (tcTables nBuf tb) → BufTy
  | .hbm, ⟨0, _⟩ => ⟨S2048x6144, .bf16⟩
  | .hbm, ⟨1, _⟩ => ⟨S16x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x16x128, .f32⟩
  | .hbm, ⟨10, _⟩ => ⟨S2048x16x128, .f32⟩
  | .hbm, ⟨11, _⟩ => ⟨S2048, .i32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x1, .f32⟩
  | .hbm, ⟨17, _⟩ => ⟨S16x2048x2048, .f32⟩
  | .hbm, ⟨18, _⟩ => ⟨S16x2048x2048, .f32⟩
  | .hbm, ⟨19, _⟩ => ⟨S16x1x2048, .f32⟩
  | .hbm, ⟨20, _⟩ => ⟨S16x2048x2048, .f32⟩
  | .hbm, ⟨21, _⟩ => ⟨S16x2048x2048, .f32⟩
  | .hbm, ⟨22, _⟩ => ⟨S2048x1, .i32⟩
  | .hbm, ⟨23, _⟩ => ⟨S1x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S16x2048x2048, .i1⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S_, .f32⟩
  | .hbm, ⟨39, _⟩ => ⟨S16x2048, .f32⟩
  | .hbm, ⟨40, _⟩ => ⟨S16x2048, .f32⟩
  | .hbm, ⟨41, _⟩ => ⟨S16x2048, .f32⟩
  | .hbm, ⟨42, _⟩ => ⟨S2048x16x128, .f32⟩
  | .hbm, ⟨43, _⟩ => ⟨S2048x16x128, .f32⟩
  | .hbm, ⟨44, _⟩ => ⟨S2048x16x128, .f32⟩
  | .hbm, ⟨45, _⟩ => ⟨S2048, .i32⟩
  | .hbm, ⟨46, _⟩ => ⟨S16x2048x2048, .f32⟩
  | .hbm, ⟨47, _⟩ => ⟨S_, .f32⟩
  | .hbm, ⟨48, _⟩ => ⟨S16x2048x2048, .f32⟩
  | .hbm, ⟨49, _⟩ => ⟨S16x2048x2048, .f32⟩
  | .hbm, ⟨50, _⟩ => ⟨S16x2048x1, .f32⟩
  | .hbm, ⟨51, _⟩ => ⟨S16x2048x2048, .f32⟩
  | .hbm, ⟨52, _⟩ => ⟨S16x2048x2048, .f32⟩
  | .hbm, ⟨53, _⟩ => ⟨S16x1x2048, .f32⟩
  | .hbm, ⟨54, _⟩ => ⟨S16x2048x2048, .f32⟩
  | .hbm, ⟨55, _⟩ => ⟨S16x2048x2048, .f32⟩
  | .hbm, ⟨56, _⟩ => ⟨S2048x1, .i32⟩
  | .hbm, ⟨57, _⟩ => ⟨S1x2048, .i32⟩
  | .hbm, ⟨58, _⟩ => ⟨S2048x2048, .i32⟩
  | .hbm, ⟨59, _⟩ => ⟨S2048x2048, .i32⟩
  | .hbm, ⟨60, _⟩ => ⟨S2048x2048, .i1⟩
  | .hbm, ⟨61, _⟩ => ⟨S_, .f32⟩
  | .hbm, ⟨62, _⟩ => ⟨S_, .f32⟩
  | .hbm, ⟨63, _⟩ => ⟨S16x2048x2048, .i1⟩
  | .hbm, ⟨64, _⟩ => ⟨S16x2048x2048, .f32⟩
  | .hbm, ⟨65, _⟩ => ⟨S16x2048x2048, .f32⟩
  | .hbm, ⟨66, _⟩ => ⟨S_, .f32⟩
  | .hbm, ⟨67, _⟩ => ⟨S16x2048, .f32⟩
  | .hbm, ⟨68, _⟩ => ⟨S_, .f32⟩
  | .hbm, ⟨69, _⟩ => ⟨S16x2048, .f32⟩
  | .hbm, ⟨70, _⟩ => ⟨S16x2048, .f32⟩
  | .hbm, ⟨71, _⟩ => ⟨S16x2048x1, .f32⟩
  | .hbm, ⟨72, _⟩ => ⟨S16x2048x2048, .f32⟩
  | .hbm, ⟨73, _⟩ => ⟨S16x2048x2048, .f32⟩
  | .hbm, ⟨74, _⟩ => ⟨S16x2048x2048, .f32⟩
  | .hbm, ⟨75, _⟩ => ⟨S_, .f32⟩
  | .hbm, ⟨76, _⟩ => ⟨S16x2048, .f32⟩
  | .hbm, ⟨77, _⟩ => ⟨S16x2048x1, .f32⟩
  | .hbm, ⟨78, _⟩ => ⟨S16x2048x2048, .f32⟩
  | .hbm, ⟨79, _⟩ => ⟨S16x2048x2048, .f32⟩
  | .hbm, ⟨80, _⟩ => ⟨S16x128x2048, .f32⟩
  | .hbm, ⟨81, _⟩ => ⟨S2048x16x128, .f32⟩
  | .hbm, ⟨82, _⟩ => ⟨S2048x2048, .f32⟩
  | .hbm, ⟨83, _⟩ => ⟨S16x2048x1, .f32⟩
  | .hbm, ⟨84, _⟩ => ⟨S16x2048x128, .f32⟩
  | .hbm, ⟨85, _⟩ => ⟨S16x2048x1, .f32⟩
  | .hbm, ⟨86, _⟩ => ⟨S16x1x2048, .f32⟩
  | .hbm, ⟨87, _⟩ => ⟨S2048x2048, .bf16⟩
  | .hbm, ⟨88, _⟩ => ⟨S2048x2048, .f32⟩
  | .hbm, ⟨89, _⟩ => ⟨S2048x2048, .f32⟩
  | .hbm, ⟨90, _⟩ => ⟨S16x1x2048, .f32⟩
  | .hbm, ⟨91, _⟩ => ⟨S16x2048x1, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2x512x1, .f32⟩
  | .local _ .vmem, ⟨7, _⟩ => ⟨S2x512x1, .f32⟩
  | .local _ .vmem, ⟨8, _⟩ => ⟨S2x1x2048, .f32⟩
  | .local _ .vmem, ⟨9, _⟩ => ⟨S2x1x2048, .f32⟩
  | .local _ .vmem, ⟨10, _⟩ => ⟨S512x256, .bf16⟩
  | .local _ .vmem, ⟨11, _⟩ => ⟨S512x256, .bf16⟩
  | .local _ .vmem, ⟨12, _⟩ => ⟨S512x256, .f32⟩
  | .local _ .vmem, ⟨13, _⟩ => ⟨S512x256, .f32⟩
  | .local _ .vmem, ⟨14, _⟩ => ⟨S2x512x128, .f32⟩
  | .local _ .vmem, ⟨15, _⟩ => ⟨S2x512x128, .f32⟩
  | .local _ .vmem, ⟨16, _⟩ => ⟨S512x256, .bf16⟩
  | .local _ .vmem, ⟨17, _⟩ => ⟨S512x256, .bf16⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2x1x2048, .f32⟩
  | .local _ .vmem, ⟨23, _⟩ => ⟨S2x1x2048, .f32⟩
  | .local _ .vmem, ⟨24, _⟩ => ⟨S2x512x1, .f32⟩
  | .local _ .vmem, ⟨25, _⟩ => ⟨S2x512x1, .f32⟩
  | .local _ .vmem, ⟨26, _⟩ => ⟨S2x512x128, .f32⟩
  | .local _ .vmem, ⟨27, _⟩ => ⟨S2x512x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_4 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69_0 : Ref sig .tc := ⟨.hbm, 87, rfl⟩
abbrev main_v69_1 : Ref sig .tc := ⟨.hbm, 88, rfl⟩
abbrev main_v69_2 : Ref sig .tc := ⟨.hbm, 89, rfl⟩
abbrev main_v69_3 : Ref sig .tc := ⟨.hbm, 90, rfl⟩
abbrev main_v69_4 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_26 : BitVec 32 := 0#32
  let arg1 : BitVec 32 := BitVec.ofNat 32 (i 1).val
  let v33 : BitVec 32 := Scalar.subi arg1 c0_i32_26
  let c1_i32 : BitVec 32 := 1#32
  let v35 : BitVec 32 := Scalar.divsi v33 c1_i32
  let v36 : BitVec 32 := Scalar.muli v35 c1_i32
  let v37 : BitVec 32 := Scalar.addi c0_i32_26 v36
  let c1_i32_27 : BitVec 32 := 1#32
  ⟨c0_i32_26, v37, c1_i32_27⟩
def k0_mult1 (i : grid0.Coords) (k0_t1 : Fin (k0_t1_loop i).trips) : BitVec 32 :=
  let c0_i32_26 : BitVec 32 := 0#32
  let c1_i32_27 : BitVec 32 := 1#32
  let arg17 : BitVec 32 := Scf.iv c0_i32_26 c1_i32_27 k0_t1
  let c512_i32_125 : BitVec 32 := 512#32
  let v204 : BitVec 32 := Scalar.muli arg17 c512_i32_125
  v204
def k0_off1 (i : grid0.Coords) (k0_t1 : Fin (k0_t1_loop i).trips) : Fin 2 → Nat :=
  let c0_i32_26 : BitVec 32 := 0#32
  let c1_i32_27 : BitVec 32 := 1#32
  let arg17 : BitVec 32 := Scf.iv c0_i32_26 c1_i32_27 k0_t1
  let c512_i32_125 : BitVec 32 := 512#32
  let v204 : BitVec 32 := Scalar.muli arg17 c512_i32_125
  let v205 : BitVec 32 := v204
  let v206 : Index := Scalar.indexCast v205
  let c0_126 : Index := 0#32
  ![v206.toNat, 0]
def k0_off2 (i : grid0.Coords) (k0_t1 : Fin (k0_t1_loop i).trips) : Fin 3 → Nat :=
  let c0_132 : Index := 0#32
  let c0_133 : Index := 0#32
  let c0_i32_26 : BitVec 32 := 0#32
  let c1_i32_27 : BitVec 32 := 1#32
  let arg17 : BitVec 32 := Scf.iv c0_i32_26 c1_i32_27 k0_t1
  let c512_i32_125 : BitVec 32 := 512#32
  let v204 : BitVec 32 := Scalar.muli arg17 c512_i32_125
  let v205 : BitVec 32 := v204
  let v213 : Index := Scalar.indexCast v205
  ![0, 0, v213.toNat]
def k0_off3 (i : grid0.Coords) (k0_t1 : Fin (k0_t1_loop i).trips) : Fin 2 → Nat :=
  let c0_i32_26 : BitVec 32 := 0#32
  let c1_i32_27 : BitVec 32 := 1#32
  let arg17 : BitVec 32 := Scf.iv c0_i32_26 c1_i32_27 k0_t1
  let c512_i32_125 : BitVec 32 := 512#32
  let v204 : BitVec 32 := Scalar.muli arg17 c512_i32_125
  let v205 : BitVec 32 := v204
  let v274 : Index := Scalar.indexCast v205
  let c128_162 : Index := 128#32
  ![v274.toNat, 128]
def k0_off4 (i : grid0.Coords) (k0_t1 : Fin (k0_t1_loop i).trips) : Fin 3 → Nat :=
  let c1_168 : Index := 1#32
  let c0_169 : Index := 0#32
  let c0_i32_26 : BitVec 32 := 0#32
  let c1_i32_27 : BitVec 32 := 1#32
  let arg17 : BitVec 32 := Scf.iv c0_i32_26 c1_i32_27 k0_t1
  let c512_i32_125 : BitVec 32 := 512#32
  let v204 : BitVec 32 := Scalar.muli arg17 c512_i32_125
  let v205 : BitVec 32 := v204
  let v281 : Index := Scalar.indexCast v205
  ![1, 0, v281.toNat]
@[reducible] def k0_t2_loop (i : grid0.Coords) : Scf.Loop 32 :=
  let c0_i32_26 : BitVec 32 := 0#32
  let arg1 : BitVec 32 := BitVec.ofNat 32 (i 1).val
  let v33 : BitVec 32 := Scalar.subi arg1 c0_i32_26
  let c1_i32 : BitVec 32 := 1#32
  let v35 : BitVec 32 := Scalar.divsi v33 c1_i32
  let v36 : BitVec 32 := Scalar.muli v35 c1_i32
  let v37 : BitVec 32 := Scalar.addi c0_i32_26 v36
  let v34 : BitVec 32 := Scalar.addi c0_i32_26 v33
  let c1_i32_28 : BitVec 32 := 1#32
  ⟨v37, v34, c1_i32_28⟩
def k0_mult2 (i : grid0.Coords) (k0_t2 : Fin (k0_t2_loop i).trips) : BitVec 32 :=
  let c0_i32_26 : BitVec 32 := 0#32
  let arg1 : BitVec 32 := BitVec.ofNat 32 (i 1).val
  let v33 : BitVec 32 := Scalar.subi arg1 c0_i32_26
  let c1_i32 : BitVec 32 := 1#32
  let v35 : BitVec 32 := Scalar.divsi v33 c1_i32
  let v36 : BitVec 32 := Scalar.muli v35 c1_i32
  let v37 : BitVec 32 := Scalar.addi c0_i32_26 v36
  let c1_i32_28 : BitVec 32 := 1#32
  let arg17 : BitVec 32 := Scf.iv v37 c1_i32_28 k0_t2
  let c512_i32_125 : BitVec 32 := 512#32
  let v204 : BitVec 32 := Scalar.muli arg17 c512_i32_125
  v204
def k0_off5 (i : grid0.Coords) (k0_t2 : Fin (k0_t2_loop i).trips) : Fin 2 → Nat :=
  let c0_i32_26 : BitVec 32 := 0#32
  let arg1 : BitVec 32 := BitVec.ofNat 32 (i 1).val
  let v33 : BitVec 32 := Scalar.subi arg1 c0_i32_26
  let c1_i32 : BitVec 32 := 1#32
  let v35 : BitVec 32 := Scalar.divsi v33 c1_i32
  let v36 : BitVec 32 := Scalar.muli v35 c1_i32
  let v37 : BitVec 32 := Scalar.addi c0_i32_26 v36
  let c1_i32_28 : BitVec 32 := 1#32
  let arg17 : BitVec 32 := Scf.iv v37 c1_i32_28 k0_t2
  let c512_i32_125 : BitVec 32 := 512#32
  let v204 : BitVec 32 := Scalar.muli arg17 c512_i32_125
  let v205 : BitVec 32 := v204
  let v206 : Index := Scalar.indexCast v205
  let c0_126 : Index := 0#32
  ![v206.toNat, 0]
def k0_off6 (i : grid0.Coords) (k0_t2 : Fin (k0_t2_loop i).trips) : Fin 3 → Nat :=
  let c0_132 : Index := 0#32
  let c0_133 : Index := 0#32
  let c0_i32_26 : BitVec 32 := 0#32
  let arg1 : BitVec 32 := BitVec.ofNat 32 (i 1).val
  let v33 : BitVec 32 := Scalar.subi arg1 c0_i32_26
  let c1_i32 : BitVec 32 := 1#32
  let v35 : BitVec 32 := Scalar.divsi v33 c1_i32
  let v36 : BitVec 32 := Scalar.muli v35 c1_i32
  let v37 : BitVec 32 := Scalar.addi c0_i32_26 v36
  let c1_i32_28 : BitVec 32 := 1#32
  let arg17 : BitVec 32 := Scf.iv v37 c1_i32_28 k0_t2
  let c512_i32_125 : BitVec 32 := 512#32
  let v204 : BitVec 32 := Scalar.muli arg17 c512_i32_125
  let v205 : BitVec 32 := v204
  let v213 : Index := Scalar.indexCast v205
  ![0, 0, v213.toNat]
def k0_off7 (i : grid0.Coords) (k0_t2 : Fin (k0_t2_loop i).trips) : Fin 2 → Nat :=
  let c0_i32_26 : BitVec 32 := 0#32
  let arg1 : BitVec 32 := BitVec.ofNat 32 (i 1).val
  let v33 : BitVec 32 := Scalar.subi arg1 c0_i32_26
  let c1_i32 : BitVec 32 := 1#32
  let v35 : BitVec 32 := Scalar.divsi v33 c1_i32
  let v36 : BitVec 32 := Scalar.muli v35 c1_i32
  let v37 : BitVec 32 := Scalar.addi c0_i32_26 v36
  let c1_i32_28 : BitVec 32 := 1#32
  let arg17 : BitVec 32 := Scf.iv v37 c1_i32_28 k0_t2
  let c512_i32_125 : BitVec 32 := 512#32
  let v204 : BitVec 32 := Scalar.muli arg17 c512_i32_125
  let v205 : BitVec 32 := v204
  let v274 : Index := Scalar.indexCast v205
  let c128_162 : Index := 128#32
  ![v274.toNat, 128]
def k0_off8 (i : grid0.Coords) (k0_t2 : Fin (k0_t2_loop i).trips) : Fin 3 → Nat :=
  let c1_168 : Index := 1#32
  let c0_169 : Index := 0#32
  let c0_i32_26 : BitVec 32 := 0#32
  let arg1 : BitVec 32 := BitVec.ofNat 32 (i 1).val
  let v33 : BitVec 32 := Scalar.subi arg1 c0_i32_26
  let c1_i32 : BitVec 32 := 1#32
  let v35 : BitVec 32 := Scalar.divsi v33 c1_i32
  let v36 : BitVec 32 := Scalar.muli v35 c1_i32
  let v37 : BitVec 32 := Scalar.addi c0_i32_26 v36
  let c1_i32_28 : BitVec 32 := 1#32
  let arg17 : BitVec 32 := Scf.iv v37 c1_i32_28 k0_t2
  let c512_i32_125 : BitVec 32 := 512#32
  let v204 : BitVec 32 := Scalar.muli arg17 c512_i32_125
  let v205 : BitVec 32 := v204
  let v281 : Index := Scalar.indexCast v205
  ![1, 0, v281.toNat]
def k0_mult3 (i : grid0.Coords) : BitVec 32 :=
  let arg1 : BitVec 32 := BitVec.ofNat 32 (i 1).val
  let c512_i32 : BitVec 32 := 512#32
  let v38 : BitVec 32 := Scalar.muli arg1 c512_i32
  v38
def k0_off9 (i : grid0.Coords) : Fin 2 → Nat :=
  let arg1 : BitVec 32 := BitVec.ofNat 32 (i 1).val
  let c512_i32 : BitVec 32 := 512#32
  let v38 : BitVec 32 := Scalar.muli arg1 c512_i32
  let v39 : BitVec 32 := v38
  let v40 : Index := Scalar.indexCast v39
  let c0_29 : Index := 0#32
  ![v40.toNat, 0]
def k0_off10 (i : grid0.Coords) : Fin 3 → Nat :=
  let c0_35 : Index := 0#32
  let c0_36 : Index := 0#32
  let arg1 : BitVec 32 := BitVec.ofNat 32 (i 1).val
  let c512_i32 : BitVec 32 := 512#32
  let v38 : BitVec 32 := Scalar.muli arg1 c512_i32
  let v39 : BitVec 32 := v38
  let v47 : Index := Scalar.indexCast v39
  ![0, 0, v47.toNat]
def k0_off11 (i : grid0.Coords) : Fin 2 → Nat :=
  let arg1 : BitVec 32 := BitVec.ofNat 32 (i 1).val
  let c512_i32 : BitVec 32 := 512#32
  let v38 : BitVec 32 := Scalar.muli arg1 c512_i32
  let v39 : BitVec 32 := v38
  let v113 : Index := Scalar.indexCast v39
  let c128_66 : Index := 128#32
  ![v113.toNat, 128]
def k0_off12 (i : grid0.Coords) : Fin 3 → Nat :=
  let c1_72 : Index := 1#32
  let c0_73 : Index := 0#32
  let arg1 : BitVec 32 := BitVec.ofNat 32 (i 1).val
  let c512_i32 : BitVec 32 := 512#32
  let v38 : BitVec 32 := Scalar.muli arg1 c512_i32
  let v39 : BitVec 32 := v38
  let v120 : Index := Scalar.indexCast v39
  ![1, 0, v120.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2048x6144 : Shape := ⟨2, ![2048, 6144]⟩
abbrev S16x2048 : Shape := ⟨2, ![16, 2048]⟩
abbrev S2048x2048 : Shape := ⟨2, ![2048, 2048]⟩
abbrev S2048x16x128 : Shape := ⟨3, ![2048, 16, 128]⟩
abbrev S2048 : Shape := ⟨1, ![2048]⟩
abbrev S16x2048x2048 : Shape := ⟨3, ![16, 2048, 2048]⟩
abbrev S_ : Shape := ⟨0, ![]⟩
abbrev S16x2048x1 : Shape := ⟨3, ![16, 2048, 1]⟩
abbrev S16x1x2048 : Shape := ⟨3, ![16, 1, 2048]⟩
abbrev S2048x1 : Shape := ⟨2, ![2048, 1]⟩
abbrev S1x2048 : Shape := ⟨2, ![1, 2048]⟩
abbrev S16x128x2048 : Shape := ⟨3, ![16, 128, 2048]⟩
abbrev S16x2048x128 : Shape := ⟨3, ![16, 2048, 128]⟩

abbrev nBuf : Space → Nat
  | .hbm => 123
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S16x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x16x128, .f32⟩
  | .hbm, ⟨10, _⟩ => ⟨S2048x16x128, .f32⟩
  | .hbm, ⟨11, _⟩ => ⟨S2048x16x128, .f32⟩
  | .hbm, ⟨12, _⟩ => ⟨S2048, .i32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S16x1x2048, .f32⟩
  | .hbm, ⟨21, _⟩ => ⟨S16x2048x2048, .f32⟩
  | .hbm, ⟨22, _⟩ => ⟨S16x2048x2048, .f32⟩
  | .hbm, ⟨23, _⟩ => ⟨S2048x1, .i32⟩
  | .hbm, ⟨24, _⟩ => ⟨S1x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S16x2048x2048, .i1⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x2048x2048, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S16x2048x2048, .f32⟩
  | .hbm, ⟨39, _⟩ => ⟨S16x2048x2048, .i1⟩
  | .hbm, ⟨40, _⟩ => ⟨S16x2048x2048, .f32⟩
  | .hbm, ⟨41, _⟩ => ⟨S_, .f32⟩
  | .hbm, ⟨42, _⟩ => ⟨S16x2048, .f32⟩
  | .hbm, ⟨43, _⟩ => ⟨S_, .f32⟩
  | .hbm, ⟨44, _⟩ => ⟨S16x2048, .f32⟩
  | .hbm, ⟨45, _⟩ => ⟨S16x2048, .f32⟩
  | .hbm, ⟨46, _⟩ => ⟨S_, .f32⟩
  | .hbm, ⟨47, _⟩ => ⟨S16x2048, .f32⟩
  | .hbm, ⟨48, _⟩ => ⟨S16x2048, .i1⟩
  | .hbm, ⟨49, _⟩ => ⟨S_, .f32⟩
  | .hbm, ⟨50, _⟩ => ⟨S16x2048, .f32⟩
  | .hbm, ⟨51, _⟩ => ⟨S16x2048, .i1⟩
  | .hbm, ⟨52, _⟩ => ⟨S_, .f32⟩
  | .hbm, ⟨53, _⟩ => ⟨S16x2048, .f32⟩
  | .hbm, ⟨54, _⟩ => ⟨S_, .f32⟩
  | .hbm, ⟨55, _⟩ => ⟨S16x2048, .f32⟩
  | .hbm, ⟨56, _⟩ => ⟨S_, .f32⟩
  | .hbm, ⟨57, _⟩ => ⟨S16x2048, .f32⟩
  | .hbm, ⟨58, _⟩ => ⟨S16x2048, .f32⟩
  | .hbm, ⟨59, _⟩ => ⟨S16x2048, .f32⟩
  | .hbm, ⟨60, _⟩ => ⟨S16x2048x1, .f32⟩
  | .hbm, ⟨61, _⟩ => ⟨S16x2048x2048, .f32⟩
  | .hbm, ⟨62, _⟩ => ⟨S16x2048x2048, .f32⟩
  | .hbm, ⟨63, _⟩ => ⟨S16x2048x2048, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S16x2048x2048, .f32⟩
  | .hbm, ⟨68, _⟩ => ⟨S16x2048x2048, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x128x2048, .f32⟩
  | .hbm, ⟨74, _⟩ => ⟨S2048x16x128, .f32⟩
  | .hbm, ⟨75, _⟩ => ⟨S2048x2048, .f32⟩
  | .hbm, ⟨76, _⟩ => ⟨S2048x2048, .f32⟩
  | .hbm, ⟨77, _⟩ => ⟨S2048x16x128, .f32⟩
  | .hbm, ⟨78, _⟩ => ⟨S16x128x2048, .f32⟩
  | .hbm, ⟨79, _⟩ => ⟨S16x2048x2048, .f32⟩
  | .hbm, ⟨80, _⟩ => ⟨S16x128x2048, .f32⟩
  | .hbm, ⟨81, _⟩ => ⟨S2048x16x128, .f32⟩
  | .hbm, ⟨82, _⟩ => ⟨S16x2048x2048, .f32⟩
  | .hbm, ⟨83, _⟩ => ⟨S16x2048x2048, .f32⟩
  | .hbm, ⟨84, _⟩ => ⟨S16x2048x2048, .f32⟩
  | .hbm, ⟨85, _⟩ => ⟨S_, .f32⟩
  | .hbm, ⟨86, _⟩ => ⟨S16x2048, .f32⟩
  | .hbm, ⟨87, _⟩ => ⟨S16x2048x1, .f32⟩
  | .hbm, ⟨88, _⟩ => ⟨S16x2048x1, .f32⟩
  | .hbm, ⟨89, _⟩ => ⟨S16x2048x2048, .f32⟩
  | .hbm, ⟨90, _⟩ => ⟨S16x2048x2048, .f32⟩
  | .hbm, ⟨91, _⟩ => ⟨S_, .f32⟩
  | .hbm, ⟨92, _⟩ => ⟨S16x2048, .f32⟩
  | .hbm, ⟨93, _⟩ => ⟨S16x2048x2048, .f32⟩
  | .hbm, ⟨94, _⟩ => ⟨S16x2048x2048, .f32⟩
  | .hbm, ⟨95, _⟩ => ⟨S16x2048x2048, .f32⟩
  | .hbm, ⟨96, _⟩ => ⟨S_, .f32⟩
  | .hbm, ⟨97, _⟩ => ⟨S16x2048x2048, .f32⟩
  | .hbm, ⟨98, _⟩ => ⟨S16x2048x2048, .f32⟩
  | .hbm, ⟨99, _⟩ => ⟨S16x2048x2048, .f32⟩
  | .hbm, ⟨100, _⟩ => ⟨S_, .f32⟩
  | .hbm, ⟨101, _⟩ => ⟨S16x2048, .f32⟩
  | .hbm, ⟨102, _⟩ => ⟨S16x1x2048, .f32⟩
  | .hbm, ⟨103, _⟩ => ⟨S_, .f32⟩
  | .hbm, ⟨104, _⟩ => ⟨S16x2048, .f32⟩
  | .hbm, ⟨105, _⟩ => ⟨S_, .f32⟩
  | .hbm, ⟨106, _⟩ => ⟨S16x2048, .f32⟩
  | .hbm, ⟨107, _⟩ => ⟨S16x2048x1, .f32⟩
  | .hbm, ⟨108, _⟩ => ⟨S_, .f32⟩
  | .hbm, ⟨109, _⟩ => ⟨S16x2048, .f32⟩
  | .hbm, ⟨110, _⟩ => ⟨S_, .f32⟩
  | .hbm, ⟨111, _⟩ => ⟨S16x2048x2048, .f32⟩
  | .hbm, ⟨112, _⟩ => ⟨S16x2048x2048, .f32⟩
  | .hbm, ⟨113, _⟩ => ⟨S16x2048x128, .f32⟩
  | .hbm, ⟨114, _⟩ => ⟨S2048x16x128, .f32⟩
  | .hbm, ⟨115, _⟩ => ⟨S16x2048x128, .f32⟩
  | .hbm, ⟨116, _⟩ => ⟨S2048x16x128, .f32⟩
  | .hbm, ⟨117, _⟩ => ⟨S2048x2048, .f32⟩
  | .hbm, ⟨118, _⟩ => ⟨S2048x2048, .f32⟩
  | .hbm, ⟨119, _⟩ => ⟨S2048x2048, .f32⟩
  | .hbm, ⟨120, _⟩ => ⟨S2048x2048, .bf16⟩
  | .hbm, ⟨121, _⟩ => ⟨S16x1x2048, .f32⟩
  | .hbm, ⟨122, _⟩ => ⟨S16x2048x1, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_v24_1 : Ref sig .tc := ⟨.hbm, 30, rfl⟩
abbrev main_call0_v2 : Ref sig .tc := ⟨.hbm, 31, rfl⟩
abbrev main_v24_0 : Ref sig .tc := ⟨.hbm, 32, rfl⟩
abbrev main_call0_cst : Ref sig .tc := ⟨.hbm, 33, rfl⟩
abbrev main_v24_2 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_cst : Ref sig .tc := ⟨.hbm, 96, rfl⟩
abbrev main_call1_v0 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_cst_16 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩

abbrev nD : Nat := 1
abbrev τ : Topo := Topo.v7x

variable {F : FTy → Type} [FloatOps F]
-- ==== Kernel2.lean ====
abbrev S2048x2048 : Shape := ⟨2, ![2048, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩
abbrev S512x5632 : Shape := ⟨2, ![512, 5632]⟩
abbrev S1x5632x512 : Shape := ⟨3, ![1, 5632, 512]⟩
abbrev S5632x512 : Shape := ⟨2, ![5632, 512]⟩
abbrev S1x512x2048 : Shape := ⟨3, ![1, 512, 2048]⟩
abbrev S5632x2048 : Shape := ⟨2, ![5632, 2048]⟩
abbrev S1x256x5632 : Shape := ⟨3, ![1, 256, 5632]⟩
abbrev S512x256 : Shape := ⟨2, ![512, 256]⟩
abbrev S256x5632 : Shape := ⟨2, ![256, 5632]⟩

abbrev nBuf : Space → Nat
  | .hbm => 15
  | .vmem => 60
  | .smem => 0
  | _ => 0

abbrev bufTy : (tb : Table) → Fin (tcTables nBuf tb) → BufTy
  | .hbm, ⟨0, _⟩ => ⟨S2048x2048, .bf16⟩
  | .hbm, ⟨1, _⟩ => ⟨S1x2048x5632, .bf16⟩
  | .hbm, ⟨2, _⟩ => ⟨S1x2048x5632, .bf16⟩
  | .hbm, ⟨3, _⟩ => ⟨S1x5632x2048, .bf16⟩
  | .hbm, ⟨4, _⟩ => ⟨S2048x2048, .bf16⟩
  | .hbm, ⟨5, _⟩ => ⟨S2048x5632, .bf16⟩
  | .hbm, ⟨6, _⟩ => ⟨S2048x5632, .bf16⟩
  | .hbm, ⟨7, _⟩ => ⟨S2048x5632, .bf16⟩
  | .hbm, ⟨8, _⟩ => ⟨S2048x2048, .f32⟩
  | .hbm, ⟨9, _⟩ => ⟨S2048x5632, .bf16⟩
  | .hbm, ⟨10, _⟩ => ⟨S2048x5632, .bf16⟩
  | .hbm, ⟨11, _⟩ => ⟨S5632x2048, .bf16⟩
  | .hbm, ⟨12, _⟩ => ⟨S2048x5632, .bf16⟩
  | .hbm, ⟨13, _⟩ => ⟨S2048x5632, .bf16⟩
  | .hbm, ⟨14, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S512x2048, .bf16⟩
  | .local _ .vmem, ⟨5, _⟩ => ⟨S512x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x5632, .bf16⟩
  | .local _ .vmem, ⟨15, _⟩ => ⟨S512x5632, .bf16⟩
  | .local _ .vmem, ⟨16, _⟩ => ⟨S1x5632x512, .bf16⟩
  | .local _ .vmem, ⟨17, _⟩ => ⟨S1x5632x512, .bf16⟩
  | .local _ .vmem, ⟨18, _⟩ => ⟨S512x512, .f32⟩
  | .local _ .vmem, ⟨19, _⟩ => ⟨S512x512, .f32⟩
  | .local _ .vmem, ⟨20, _⟩ => ⟨S512x2048, .bf16⟩
  | .local _ .vmem, ⟨21, _⟩ => ⟨S512x2048, .bf16⟩
  | .local _ .vmem, ⟨22, _⟩ => ⟨S1x512x2048, .bf16⟩
  | .local _ .vmem, ⟨23, _⟩ => ⟨S1x512x2048, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S2048x512, .bf16⟩
  | .local _ .vmem, ⟨33, _⟩ => ⟨S2048x512, .bf16⟩
  | .local _ .vmem, ⟨34, _⟩ => ⟨S2048x512, .bf16⟩
  | .local _ .vmem, ⟨35, _⟩ => ⟨S2048x512, .bf16⟩
  | .local _ .vmem, ⟨36, _⟩ => ⟨S512x512, .bf16⟩
  | .local _ .vmem, ⟨37, _⟩ => ⟨S512x512, .bf16⟩
  | .local _ .vmem, ⟨38, _⟩ => ⟨S2048x512, .bf16⟩
  | .local _ .vmem, ⟨39, _⟩ => ⟨S2048x512, .bf16⟩
  | .local _ .vmem, ⟨40, _⟩ => ⟨S2048x512, .bf16⟩
  | .local _ .vmem, ⟨41, _⟩ => ⟨S2048x512, .bf16⟩
  | .local _ .vmem, ⟨42, _⟩ => ⟨S2048x512, .bf16⟩
  | .local _ .vmem, ⟨43, _⟩ => ⟨S2048x512, .bf16⟩
  | .local _ .vmem, ⟨44, _⟩ => ⟨S2048x512, .bf16⟩
  | .local _ .vmem, ⟨45, _⟩ => ⟨S2048x512, .bf16⟩
  | .local _ .vmem, ⟨46, _⟩ => ⟨S512x512, .bf16⟩
  | .local _ .vmem, ⟨47, _⟩ => ⟨S512x512, .bf16⟩
  | .local _ .vmem, ⟨48, _⟩ => ⟨S512x512, .bf16⟩
  | .local _ .vmem, ⟨49, _⟩ => ⟨S512x512, .bf16⟩
  | .local _ .vmem, ⟨50, _⟩ => ⟨S512x5632, .bf16⟩
  | .local _ .vmem, ⟨51, _⟩ => ⟨S512x5632, .bf16⟩
  | .local _ .vmem, ⟨52, _⟩ => ⟨S1x256x5632, .bf16⟩
  | .local _ .vmem, ⟨53, _⟩ => ⟨S1x256x5632, .bf16⟩
  | .local _ .vmem, ⟨54, _⟩ => ⟨S512x5632, .bf16⟩
  | .local _ .vmem, ⟨55, _⟩ => ⟨S512x5632, .bf16⟩
  | .local _ .vmem, ⟨56, _⟩ => ⟨S1x256x5632, .bf16⟩
  | .local _ .vmem, ⟨57, _⟩ => ⟨S1x256x5632, .bf16⟩
  | .local _ .vmem, ⟨58, _⟩ => ⟨S512x256, .f32⟩
  | .local _ .vmem, ⟨59, _⟩ => ⟨S512x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg3_1 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg5_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg3_1 : Ref sig .tc := ⟨.vmem, 57, rfl⟩
abbrev cc5_stg4_0 : Ref sig .tc := ⟨.vmem, 58, rfl⟩
abbrev cc5_stg4_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem3_1 : DmaSem sig := 45
abbrev cc4_sem4_0 : DmaSem sig := 46
abbrev cc4_sem4_1 : DmaSem sig := 47
abbrev cc4_sem5_0 : DmaSem sig := 48
abbrev cc4_sem5_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem3_1 : DmaSem sig := 57
abbrev cc5_sem4_0 : DmaSem sig := 58
abbrev cc5_sem4_1 : DmaSem sig := 59

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x5632x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, v0.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![11, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 11], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S2048x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S512x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S512x512 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨2, ![4, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, v0.toNat, c0_i32_1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, v0.toNat, c0_i32_1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x5632 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1x256x5632 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x5632 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1x256x5632 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S512x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]
-- ==== Reference2Ideal.lean ====
abbrev S2048x2048 : Shape := ⟨2, ![2048, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x5632, .bf16⟩
  | .hbm, ⟨2, _⟩ => ⟨S1x2048x5632, .bf16⟩
  | .hbm, ⟨3, _⟩ => ⟨S1x5632x2048, .bf16⟩
  | .hbm, ⟨4, _⟩ => ⟨S2048x2048, .bf16⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S2048x2048, .f32⟩
  | .hbm, ⟨9, _⟩ => ⟨S2048x5632, .f32⟩
  | .hbm, ⟨10, _⟩ => ⟨S2048x5632, .f32⟩
  | .hbm, ⟨11, _⟩ => ⟨S5632x2048, .f32⟩
  | .hbm, ⟨12, _⟩ => ⟨S2048x2048, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S2048x5632, .f32⟩
  | .hbm, ⟨21, _⟩ => ⟨S2048x5632, .f32⟩
  | .hbm, ⟨22, _⟩ => ⟨S_, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x2048, .f32⟩
  | .hbm, ⟨30, _⟩ => ⟨S2048x5632, .f32⟩
  | .hbm, ⟨31, _⟩ => ⟨S5632x2048, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S5632x2048, .f32⟩
  | .hbm, ⟨36, _⟩ => ⟨S2048x5632, .f32⟩
  | .hbm, ⟨37, _⟩ => ⟨S2048x2048, .f32⟩
  | .hbm, ⟨38, _⟩ => ⟨S2048x5632, .f32⟩
  | .hbm, ⟨39, _⟩ => ⟨S2048x5632, .f32⟩
  | .hbm, ⟨40, _⟩ => ⟨S2048x5632, .f32⟩
  | .hbm, ⟨41, _⟩ => ⟨S2048x5632, .f32⟩
  | .hbm, ⟨42, _⟩ => ⟨S5632x2048, .f32⟩
  | .hbm, ⟨43, _⟩ => ⟨S2048x5632, .f32⟩
  | .hbm, ⟨44, _⟩ => ⟨S2048x2048, .f32⟩
  | .hbm, ⟨45, _⟩ => ⟨S2048x2048, .f32⟩
  | .hbm, ⟨46, _⟩ => ⟨S2048x5632, .bf16⟩
  | .hbm, ⟨47, _⟩ => ⟨S2048x5632, .bf16⟩
  | .hbm, ⟨48, _⟩ => ⟨S5632x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v9_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v9_1 : Ref sig .tc := ⟨.hbm, 25, rfl⟩
abbrev main_v9_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== Kernel3.lean ====
abbrev S2048x2048 : Shape := ⟨2, ![2048, 2048]⟩
abbrev S1x2048x6272 : Shape := ⟨3, ![1, 2048, 6272]⟩
abbrev S2048x6272 : Shape := ⟨2, ![2048, 6272]⟩
abbrev S1x2048x2048 : Shape := ⟨3, ![1, 2048, 2048]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩
abbrev S1x512x2048 : Shape := ⟨3, ![1, 512, 2048]⟩
abbrev S2048x896 : Shape := ⟨2, ![2048, 896]⟩
abbrev S512x896 : Shape := ⟨2, ![512, 896]⟩
abbrev S512x6272 : Shape := ⟨2, ![512, 6272]⟩
abbrev S1x256x6272 : Shape := ⟨3, ![1, 256, 6272]⟩
abbrev S512x256 : Shape := ⟨2, ![512, 256]⟩
abbrev S256x6272 : Shape := ⟨2, ![256, 6272]⟩

abbrev nBuf : Space → Nat
  | .hbm => 11
  | .vmem => 30
  | .smem => 0
  | _ => 0

abbrev bufTy : (tb : Table) → Fin (tcTables nBuf tb) → BufTy
  | .hbm, ⟨0, _⟩ => ⟨S2048x2048, .bf16⟩
  | .hbm, ⟨1, _⟩ => ⟨S1x2048x6272, .bf16⟩
  | .hbm, ⟨2, _⟩ => ⟨S2048x6272, .bf16⟩
  | .hbm, ⟨3, _⟩ => ⟨S2048x2048, .bf16⟩
  | .hbm, ⟨4, _⟩ => ⟨S1x2048x2048, .bf16⟩
  | .hbm, ⟨5, _⟩ => ⟨S2048x2048, .bf16⟩
  | .hbm, ⟨6, _⟩ => ⟨S2048x2048, .f32⟩
  | .hbm, ⟨7, _⟩ => ⟨S2048x2048, .bf16⟩
  | .hbm, ⟨8, _⟩ => ⟨S2048x2048, .bf16⟩
  | .hbm, ⟨9, _⟩ => ⟨S2048x6272, .bf16⟩
  | .hbm, ⟨10, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S1x512x2048, .bf16⟩
  | .local _ .vmem, ⟨9, _⟩ => ⟨S1x512x2048, .bf16⟩
  | .local _ .vmem, ⟨10, _⟩ => ⟨S512x512, .bf16⟩
  | .local _ .vmem, ⟨11, _⟩ => ⟨S512x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S512x512, .bf16⟩
  | .local _ .vmem, ⟨17, _⟩ => ⟨S512x512, .bf16⟩
  | .local _ .vmem, ⟨18, _⟩ => ⟨S2048x512, .bf16⟩
  | .local _ .vmem, ⟨19, _⟩ => ⟨S2048x512, .bf16⟩
  | .local _ .vmem, ⟨20, _⟩ => ⟨S2048x896, .bf16⟩
  | .local _ .vmem, ⟨21, _⟩ => ⟨S2048x896, .bf16⟩
  | .local _ .vmem, ⟨22, _⟩ => ⟨S512x896, .bf16⟩
  | .local _ .vmem, ⟨23, _⟩ => ⟨S512x896, .bf16⟩
  | .local _ .vmem, ⟨24, _⟩ => ⟨S512x6272, .bf16⟩
  | .local _ .vmem, ⟨25, _⟩ => ⟨S512x6272, .bf16⟩
  | .local _ .vmem, ⟨26, _⟩ => ⟨S1x256x6272, .bf16⟩
  | .local _ .vmem, ⟨27, _⟩ => ⟨S1x256x6272, .bf16⟩
  | .local _ .vmem, ⟨28, _⟩ => ⟨S512x256, .f32⟩
  | .local _ .vmem, ⟨29, _⟩ => ⟨S512x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, v0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 7], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x896 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x896 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, v0.toNat, c0_i32_1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x6272 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x256x6272 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== Reference3Ideal.lean ====
abbrev S2048x2048 : Shape := ⟨2, ![2048, 2048]⟩
abbrev S1x2048x6272 : Shape := ⟨3, ![1, 2048, 6272]⟩
abbrev S2048x6272 : Shape := ⟨2, ![2048, 6272]⟩
abbrev S1x2048x2048 : Shape := ⟨3, ![1, 2048, 2048]⟩
abbrev S6272x2048 : Shape := ⟨2, ![6272, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x6272, .bf16⟩
  | .hbm, ⟨2, _⟩ => ⟨S2048x6272, .bf16⟩
  | .hbm, ⟨3, _⟩ => ⟨S2048x2048, .bf16⟩
  | .hbm, ⟨4, _⟩ => ⟨S1x2048x2048, .bf16⟩
  | .hbm, ⟨5, _⟩ => ⟨S2048x2048, .bf16⟩
  | .hbm, ⟨6, _⟩ => ⟨S2048x6272, .bf16⟩
  | .hbm, ⟨7, _⟩ => ⟨S2048x2048, .bf16⟩
  | .hbm, ⟨8, _⟩ => ⟨S2048x2048, .f32⟩
  | .hbm, ⟨9, _⟩ => ⟨S2048x6272, .f32⟩
  | .hbm, ⟨10, _⟩ => ⟨S2048x6272, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x6272, .f32⟩
  | .hbm, ⟨15, _⟩ => ⟨S2048x2048, .f32⟩
  | .hbm, ⟨16, _⟩ => ⟨S6272x2048, .f32⟩
  | .hbm, ⟨17, _⟩ => ⟨S2048x6272, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .bf16⟩
  | .hbm, ⟨23, _⟩ => ⟨S2048x2048, .bf16⟩
  | .hbm, ⟨24, _⟩ => ⟨S2048x6272, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Spec.lean ====
/- The gradients of causal attention with a forget gate, over the real numbers: what both programs compute.

   For head `h`, query row `i` and key row `j`: the score `s = a · ⟨q_i, k_j⟩ + u_i - u_j`, the weights
   `p = exp s / Σ_j exp s` over `j ≤ i`, the output `Σ_j p v_j`; and for the output's cotangent `g`
   the derivatives of `Σ ⟨g, output⟩` by `q`, `k`, `v` and by the two places where `u` enters. -/
module

public import Idealize.ShloMosaic.PureOps.Ideal
public import Idealize.ShloMosaic.PureOps.Ideal.Laws

@[expose] public section

noncomputable section

namespace Cert.Fox

open Idealize.ShloMosaic

/-- The scores' factor: the f32 constant `128^(-1/2)` of the programs, as a real number. -/
def factor : ℝ := (Ideal.ofBits .f32 0x3DB504F3#32).toReal

/-- The arguments, as real numbers: `q`, `k`, `v` and the cotangent `g` by head, row and channel; the gate's
    cumulative sum `u` by head and row. -/
structure Data where
  q : Fin 16 → Fin 2048 → Fin 128 → ℝ
  k : Fin 16 → Fin 2048 → Fin 128 → ℝ
  v : Fin 16 → Fin 2048 → Fin 128 → ℝ
  g : Fin 16 → Fin 2048 → Fin 128 → ℝ
  u : Fin 16 → Fin 2048 → ℝ

namespace Data

variable (D : Data) (h : Fin 16) (i j : Fin 2048) (d : Fin 128)

/-- The score of query row `i` against key row `j`. -/
def s : ℝ := (∑ d, D.q h i d * D.k h j d) * factor + D.u h i - D.u h j

/-- The weight before the softmax's division: zero past the diagonal. -/
def w : ℝ := if j ≤ i then Real.exp (D.s h i j) else 0

/-- The softmax's divisor. -/
def z : ℝ := ∑ j, D.w h i j

/-- The softmax's weight. -/
def p : ℝ := D.w h i j / D.z h i

/-- The attention's output. -/
def out : ℝ := ∑ j, D.p h i j * D.v h j d

/-- The weight's derivative. -/
def dp : ℝ := ∑ d, D.g h i d * D.v h j d

/-- The sum that the softmax's derivative takes off each row. -/
def delta : ℝ := ∑ d, D.g h i d * D.out h i d

/-- The score's derivative. -/
def ds : ℝ := D.p h i j * (D.dp h i j - D.delta h i)

def dq : ℝ := ∑ j, D.ds h i j * factor * D.k h j d
def dk : ℝ := ∑ i, D.ds h i j * factor * D.q h i d
def dv : ℝ := ∑ i, D.p h i j * D.g h i d
/-- The derivative by `u` where it is subtracted, at the key's row. -/
def dck : ℝ := -∑ i, D.ds h i j
/-- The derivative by `u` where it is added, at the query's row. -/
def dcq : ℝ := ∑ j, D.ds h i j

theorem w_nonneg : 0 ≤ D.w h i j := by
  unfold w; split
  · exact (Real.exp_pos _).le
  · exact le_rfl

theorem z_pos : 0 < D.z h i :=
  lt_of_lt_of_le (by unfold w; rw [if_pos le_rfl]; exact Real.exp_pos _ : 0 < D.w h i i)
    (Finset.single_le_sum (f := fun j => D.w h i j) (fun j _ => D.w_nonneg h i j) (Finset.mem_univ i))

/-- Past the diagonal a weight is zero. -/
theorem p_of_lt (hij : i < j) : D.p h i j = 0 := by
  unfold p w; rw [if_neg (not_le.mpr hij), zero_div]

theorem ds_of_lt (hij : i < j) : D.ds h i j = 0 := by
  unfold ds; rw [D.p_of_lt h i j hij, zero_mul]

/-- The row's sum of `g · output` is the row's sum of `p · dp`. -/
theorem delta_eq : D.delta h i = ∑ j, D.p h i j * D.dp h i j := by
  unfold delta out dp
  simp only [Finset.mul_sum]
  rw [Finset.sum_comm]
  exact Finset.sum_congr rfl fun j _ => Finset.sum_congr rfl fun d _ => by ring

/-- A weight from the logarithm of the divisor, at any shift `c` of the scores. -/
theorem p_eq_exp (c : ℝ) (hij : j ≤ i) :
    D.p h i j = Real.exp (D.s h i j - (c + Real.log (D.z h i * Real.exp (-c)))) := by
  have hz := D.z_pos h i
  rw [Real.log_mul hz.ne' (Real.exp_pos _).ne', Real.log_exp,
    show D.s h i j - (c + (Real.log (D.z h i) + -c)) = D.s h i j - Real.log (D.z h i) by ring, Real.exp_sub,
    Real.exp_log hz]
  unfold p w; rw [if_pos hij]

end Data

/-- A sum of real numbers, as an extended real. -/
theorem coe_sum {ι : Type} (t : Finset ι) (f : ι → ℝ) : ((∑ x ∈ t, f x : ℝ) : EReal) = ∑ x ∈ t, (f x : EReal) := by
  classical
  induction t using Finset.induction_on with
  | empty => simp
  | insert a t ha ih => rw [Finset.sum_insert ha, Finset.sum_insert ha, EReal.coe_add, ih]

end Cert.Fox

end
-- ==== Proof.Reference.lean ====
/- The reference's five results at an index, where its arguments are real numbers: the gradients of Spec.lean. -/
module

public import proofs.«01_k».proof.Proof.Spec
public import proofs.«01_k».proof.Proof.Gen.ReferenceIdeal.Read
public import Idealize.ShloMosaic.Lib.IdealHost
public import Idealize.ShloMosaic.Lib.WordCmp

@[expose] public section

noncomputable section

namespace Cert.Fox

open Idealize.ShloMosaic Idealize.ShloMosaic.ValueIdx Cert.ReferenceIdeal Cert.ReferenceIdeal.Read

/-- Channel `d` of head `h` among the 2048 columns of a row. -/
def col (h : Fin 16) (d : Fin 128) : Fin 2048 := ⟨128 * h.val + d.val, by omega⟩

/-- The same column in the `n`-th third of the packed argument's 6144. -/
def col3 (n : Fin 3) (h : Fin 16) (d : Fin 128) : Fin 6144 := ⟨2048 * n.val + (128 * h.val + d.val), by omega⟩

/-- The argument arrays hold the real numbers of `D`. -/
structure Reads (D : Data) (x0 : S2048x6144.Idx → EReal) (x1 : S16x2048.Idx → EReal) (x2 : S2048x2048.Idx → EReal) : Prop where
  q : ∀ h i d, x0 (ix2 i (col3 0 h d)) = (D.q h i d : EReal)
  k : ∀ h i d, x0 (ix2 i (col3 1 h d)) = (D.k h i d : EReal)
  v : ∀ h i d, x0 (ix2 i (col3 2 h d)) = (D.v h i d : EReal)
  u : ∀ h i, x1 (ix2 h i) = (D.u h i : EReal)
  g : ∀ h i d, x2 (ix2 i (col h d)) = (D.g h i d : EReal)

/-- The factor's constant is the real number `factor`. -/
theorem ofBits_factor : Ideal.ofBits .f32 0x3DB504F3#32 = (factor : EReal) := by
  unfold factor
  refine (EReal.coe_toReal ?_ ?_).symm <;>
    simp [Ideal.ofBits, Ideal.ieee, -EReal.coe_mul]

theorem ofBits_negInf : Ideal.ofBits .f32 0xFF800000#32 = ⊥ := by simp [Ideal.ofBits, Ideal.ieee]

/-- A function at an index of two coordinates. -/
theorem at2 {n0 n1 : Nat} {β : Type} (f : (⟨2, ![n0, n1]⟩ : Shape).Idx → β) (j : (⟨2, ![n0, n1]⟩ : Shape).Idx) (a : Fin n0) (b : Fin n1)
    (h0 : (j 0).val = a.val) (h1 : (j 1).val = b.val) : f j = f (ix2 a b) :=
  congrArg f (funext fun x => Fin.ext (by match x with | ⟨0, _⟩ => exact h0 | ⟨1, _⟩ => exact h1))

/-- A function at an index of three coordinates. -/
theorem at3 {n0 n1 n2 : Nat} {β : Type} (f : (⟨3, ![n0, n1, n2]⟩ : Shape).Idx → β) (j : (⟨3, ![n0, n1, n2]⟩ : Shape).Idx) (a : Fin n0) (b : Fin n1)
    (c : Fin n2) (h0 : (j 0).val = a.val) (h1 : (j 1).val = b.val) (h2 : (j 2).val = c.val) : f j = f (ix3 a b c) :=
  congrArg f (funext fun x => Fin.ext (by match x with | ⟨0, _⟩ => exact h0 | ⟨1, _⟩ => exact h1 | ⟨2, _⟩ => exact h2))

namespace Ref

variable {D : Data} {x0 : S2048x6144.Idx → EReal} {x1 : S16x2048.Idx → EReal} {x2 : S2048x2048.Idx → EReal}

theorem v6 (R : Reads D x0 x1 x2) (h : Fin 16) (i : Fin 2048) (d : Fin 128) : val_main_v6 (F := Ideal) x0 (ix3 i h d) = (D.q h i d : EReal) := by
  rw [val_main_v6_apply, val_main_v1_apply, val_main_v0_apply, Ideal.extf_def, ← R.q]
  refine congrArg x0 (funext fun a => Fin.ext ?_)
  match a with
  | ⟨0, _⟩ => show ((i.val * 16 + h.val) * 128 + d.val) / 2048 = i.val; omega
  | ⟨1, _⟩ => show ((i.val * 16 + h.val) * 128 + d.val) % 2048 = 2048 * 0 + (128 * h.val + d.val); omega

theorem v7 (R : Reads D x0 x1 x2) (h : Fin 16) (i : Fin 2048) (d : Fin 128) : val_main_v7 (F := Ideal) x0 (ix3 i h d) = (D.k h i d : EReal) := by
  rw [val_main_v7_apply, val_main_v3_apply, val_main_v2_apply, Ideal.extf_def, ← R.k]
  refine congrArg x0 (funext fun a => Fin.ext ?_)
  match a with
  | ⟨0, _⟩ => show ((i.val * 16 + h.val) * 128 + d.val) / 2048 = i.val; omega
  | ⟨1, _⟩ => show 2048 + ((i.val * 16 + h.val) * 128 + d.val) % 2048 = 2048 * 1 + (128 * h.val + d.val); omega

theorem v8 (R : Reads D x0 x1 x2) (h : Fin 16) (i : Fin 2048) (d : Fin 128) : val_main_v8 (F := Ideal) x0 (ix3 i h d) = (D.v h i d : EReal) := by
  rw [val_main_v8_apply, val_main_v5_apply, val_main_v4_apply, Ideal.extf_def, ← R.v]
  refine congrArg x0 (funext fun a => Fin.ext ?_)
  match a with
  | ⟨0, _⟩ => show ((i.val * 16 + h.val) * 128 + d.val) / 2048 = i.val; omega
  | ⟨1, _⟩ => show 4096 + ((i.val * 16 + h.val) * 128 + d.val) % 2048 = 2048 * 2 + (128 * h.val + d.val); omega

theorem v57 (R : Reads D x0 x1 x2) (h : Fin 16) (i : Fin 2048) (d : Fin 128) : val_main_v57 (F := Ideal) x2 (ix3 i h d) = (D.g h i d : EReal) := by
  rw [val_main_v57_apply, val_main_v56_apply, Ideal.extf_def, ← R.g]
  refine congrArg x2 (funext fun a => Fin.ext ?_)
  match a with
  | ⟨0, _⟩ => show ((i.val * 16 + h.val) * 128 + d.val) / 2048 = i.val; omega
  | ⟨1, _⟩ => show ((i.val * 16 + h.val) * 128 + d.val) % 2048 = 128 * h.val + d.val; omega

/-- The unmasked scores. -/
theorem v18 (R : Reads D x0 x1 x2) (h : Fin 16) (i j : Fin 2048) : val_main_v18 (F := Ideal) x0 x1 (ix3 h i j) = (D.s h i j : EReal) := by
  have e10 : val_main_v10 (F := Ideal) x0 (ix3 h i j) = ((∑ d, D.q h i d * D.k h j d : ℝ) : EReal) := by
    rw [val_main_v10_apply, coe_sum]
    refine Finset.sum_congr rfl fun d _ => ?_
    rw [EReal.coe_mul, ← v6 R, ← v7 R]; rfl
  have e14 : val_main_v14 (F := Ideal) x1 (ix3 h i j) = (D.u h i : EReal) := by
    rw [val_main_v14_apply, val_main_v13_apply, ← R.u]
    refine congrArg x1 (funext fun a => Fin.ext ?_)
    match a with
    | ⟨0, _⟩ => show _ = h.val; simp
    | ⟨1, _⟩ => show _ = i.val; simp
  have e17 : val_main_v17 (F := Ideal) x1 (ix3 h i j) = (D.u h j : EReal) := by
    rw [val_main_v17_apply, val_main_v16_apply, ← R.u]
    refine congrArg x1 (funext fun a => Fin.ext ?_)
    match a with
    | ⟨0, _⟩ => show _ = h.val; simp
    | ⟨1, _⟩ => show _ = j.val; simp
  rw [val_main_v18_apply, val_main_v15_apply, val_main_v12_apply, val_main_v11_apply, val_main_cst_apply, e10, e14, e17]
  show ((∑ d, D.q h i d * D.k h j d : ℝ) : EReal) * Ideal.ofBits .f32 0x3DB504F3#32 + _ - _ = _
  rw [ofBits_factor, Data.s, EReal.coe_sub, EReal.coe_add, EReal.coe_mul]

/-- The mask's bit. -/
theorem v24_1 (h : Fin 16) (i j : Fin 2048) : val_main_v24_1 (F := Ideal) (ix3 h i j) = if j ≤ i then 1#1 else 0#1 := by
  rw [val_main_v24_1_apply, val_main_v23_apply, val_main_v21_apply, val_main_v22_apply, val_main_v19_apply, val_main_v20_apply,
    val_main_v9_apply, val_main_v9_apply]
  show IntOp.cmpi .sge (BitVec.ofNat 32 i.val) (BitVec.ofNat 32 j.val) = _
  rw [WordCmp.cmpi_sge_ofNat (by omega) (by omega)]
  by_cases hij : j ≤ i
  · rw [if_pos hij, decide_eq_true (show j.val ≤ i.val from hij)]; rfl
  · rw [if_neg hij, decide_eq_false (show ¬j.val ≤ i.val from hij)]; rfl

/-- The masked scores. -/
theorem v24_0 (R : Reads D x0 x1 x2) (h : Fin 16) (i j : Fin 2048) :
    val_main_v24_0 (F := Ideal) x0 x1 (ix3 h i j) = if j ≤ i then (D.s h i j : EReal) else ⊥ := by
  rw [val_main_v24_0_apply, v24_1, v18 R, val_main_call0_v2_apply, val_main_call0_v0_apply, val_main_cst_0_apply]
  split
  · rfl
  · exact ofBits_negInf

/-- The row's largest score is a real number. -/
theorem v32 (R : Reads D x0 x1 x2) (h : Fin 16) (i : Fin 2048) : ∃ c : ℝ, val_main_v32 (F := Ideal) x0 x1 (ix2 h i) = (c : EReal) := by
  have e : val_main_v25 (F := Ideal) x0 x1 (ix2 h i)
      = Finset.univ.fold max (⊥ : EReal) (fun j => if j ≤ i then (D.s h i j : EReal) else ⊥) := by
    unfold val_main_v25
    rw [Host.reduce_eq_fold_single FloatOps.maximumf _ _ _ (by decide : S16x2048x2048.Reduces [2] S16x2048)]
    show Finset.univ.fold max (Ideal.ofBits .f32 0xFF800000#32) _ = _
    rw [ofBits_negInf]
    refine congrArg (fun f => Finset.fold max (⊥ : EReal) f Finset.univ) (funext fun j => ?_)
    rw [← v24_0 R h i j]
    refine congrArg (val_main_v24_0 (F := Ideal) x0 x1) (funext fun a => Fin.ext ?_)
    match a with
    | ⟨0, _⟩ => rfl
    | ⟨1, _⟩ => rfl
    | ⟨2, _⟩ => rfl
  have hlo : (⊥ : EReal) < val_main_v25 (F := Ideal) x0 x1 (ix2 h i) := by
    rw [e, Finset.lt_fold_max]
    exact Or.inr ⟨i, Finset.mem_univ _, by rw [if_pos le_rfl]; exact EReal.bot_lt_coe _⟩
  have hhi : val_main_v25 (F := Ideal) x0 x1 (ix2 h i) < (⊤ : EReal) := by
    rw [e, Finset.fold_max_lt]
    refine ⟨bot_lt_top, fun j _ => ?_⟩
    split
    · exact EReal.coe_lt_top _
    · exact bot_lt_top
  rw [val_main_v32_apply, val_main_v31_apply, val_main_cst_3_apply]
  refine ⟨(val_main_v25 (F := Ideal) x0 x1 (ix2 h i)).toReal, ?_⟩
  show max (Ideal.ofBits .f32 0xFF800000#32) _ = _
  rw [ofBits_negInf, max_eq_right bot_le, EReal.coe_toReal hhi.ne hlo.ne']

/-- The exponentials, at the row's shift `c`: the weights times `exp (-c)`. -/
theorem v45 (R : Reads D x0 x1 x2) (h : Fin 16) (i : Fin 2048) {c : ℝ} (hc : val_main_v32 (F := Ideal) x0 x1 (ix2 h i) = (c : EReal))
    (j : Fin 2048) : val_main_v45 (F := Ideal) x0 x1 (ix3 h i j) = ((D.w h i j * Real.exp (-c) : ℝ) : EReal) := by
  have e43 : val_main_v43 (F := Ideal) x0 x1 (ix3 h i j) = (c : EReal) := by
    rw [val_main_v43_apply, val_main_v42_apply, ← hc]
    refine at2 _ _ _ _ ?_ ?_
    · show _ = h.val; simp
    · show _ = i.val; simp
  rw [val_main_v45_apply, val_main_v44_apply, v24_0 R, e43]
  show Ideal.exp ((if j ≤ i then (D.s h i j : EReal) else ⊥) - (c : EReal)) = _
  unfold Data.w
  split
  · rw [← EReal.coe_sub, Ideal.exp_coe, sub_eq_add_neg, Real.exp_add]
  · rw [zero_mul, sub_eq_add_neg, EReal.bot_add]; rfl

/-- The divisor, at the shift `c`. -/
theorem v46 (R : Reads D x0 x1 x2) (h : Fin 16) (i : Fin 2048) {c : ℝ} (hc : val_main_v32 (F := Ideal) x0 x1 (ix2 h i) = (c : EReal)) :
    val_main_v46 (F := Ideal) x0 x1 (ix2 h i) = ((D.z h i * Real.exp (-c) : ℝ) : EReal) := by
  rw [val_main_v46_apply]
  show Ideal.ofBits .f32 0x00000000#32 + _ = _
  rw [Ideal.ofBits_zero_f32, zero_add, Data.z, Finset.sum_mul, coe_sum]
  exact Finset.sum_congr rfl fun j _ => (at3 _ _ h i j rfl rfl rfl).trans (v45 R h i hc j)

theorem v47 (R : Reads D x0 x1 x2) (h : Fin 16) (i : Fin 2048) {c : ℝ} (hc : val_main_v32 (F := Ideal) x0 x1 (ix2 h i) = (c : EReal)) (o : Fin 1) :
    val_main_v47 (F := Ideal) x0 x1 (ix3 h i o) = ((D.z h i * Real.exp (-c) : ℝ) : EReal) := by
  rw [val_main_v47_apply, ← v46 R h i hc]
  refine at2 _ _ _ _ ?_ ?_
  · show _ = h.val; simp
  · show _ = i.val; simp

/-- A product over a divisor that is not zero, as real numbers. -/
theorem div_coe_coe {x y : ℝ} (hy : y ≠ 0) : Ideal.div (x : EReal) (y : EReal) = ((x / y : ℝ) : EReal) := by
  rw [Ideal.div_coe hy, ← EReal.coe_mul, mul_one_div]

theorem zc_ne (D : Data) (h : Fin 16) (i : Fin 2048) (c : ℝ) : D.z h i * Real.exp (-c) ≠ 0 :=
  mul_ne_zero (D.z_pos h i).ne' (Real.exp_pos _).ne'

/-- The softmax's weights. -/
theorem v49 (R : Reads D x0 x1 x2) (h : Fin 16) (i j : Fin 2048) :
    val_main_v49 (F := Ideal) x0 x1 (ix3 h i j) = (D.p h i j : EReal) := by
  obtain ⟨c, hc⟩ := v32 R h i
  have e48 : val_main_v48 (F := Ideal) x0 x1 (ix3 h i j) = ((D.z h i * Real.exp (-c) : ℝ) : EReal) := by
    rw [val_main_v48_apply, ← v47 R h i hc 0]
    exact at3 _ _ _ _ _ rfl rfl rfl
  rw [val_main_v49_apply, v45 R h i hc, e48]
  show Ideal.div _ _ = _
  rw [div_coe_coe (zc_ne D h i c)]
  unfold Data.p
  rw [mul_div_mul_right _ _ (Real.exp_pos _).ne']

/-- The attention's output, as the host computes it. -/
theorem v55 (R : Reads D x0 x1 x2) (h : Fin 16) (i : Fin 2048) (d : Fin 128) :
    val_main_v55 (F := Ideal) x0 x1 (ix2 i (col h d)) = (D.out h i d : EReal) := by
  rw [val_main_v55_apply, val_main_v54_apply]
  refine (at3 _ _ h d i ?_ ?_ ?_).trans ?_
  · show (i.val * 2048 + (128 * h.val + d.val)) / 128 % 16 = h.val; omega
  · show (i.val * 2048 + (128 * h.val + d.val)) % 128 = d.val; omega
  · show (i.val * 2048 + (128 * h.val + d.val)) / 2048 = i.val; omega
  rw [val_main_v53_apply, Data.out, coe_sum]
  refine Finset.sum_congr rfl fun j _ => ?_
  rw [mul_comm, EReal.coe_mul, ← v49 R, ← v8 R]
  exact congrArg₂ _ (at3 _ _ h i j rfl rfl rfl) (at3 _ _ j h d rfl rfl rfl)

theorem v58 (R : Reads D x0 x1 x2) (h : Fin 16) (d : Fin 128) (i : Fin 2048) :
    val_main_v58 (F := Ideal) x2 (ix3 h d i) = (D.g h i d : EReal) := by
  rw [val_main_v58_apply, ← v57 R]
  exact at3 _ _ i h d rfl rfl rfl

/-- The weights' derivative. -/
theorem v59 (R : Reads D x0 x1 x2) (h : Fin 16) (i j : Fin 2048) :
    val_main_v59 (F := Ideal) x0 x2 (ix3 h i j) = (D.dp h i j : EReal) := by
  rw [val_main_v59_apply, Data.dp, coe_sum]
  refine Finset.sum_congr rfl fun d _ => ?_
  rw [EReal.coe_mul, ← v58 R, ← v8 R]
  exact congrArg₂ _ (at3 _ _ h d i rfl rfl rfl) (at3 _ _ j h d rfl rfl rfl)

/-- The scores' derivative. -/
theorem v74 (R : Reads D x0 x1 x2) (h : Fin 16) (i j : Fin 2048) :
    val_main_v74 (F := Ideal) x0 x1 x2 (ix3 h i j) = (D.ds h i j : EReal) := by
  obtain ⟨c, hc⟩ := v32 R h i
  have hz := zc_ne D h i c
  have e52 : val_main_v52 (F := Ideal) x0 x1 (ix3 h i 0)
      = ((1 / ((D.z h i * Real.exp (-c)) * (D.z h i * Real.exp (-c))) : ℝ) : EReal) := by
    rw [val_main_v52_apply, val_main_v51_apply, val_main_cst_10_apply, val_main_v50_apply, v47 R h i hc]
    show Ideal.div (Ideal.ofBits .f32 0x3F800000#32) (_ * _) = _
    rw [Ideal.ofBits_one_f32, ← EReal.coe_mul, ← EReal.coe_one, div_coe_coe (mul_ne_zero hz hz)]
  have e64 : ∀ j, val_main_v64 (F := Ideal) x0 x1 x2 (ix3 h i j)
      = ((D.dp h i j * (1 / ((D.z h i * Real.exp (-c)) * (D.z h i * Real.exp (-c)))) * (D.w h i j * Real.exp (-c)) : ℝ) : EReal) := fun j => by
    have e62 : val_main_v62 (F := Ideal) x0 x1 (ix3 h i j) = val_main_v52 (F := Ideal) x0 x1 (ix3 h i 0) := by
      rw [val_main_v62_apply]; exact at3 _ _ _ _ _ rfl rfl rfl
    rw [val_main_v64_apply, val_main_v63_apply, v59 R, e62, e52, v45 R h i hc]
    show _ * _ * _ = _
    rw [← EReal.coe_mul, ← EReal.coe_mul]
  have e65 : val_main_v65 (F := Ideal) x0 x1 x2 (ix2 h i) = ((D.delta h i / (D.z h i * Real.exp (-c)) : ℝ) : EReal) := by
    rw [val_main_v65_apply]
    show Ideal.ofBits .f32 0x00000000#32 + _ = _
    rw [Ideal.ofBits_zero_f32, zero_add, D.delta_eq, Finset.sum_div, coe_sum]
    refine Finset.sum_congr rfl fun j _ => ((at3 _ _ h i j rfl rfl rfl).trans (e64 j)).trans (congrArg _ ?_)
    unfold Data.p
    have h1 := (D.z_pos h i).ne'
    have h2 := (Real.exp_pos (-c)).ne'
    field_simp
  have e71 : val_main_v71 (F := Ideal) x0 x1 x2 (ix3 h i j) = ((-(D.delta h i / (D.z h i * Real.exp (-c))) : ℝ) : EReal) := by
    rw [val_main_v71_apply]
    refine (at2 _ _ h i ?_ ?_).trans ?_
    · show _ = h.val; simp
    · show _ = i.val; simp
    rw [val_main_v70_apply]
    show Ideal.ofBits .f32 0x00000000#32 + _ = _
    rw [Ideal.ofBits_zero_f32, zero_add, Fin.sum_univ_one, val_main_v67_apply, val_main_v66_apply]
    show -_ = _
    rw [EReal.coe_neg, ← e65]
    refine congrArg _ (at2 _ _ h i ?_ ?_)
    · show ((h.val * 2048 + i.val) * 1 + 0) / 2048 = h.val; omega
    · show ((h.val * 2048 + i.val) * 1 + 0) % 2048 = i.val; omega
  have e68 : val_main_v68 (F := Ideal) x0 x1 (ix3 h i j) = ((D.z h i * Real.exp (-c) : ℝ) : EReal) := by
    rw [val_main_v68_apply, ← v47 R h i hc 0]
    exact at3 _ _ _ _ _ rfl rfl rfl
  rw [val_main_v74_apply, v24_1, val_main_call1_v0_apply, val_main_call1_cst_apply, val_main_v73_apply, val_main_v72_apply,
    val_main_v69_apply, v59 R, e68, e71, v45 R h i hc]
  by_cases hij : j ≤ i
  · rw [if_pos hij]
    show (Ideal.div _ _ + _) * _ = _
    rw [div_coe_coe hz, ← EReal.coe_add, ← EReal.coe_mul]
    refine congrArg _ ?_
    unfold Data.ds Data.p
    have h1 := (D.z_pos h i).ne'
    have h2 := (Real.exp_pos (-c)).ne'
    field_simp
    ring
  · rw [if_neg hij, D.ds_of_lt h i j (not_le.mp hij)]
    show Ideal.ofBits .f32 0x00000000#32 = _
    rw [Ideal.ofBits_zero_f32, EReal.coe_zero]

theorem v83 (R : Reads D x0 x1 x2) (h : Fin 16) (i j : Fin 2048) :
    val_main_v83 (F := Ideal) x0 x1 x2 (ix3 h i j) = ((D.ds h i j * factor : ℝ) : EReal) := by
  rw [val_main_v83_apply, v74 R, val_main_v82_apply, val_main_cst_17_apply]
  show _ * Ideal.ofBits .f32 0x3DB504F3#32 = _
  rw [ofBits_factor, EReal.coe_mul]

/-- The derivative by `q`. -/
theorem dq (R : Reads D x0 x1 x2) (h : Fin 16) (i : Fin 2048) (d : Fin 128) :
    val_main_v91 (F := Ideal) x0 x1 x2 (ix2 i (col h d)) = (D.dq h i d : EReal) := by
  rw [val_main_v91_apply, val_main_v90_apply, val_main_v87_apply, Ideal.truncf_def]
  refine (at3 _ _ h i d ?_ ?_ ?_).trans ?_
  · show (i.val * 2048 + (128 * h.val + d.val)) / 128 % 16 = h.val; omega
  · show (i.val * 2048 + (128 * h.val + d.val)) / 2048 = i.val; omega
  · show (i.val * 2048 + (128 * h.val + d.val)) % 128 = d.val; omega
  rw [val_main_v86_apply, Data.dq, coe_sum]
  refine Finset.sum_congr rfl fun j _ => ?_
  rw [EReal.coe_mul, ← v83 R, ← v7 R]
  exact congrArg₂ _ (at3 _ _ h i j rfl rfl rfl) (at3 _ _ j h d rfl rfl rfl)

/-- The derivative by `k`. -/
theorem dk (R : Reads D x0 x1 x2) (h : Fin 16) (j : Fin 2048) (d : Fin 128) :
    val_main_v89 (F := Ideal) x0 x1 x2 (ix2 j (col h d)) = (D.dk h j d : EReal) := by
  rw [val_main_v89_apply, val_main_v85_apply]
  refine (at3 _ _ h j d ?_ ?_ ?_).trans ?_
  · show (j.val * 2048 + (128 * h.val + d.val)) / 128 % 16 = h.val; omega
  · show (j.val * 2048 + (128 * h.val + d.val)) / 2048 = j.val; omega
  · show (j.val * 2048 + (128 * h.val + d.val)) % 128 = d.val; omega
  rw [val_main_v84_apply, Data.dk, coe_sum]
  refine Finset.sum_congr rfl fun i _ => ?_
  rw [EReal.coe_mul, ← v83 R, ← v6 R]
  exact congrArg₂ _ (at3 _ _ h i j rfl rfl rfl) (at3 _ _ i h d rfl rfl rfl)

/-- The derivative by `v`. -/
theorem dv (R : Reads D x0 x1 x2) (h : Fin 16) (j : Fin 2048) (d : Fin 128) :
    val_main_v88 (F := Ideal) x0 x1 x2 (ix2 j (col h d)) = (D.dv h j d : EReal) := by
  rw [val_main_v88_apply, val_main_v61_apply]
  refine (at3 _ _ h d j ?_ ?_ ?_).trans ?_
  · show (j.val * 2048 + (128 * h.val + d.val)) / 128 % 16 = h.val; omega
  · show (j.val * 2048 + (128 * h.val + d.val)) % 128 = d.val; omega
  · show (j.val * 2048 + (128 * h.val + d.val)) / 2048 = j.val; omega
  rw [val_main_v60_apply, Data.dv, coe_sum]
  refine Finset.sum_congr rfl fun i _ => ?_
  rw [mul_comm, EReal.coe_mul, ← v49 R, ← v58 R]
  exact congrArg₂ _ (at3 _ _ h i j rfl rfl rfl) (at3 _ _ h d i rfl rfl rfl)

/-- The derivative by the gate's sum at the key's row. -/
theorem dck (R : Reads D x0 x1 x2) (h : Fin 16) (j : Fin 2048) :
    val_main_v92 (F := Ideal) x0 x1 x2 (ix3 h 0 j) = (D.dck h j : EReal) := by
  rw [val_main_v92_apply]
  refine (at2 _ _ h j ?_ ?_).trans ?_
  · show ((h.val * 1 + 0) * 2048 + j.val) / 2048 = h.val; omega
  · show ((h.val * 1 + 0) * 2048 + j.val) % 2048 = j.val; omega
  rw [val_main_v78_apply]
  show Ideal.ofBits .f32 0x00000000#32 + _ = _
  rw [Ideal.ofBits_zero_f32, zero_add, Fin.sum_univ_one, val_main_v77_apply]
  refine (at2 _ _ h j ?_ ?_).trans ?_
  · show ((h.val * 1 + (0 : Fin 1).val) * 2048 + j.val) / 2048 = h.val; simp; omega
  · show ((h.val * 1 + (0 : Fin 1).val) * 2048 + j.val) % 2048 = j.val; simp
  rw [val_main_v76_apply]
  show Ideal.ofBits .f32 0x00000000#32 + _ = _
  rw [Ideal.ofBits_zero_f32, zero_add, Data.dck, ← Finset.sum_neg_distrib, coe_sum]
  refine Finset.sum_congr rfl fun i _ => ?_
  rw [val_main_v75_apply]
  show -_ = _
  rw [EReal.coe_neg, ← v74 R]
  exact congrArg _ (at3 _ _ h i j rfl rfl rfl)

/-- The derivative by the gate's sum at the query's row. -/
theorem dcq (R : Reads D x0 x1 x2) (h : Fin 16) (i : Fin 2048) :
    val_main_v93 (F := Ideal) x0 x1 x2 (ix3 h i 0) = (D.dcq h i : EReal) := by
  rw [val_main_v93_apply]
  refine (at2 _ _ h i ?_ ?_).trans ?_
  · show ((h.val * 2048 + i.val) * 1 + 0) / 2048 = h.val; omega
  · show ((h.val * 2048 + i.val) * 1 + 0) % 2048 = i.val; omega
  rw [val_main_v81_apply]
  show Ideal.ofBits .f32 0x00000000#32 + _ = _
  rw [Ideal.ofBits_zero_f32, zero_add, Fin.sum_univ_one, val_main_v80_apply]
  refine (at2 _ _ h i ?_ ?_).trans ?_
  · show ((h.val * 2048 + i.val) * 1 + (0 : Fin 1).val) / 2048 = h.val; simp; omega
  · show ((h.val * 2048 + i.val) * 1 + (0 : Fin 1).val) % 2048 = i.val; simp
  rw [val_main_v79_apply]
  show Ideal.ofBits .f32 0x00000000#32 + _ = _
  rw [Ideal.ofBits_zero_f32, zero_add, Data.dcq, coe_sum]
  exact Finset.sum_congr rfl fun j _ => (at3 _ _ h i j rfl rfl rfl).trans (v74 R h i j)

end Ref

end Cert.Fox

end
-- ==== Proof.Tile.lean ====
/- What one pair of blocks (512 rows of queries, 512 of keys, one head) computes, at an index: the weights, the scores'
   derivative, and the four accumulators' steps. -/
module

public import proofs.«01_k».proof.Proof.Spec
public import proofs.«01_k».proof.Proof.Reference
public import proofs.«01_k».proof.Proof.Gen.KernelIdeal.Skeleton
public import Idealize.ShloMosaic.Lib.Pointwise
public import Idealize.ShloMosaic.Lib.WordCmp

@[expose] public section

noncomputable section

namespace Cert.Fox.Tile

open Idealize.ShloMosaic hiding ix1 ix2 ix3 ix4
open Idealize.ShloMosaic.TcCoe Idealize.ShloMosaic.ValueIdx
open Cert.KernelIdeal Cert.KernelIdeal.Gen

/-- Row `x` of block `b`. -/
abbrev row (b : Fin 4) (x : Fin 512) : Fin 2048 := ⟨512 * b.val + x.val, by omega⟩

/-! ### The accumulators' steps -/

section Acc

variable {M : Fin 512 → Fin 512 → ℝ} {X : Fin 512 → Fin 128 → ℝ} {o : ℝ}

/-- An accumulator takes a product over the queries. -/
theorem accT (m : FVec Ideal S512x512 .bf16) (x : Vec Ideal S512x128 .bf16) (old : Vec Ideal S512x128 .f32) (r : Fin 512) (d : Fin 128)
    (hm : ∀ i, m (ix2 i r) = (M i r : EReal)) (hx : ∀ i, x (ix2 i d) = (X i d : EReal)) (ho : old (ix2 r d) = (o : EReal)) :
    addf (shapeCast S512x128 old shapeCasts_S512x128_S512x128)
      (matmul (φ₂ := .bf16) dot_S512x512_S512x128_S512x128_0_0_1_1_n_n none m x (constant S512x128 .f32 0x00000000#32)) (ix2 r d)
      = ((o + ∑ i, M i r * X i d : ℝ) : EReal) := by
  rw [EReal.coe_add, coe_sum, ← ho]
  simp only [EReal.coe_mul, ← hm, ← hx]
  pointwise
  rfl

/-- An accumulator takes a product over the keys. -/
theorem accN (m : FVec Ideal S512x512 .bf16) (x : Vec Ideal S512x128 .bf16) (old : Vec Ideal S1x512x128 .f32) (z : Fin 1) (r : Fin 512) (d : Fin 128)
    (hm : ∀ j, m (ix2 r j) = (M r j : EReal)) (hx : ∀ j, x (ix2 j d) = (X j d : EReal)) (ho : old (ix3 z r d) = (o : EReal)) :
    k0_pay7 (F := Ideal) x m old (ix3 z r d) = ((o + ∑ j, M r j * X j d : ℝ) : EReal) := by
  rw [EReal.coe_add, coe_sum, ← ho]
  simp only [EReal.coe_mul, ← hm, ← hx]
  unfold k0_pay7
  pointwise
  rfl

/-- An accumulator loses a sum over the queries. -/
theorem subCol (m : FVec Ideal S512x512 .f32) (old : Vec Ideal S1x1x512 .f32) (z y : Fin 1) (r : Fin 512)
    (hm : ∀ i, m (ix2 i r) = (M i r : EReal)) (ho : old (ix3 z y r) = (o : EReal)) :
    k0_pay8 (F := Ideal) m old (ix3 z y r) = ((o - ∑ i, M i r : ℝ) : EReal) := by
  rw [EReal.coe_sub, coe_sum, ← ho]
  simp only [← hm]
  unfold k0_pay8
  pointwise
  rfl

/-- An accumulator takes a sum over the keys. -/
theorem addRow (m : FVec Ideal S512x512 .f32) (old : Vec Ideal S1x512x128 .f32) (z : Fin 1) (r : Fin 512) (d : Fin 128)
    (hm : ∀ j, m (ix2 r j) = (M r j : EReal)) (ho : old (ix3 z r d) = (o : EReal)) :
    k0_pay9 (F := Ideal) m old (ix3 z r d) = ((o + ∑ j, M r j : ℝ) : EReal) := by
  rw [EReal.coe_add, coe_sum, ← ho]
  simp only [← hm]
  unfold k0_pay9
  pointwise
  rfl

end Acc

/-! ### The weights and the scores' derivative -/

/-- What a head's query block `a` holds. -/
structure QReads (D : Data) (h : Fin 16) (a : Fin 4) (q g : Vec Ideal S512x128 .bf16) (l dl : FVec Ideal S512x1 .f32)
    (cc : Vec Ideal S1x512x1 .f32) : Prop where
  q : ∀ i d, q (ix2 i d) = (D.q h (row a i) d : EReal)
  g : ∀ i d, g (ix2 i d) = (D.g h (row a i) d : EReal)
  l : ∀ i, ∃ c : ℝ, l (ix2 i 0) = ((c + Real.log (D.z h (row a i) * Real.exp (-c)) : ℝ) : EReal)
  dl : ∀ i, dl (ix2 i 0) = (D.delta h (row a i) : EReal)
  cc : ∀ i, cc (ix3 0 i 0) = (D.u h (row a i) : EReal)

/-- What a head's key block `b` holds. -/
structure KReads (D : Data) (h : Fin 16) (b : Fin 4) (k v : Vec Ideal S512x128 .bf16) (cr : Vec Ideal S1x1x512 .f32) : Prop where
  k : ∀ j d, k (ix2 j d) = (D.k h (row b j) d : EReal)
  v : ∀ j d, v (ix2 j d) = (D.v h (row b j) d : EReal)
  cr : ∀ j, cr (ix3 0 0 j) = (D.u h (row b j) : EReal)

variable {D : Data} {h : Fin 16} {a b : Fin 4} {q g k v : Vec Ideal S512x128 .bf16} {l dl : FVec Ideal S512x1 .f32}
  {cc : Vec Ideal S1x512x1 .f32} {cr : Vec Ideal S1x1x512 .f32}

theorem score (Q : QReads D h a q g l dl cc) (K : KReads D h b k v cr) (i j : Fin 512) :
    (∑ d, q (ix2 i d) * k (ix2 j d)) * Ideal.ofBits .f32 0x3DB504F3#32 + (cc (ix3 0 i 0) - cr (ix3 0 0 j))
      = (D.s h (row a i) (row b j) : EReal) := by
  simp only [Q.q, K.k, Q.cc, K.cr, ofBits_factor, ← EReal.coe_mul, ← coe_sum, ← EReal.coe_sub, ← EReal.coe_add]
  refine congrArg _ ?_
  unfold Data.s
  ring

theorem dprod (Q : QReads D h a q g l dl cc) (K : KReads D h b k v cr) (i j : Fin 512) :
    k0_pay52 (F := Ideal) g v (ix2 i j) = (D.dp h (row a i) (row b j) : EReal) := by
  rw [Data.dp, coe_sum]
  simp only [EReal.coe_mul, ← Q.g, ← K.v]
  unfold k0_pay52
  pointwise
  rfl

theorem delta53 (Q : QReads D h a q g l dl cc) (i j : Fin 512) :
    k0_pay53 (F := Ideal) dl (ix2 i j) = (D.delta h (row a i) : EReal) := by
  rw [← Q.dl]
  unfold k0_pay53
  pointwise
  rfl

/-- The weights, where every key comes before every query. -/
theorem p_off (Q : QReads D h a q g l dl cc) (K : KReads D h b k v cr) (hab : b < a) (i j : Fin 512) :
    k0_pay2 (F := Ideal) q l k cc cr (ix2 i j) = (D.p h (row a i) (row b j) : EReal) := by
  obtain ⟨c, hc⟩ := Q.l i
  have e : k0_pay2 (F := Ideal) q l k cc cr (ix2 i j)
      = Ideal.exp ((∑ d, q (ix2 i d) * k (ix2 j d)) * Ideal.ofBits .f32 0x3DB504F3#32 + (cc (ix3 0 i 0) - cr (ix3 0 0 j)) - l (ix2 i 0)) := by
    unfold k0_pay2
    pointwise
    rfl
  have hij : row b j ≤ row a i := by
    have := Fin.lt_def.mp hab
    show 512 * b.val + j.val ≤ 512 * a.val + i.val
    omega
  rw [e, score Q K, hc, ← EReal.coe_sub, Ideal.exp_coe, D.p_eq_exp h _ _ c hij]

/-- The scores' derivative, where every key comes before every query. -/
theorem ds_off (Q : QReads D h a q g l dl cc) (K : KReads D h b k v cr) (hab : b < a) (i j : Fin 512) :
    k0_pay3 (F := Ideal) q g dl l k cc cr v (ix2 i j) = (D.ds h (row a i) (row b j) : EReal) := by
  show k0_pay2 (F := Ideal) q l k cc cr (ix2 i j) * (k0_pay52 (F := Ideal) g v (ix2 i j) - k0_pay53 (F := Ideal) dl (ix2 i j)) = _
  rw [p_off Q K hab, dprod Q K, delta53 Q, ← EReal.coe_sub, ← EReal.coe_mul, Data.ds]

/-- The weights on the diagonal, where a key after its query has the weight zero. -/
theorem p_diag (Q : QReads D h a q g l dl cc) (K : KReads D h a k v cr) (i j : Fin 512) :
    k0_pay51 (F := Ideal) q l k cc cr (ix2 i j) = (D.p h (row a i) (row a j) : EReal) := by
  obtain ⟨c, hc⟩ := Q.l i
  have e : k0_pay51 (F := Ideal) q l k cc cr (ix2 i j)
      = Ideal.exp (Scalar.select (IntOp.cmpi .sge (BitVec.ofNat 32 i.val) (BitVec.ofNat 32 j.val))
        ((∑ d, q (ix2 i d) * k (ix2 j d)) * Ideal.ofBits .f32 0x3DB504F3#32 + (cc (ix3 0 i 0) - cr (ix3 0 0 j)))
        (Named.named (F := Ideal) (φ := .f32) κ "mask" 0xF149F2CA#32) - l (ix2 i 0)) := by
    unfold k0_pay51
    pointwise
    rfl
  have hn : Named.named (F := Ideal) (φ := .f32) κ "mask" 0xF149F2CA#32 = (⊥ : EReal) := by
    rfl
  rw [e, score Q K, hc, hn, WordCmp.cmpi_sge_ofNat (by omega) (by omega)]
  by_cases hij : j.val ≤ i.val
  · have hij' : row a j ≤ row a i := by
      show 512 * a.val + j.val ≤ 512 * a.val + i.val
      omega
    rw [decide_eq_true hij]
    show Ideal.exp ((D.s h (row a i) (row a j) : EReal) - _) = _
    rw [← EReal.coe_sub, Ideal.exp_coe, D.p_eq_exp h _ _ c hij']
  · have hij' : row a i < row a j := by
      show 512 * a.val + i.val < 512 * a.val + j.val
      omega
    rw [decide_eq_false hij, D.p_of_lt h _ _ hij']
    show Ideal.exp (⊥ - _) = _
    rw [sub_eq_add_neg, EReal.bot_add]
    rfl

/-- The scores' derivative on the diagonal. -/
theorem ds_diag (Q : QReads D h a q g l dl cc) (K : KReads D h a k v cr) (i j : Fin 512) :
    k0_pay54 (F := Ideal) (k0_pay51 (F := Ideal) q l k cc cr) (k0_pay52 (F := Ideal) g v) (k0_pay53 (F := Ideal) dl) (ix2 i j)
      = (D.ds h (row a i) (row a j) : EReal) := by
  show k0_pay51 (F := Ideal) q l k cc cr (ix2 i j) * (k0_pay52 (F := Ideal) g v (ix2 i j) - k0_pay53 (F := Ideal) dl (ix2 i j)) = _
  rw [p_diag Q K, dprod Q K, delta53 Q, ← EReal.coe_sub, ← EReal.coe_mul, Data.ds]

/-- The rounded scaled derivative is the derivative times the factor. -/
theorem scaled (m : FVec Ideal S512x512 .f32) {M : Fin 512 → Fin 512 → ℝ} (hm : ∀ i j, m (ix2 i j) = (M i j : EReal)) (i j : Fin 512) :
    k0_pay64 (F := Ideal) m (ix2 i j) = ((M i j * factor : ℝ) : EReal) := by
  rw [EReal.coe_mul, ← hm, ← ofBits_factor]
  unfold k0_pay64
  pointwise

/-- The row sums of the output against its derivative. -/
theorem delta39 (g : Vec Ideal S512x128 .bf16) (o : Vec Ideal S512x128 .f32) {G O : Fin 128 → ℝ} (i : Fin 512)
    (hg : ∀ d, g (ix2 i d) = (G d : EReal)) (ho : ∀ d, o (ix2 i d) = (O d : EReal)) :
    k0_pay39 (F := Ideal) g o (ix2 i 0) = ((∑ d, G d * O d : ℝ) : EReal) := by
  rw [coe_sum]
  simp only [EReal.coe_mul, ← hg, ← ho]
  unfold k0_pay39
  pointwise
  rfl

theorem lse41 (x : Vec Ideal S1x512x128 .f32) (i : Fin 512) : k0_pay41 (F := Ideal) x (ix2 i 0) = x (ix3 0 i 0) := by
  unfold k0_pay41
  pointwise
  rfl

/-- A sum over the keys before block `b + 1`: one block more. -/
theorem sum_lt_succ (f : Fin 2048 → ℝ) (b : Fin 4) :
    (∑ j : Fin 2048, if j.val < 512 * (b.val + 1) then f j else 0)
      = (∑ j : Fin 2048, if j.val < 512 * b.val then f j else 0) + ∑ x : Fin 512, f (row b x) := by
  have e : ∀ j : Fin 2048, (if j.val < 512 * (b.val + 1) then f j else 0)
      = (if j.val < 512 * b.val then f j else 0) + (if 512 * b.val ≤ j.val ∧ j.val < 512 * (b.val + 1) then f j else 0) := by
    intro j
    by_cases h1 : j.val < 512 * b.val
    · rw [if_pos h1, if_pos (by omega), if_neg (by omega), add_zero]
    · by_cases h2 : j.val < 512 * (b.val + 1)
      · rw [if_neg h1, if_pos h2, if_pos ⟨by omega, h2⟩, zero_add]
      · rw [if_neg h1, if_neg h2, if_neg (fun h => h2 h.2), zero_add]
  rw [Finset.sum_congr rfl fun j _ => e j, Finset.sum_add_distrib]
  congr 1
  rw [← Finset.sum_filter]
  symm
  refine Finset.sum_bij (fun x _ => row b x) (fun x _ => ?_) (fun x _ y _ hxy => ?_) (fun j hj => ?_) (fun _ _ => rfl)
  · exact Finset.mem_filter.mpr ⟨Finset.mem_univ _, by show 512 * b.val ≤ 512 * b.val + x.val ∧ 512 * b.val + x.val < 512 * (b.val + 1); omega⟩
  · have : 512 * b.val + x.val = 512 * b.val + y.val := congrArg Fin.val hxy
    exact Fin.ext (by omega)
  · have := (Finset.mem_filter.mp hj).2
    exact ⟨⟨j.val - 512 * b.val, by omega⟩, Finset.mem_univ _, Fin.ext (by show 512 * b.val + (j.val - 512 * b.val) = j.val; omega)⟩

end Cert.Fox.Tile

end
-- ==== Proof.Steps.lean ====
/- Reading the accumulators: what a buffer holds after one block's two stores (one for each of the point's two heads),
   index by index, and what a load of one block reads of it. -/
module

public import proofs.«01_k».proof.Proof.Tile
public import Idealize.ShloMosaic.Lib.WritesUnit

@[expose] public section

noncomputable section

namespace Cert.Fox

open Idealize.ShloMosaic hiding ix1 ix2 ix3 ix4
open Idealize.ShloMosaic.TcCoe Idealize.ShloMosaic.ValueIdx
open Cert.KernelIdeal Cert.KernelIdeal.Gen
open Tile (row)

/-- Lane `d` of the point's head `e` among the 256 lanes of its two heads. -/
abbrev lane (e : Fin 2) (d : Fin 128) : Fin 256 := ⟨128 * e.val + d.val, by omega⟩

/-- Head `e` of head pair `p`. -/
abbrev hd (p : Fin 8) (e : Fin 2) : Fin 16 := ⟨2 * p.val + e.val, by omega⟩

namespace Steps

variable {κ : Kind} {sp : Space}

/-! ### Loads -/

theorem load2 {φ : EltTy} {n : ℕ} (v : View sig κ sp ⟨2, ![n, 256]⟩ φ) (f : v.ty.Contents (Elt Ideal)) {off : Fin 2 → ℕ} (o : ℕ) (e : Fin 2)
    (inb) (h : off = ![o, 128 * e.val]) (r : Fin 512) (d : Fin 128) (j : Fin n) (hj : j.val = o + r.val) :
    v.readAt (Elt Ideal) (Rect.unit (s := ⟨2, ![n, 256]⟩) off S512x128.size inb).toLoadRect f (ix2 r d) = v.read (Elt Ideal) f (ix2 j (lane e d)) := by
  subst h
  rw [View.readAt_apply]
  refine congrArg _ (funext fun a => Fin.ext ?_)
  match a with
  | 0 => show o + 1 * r.val = j.val; omega
  | 1 => show 128 * e.val + 1 * d.val = 128 * e.val + d.val; omega

theorem load3r (v : View sig κ sp S2x1x2048 .f32) (f : v.ty.Contents (Elt Ideal)) {off : Fin 3 → ℕ} (o : ℕ) (e : Fin 2)
    (inb) (h : off = ![e.val, 0, o]) (y z : Fin 1) (r : Fin 512) (j : Fin 2048) (hj : j.val = o + r.val) :
    v.readAt (Elt Ideal) (Rect.unit (s := S2x1x2048) off S1x1x512.size inb).toLoadRect f (ix3 y z r) = v.read (Elt Ideal) f (ix3 e 0 j) := by
  subst h
  rw [View.readAt_apply]
  refine congrArg _ (funext fun a => Fin.ext ?_)
  match a with
  | 0 => show e.val + 1 * y.val = e.val; omega
  | 1 => show 0 + 1 * z.val = 0; omega
  | 2 => show o + 1 * r.val = j.val; omega

theorem load3c {n : ℕ} (v : View sig κ sp ⟨3, ![2, 512, n]⟩ .f32) (f : v.ty.Contents (Elt Ideal)) {off : Fin 3 → ℕ} (e : Fin 2) {m : ℕ}
    (inb) (h : off = ![e.val, 0, 0]) (y : Fin 1) (r : Fin 512) (d : Fin m) (d' : Fin n) (hd : d'.val = d.val) :
    v.readAt (Elt Ideal) (Rect.unit (s := ⟨3, ![2, 512, n]⟩) off (⟨3, ![1, 512, m]⟩ : Shape).size inb).toLoadRect f (ix3 y r d) = v.read (Elt Ideal) f (ix3 e r d') := by
  subst h
  rw [View.readAt_apply]
  refine congrArg _ (funext fun a => Fin.ext ?_)
  match a with
  | 0 => show e.val + 1 * y.val = e.val; omega
  | 1 => show 0 + 1 * r.val = r.val; omega
  | 2 => show 0 + 1 * d.val = d'.val; omega

/-! ### Stores -/

/-- The rows of block `n`, both heads, stored over a buffer whose rows before block `n` have taken their term. -/
theorem store2 (v : View sig κ sp S2048x256 .f32) (f : v.ty.Contents (Elt Ideal)) (n : Fin 4) {K T : Fin 2 → Fin 2048 → Fin 128 → ℝ}
    (hf : ∀ e j d, v.read (Elt Ideal) f (ix2 j (lane e d)) = ((K e j d + (if j.val < 512 * n.val then T e j d else 0) : ℝ) : EReal))
    {off0 off1 : Fin 2 → ℕ} (inb0) (inb1) (h0 : off0 = ![512 * n.val, 0]) (h1 : off1 = ![512 * n.val, 128])
    (w0 : (Rect.unit (s := S2048x256) off0 S512x128.size inb0).shape.Idx → Elt Ideal .f32)
    (w1 : (Rect.unit (s := S2048x256) off1 S512x128.size inb1).shape.Idx → Elt Ideal .f32)
    (hw0 : ∀ (r : Fin 512) (d : Fin 128), w0 (ix2 r d) = ((K 0 (row n r) d + T 0 (row n r) d : ℝ) : EReal))
    (hw1 : ∀ (r : Fin 512) (d : Fin 128), w1 (ix2 r d) = ((K 1 (row n r) d + T 1 (row n r) d : ℝ) : EReal)) :
    ∀ e j d, v.read (Elt Ideal) (v.writes (Elt Ideal) f [⟨Rect.unit off1 S512x128.size inb1, w1⟩, ⟨Rect.unit off0 S512x128.size inb0, w0⟩])
        (ix2 j (lane e d)) = ((K e j d + (if j.val < 512 * (n.val + 1) then T e j d else 0) : ℝ) : EReal) := by
  intro e j d
  by_cases hj : 512 * n.val ≤ j.val ∧ j.val < 512 * (n.val + 1)
  · have hr : row n (⟨j.val - 512 * n.val, by omega⟩ : Fin 512) = j := Fin.ext (by show 512 * n.val + (j.val - 512 * n.val) = j.val; omega)
    rw [if_pos hj.2]
    match e with
    | 0 =>
      rw [View.read_writes_cons_unit_of_not_mem _ _ inb1 w1 _ _ h1 1 (Or.inl (by show 128 * 0 + d.val < 128; omega)),
        View.read_writes_cons_unit_of_mem _ _ inb0 w0 _ _ (ix2 (n0 := 512) (n1 := 128) ⟨j.val - 512 * n.val, by omega⟩ d) h0 (fun a => by
          match a with
          | 0 => show j.val = 512 * n.val + (j.val - 512 * n.val); omega
          | 1 => show 128 * 0 + d.val = 0 + d.val; omega), hw0, hr]
    | 1 =>
      rw [View.read_writes_cons_unit_of_mem _ _ inb1 w1 _ _ (ix2 (n0 := 512) (n1 := 128) ⟨j.val - 512 * n.val, by omega⟩ d) h1 (fun a => by
          match a with
          | 0 => show j.val = 512 * n.val + (j.val - 512 * n.val); omega
          | 1 => show 128 * 1 + d.val = 128 + d.val; omega), hw1, hr]
  · have hj' : j.val < 512 * n.val ∨ 512 * n.val + 512 ≤ j.val := by omega
    rw [View.read_writes_cons_unit_of_not_mem _ _ inb1 w1 _ _ h1 0 hj', View.read_writes_cons_unit_of_not_mem _ _ inb0 w0 _ _ h0 0 hj',
      View.writes_nil, hf]
    rcases hj' with h | h
    · rw [if_pos h, if_pos (by omega)]
    · rw [if_neg (by omega), if_neg (by omega)]

/-- The same for the columns' buffer, whose keys lie along its last axis. -/
theorem store3r (v : View sig κ sp S2x1x2048 .f32) (f : v.ty.Contents (Elt Ideal)) (n : Fin 4) {K T : Fin 2 → Fin 2048 → ℝ}
    (hf : ∀ e j, v.read (Elt Ideal) f (ix3 e 0 j) = ((K e j - (if j.val < 512 * n.val then T e j else 0) : ℝ) : EReal))
    {off0 off1 : Fin 3 → ℕ} (inb0) (inb1) (h0 : off0 = ![0, 0, 512 * n.val]) (h1 : off1 = ![1, 0, 512 * n.val])
    (w0 : (Rect.unit (s := S2x1x2048) off0 S1x1x512.size inb0).shape.Idx → Elt Ideal .f32)
    (w1 : (Rect.unit (s := S2x1x2048) off1 S1x1x512.size inb1).shape.Idx → Elt Ideal .f32)
    (hw0 : ∀ (r : Fin 512), w0 (ix3 (n0 := 1) (n1 := 1) (n2 := 512) 0 0 r) = ((K 0 (row n r) - T 0 (row n r) : ℝ) : EReal))
    (hw1 : ∀ (r : Fin 512), w1 (ix3 (n0 := 1) (n1 := 1) (n2 := 512) 0 0 r) = ((K 1 (row n r) - T 1 (row n r) : ℝ) : EReal)) :
    ∀ e j, v.read (Elt Ideal) (v.writes (Elt Ideal) f [⟨Rect.unit off1 S1x1x512.size inb1, w1⟩, ⟨Rect.unit off0 S1x1x512.size inb0, w0⟩])
        (ix3 e 0 j) = ((K e j - (if j.val < 512 * (n.val + 1) then T e j else 0) : ℝ) : EReal) := by
  intro e j
  by_cases hj : 512 * n.val ≤ j.val ∧ j.val < 512 * (n.val + 1)
  · have hr : row n (⟨j.val - 512 * n.val, by omega⟩ : Fin 512) = j := Fin.ext (by show 512 * n.val + (j.val - 512 * n.val) = j.val; omega)
    rw [if_pos hj.2]
    match e with
    | 0 =>
      rw [View.read_writes_cons_unit_of_not_mem _ _ inb1 w1 _ _ h1 0 (Or.inl (by show 0 < 1; omega)),
        View.read_writes_cons_unit_of_mem _ _ inb0 w0 _ _ (ix3 (n0 := 1) (n1 := 1) (n2 := 512) 0 0 ⟨j.val - 512 * n.val, by omega⟩) h0 (fun a => by
          match a with
          | 0 => rfl
          | 1 => rfl
          | 2 => show j.val = 512 * n.val + (j.val - 512 * n.val); omega), hw0, hr]
    | 1 =>
      rw [View.read_writes_cons_unit_of_mem _ _ inb1 w1 _ _ (ix3 (n0 := 1) (n1 := 1) (n2 := 512) 0 0 ⟨j.val - 512 * n.val, by omega⟩) h1 (fun a => by
          match a with
          | 0 => rfl
          | 1 => rfl
          | 2 => show j.val = 512 * n.val + (j.val - 512 * n.val); omega), hw1, hr]
  · have hj' : j.val < 512 * n.val ∨ 512 * n.val + 512 ≤ j.val := by omega
    rw [View.read_writes_cons_unit_of_not_mem _ _ inb1 w1 _ _ h1 2 hj', View.read_writes_cons_unit_of_not_mem _ _ inb0 w0 _ _ h0 2 hj',
      View.writes_nil, hf]
    rcases hj' with h | h
    · rw [if_pos h, if_pos (by omega)]
    · rw [if_neg (by omega), if_neg (by omega)]

/-- The two heads' slots of a scratch, each stored whole. -/
theorem storeS (v : View sig κ sp S2x512x128 .f32) (f : v.ty.Contents (Elt Ideal)) {K : Fin 2 → Fin 512 → Fin 128 → ℝ} (L : List (View.Piece (Elt Ideal) S2x512x128 .f32))
    (inb0) (inb1)
    (w0 : (Rect.unit (s := S2x512x128) ![0, 0, 0] S1x512x128.size inb0).shape.Idx → Elt Ideal .f32)
    (w1 : (Rect.unit (s := S2x512x128) ![1, 0, 0] S1x512x128.size inb1).shape.Idx → Elt Ideal .f32)
    (hw0 : ∀ (r : Fin 512) (d : Fin 128), w0 (ix3 (n0 := 1) (n1 := 512) (n2 := 128) 0 r d) = (K 0 r d : EReal))
    (hw1 : ∀ (r : Fin 512) (d : Fin 128), w1 (ix3 (n0 := 1) (n1 := 512) (n2 := 128) 0 r d) = (K 1 r d : EReal)) :
    ∀ e r d, v.read (Elt Ideal) (v.writes (Elt Ideal) f (⟨Rect.unit ![1, 0, 0] S1x512x128.size inb1, w1⟩ :: ⟨Rect.unit ![0, 0, 0] S1x512x128.size inb0, w0⟩ :: L))
        (ix3 e r d) = (K e r d : EReal) := by
  intro e r d
  match e with
  | 0 =>
    rw [View.read_writes_cons_unit_of_not_mem _ _ inb1 w1 _ _ rfl 0 (Or.inl (by show 0 < 1; omega)),
      View.read_writes_cons_unit_of_mem _ _ inb0 w0 _ _ (ix3 (n0 := 1) (n1 := 512) (n2 := 128) 0 r d) rfl (fun a => by
        match a with
        | 0 => rfl
        | 1 => show r.val = 0 + r.val; omega
        | 2 => show d.val = 0 + d.val; omega), hw0]
  | 1 =>
    rw [View.read_writes_cons_unit_of_mem _ _ inb1 w1 _ _ (ix3 (n0 := 1) (n1 := 512) (n2 := 128) 0 r d) rfl (fun a => by
        match a with
        | 0 => rfl
        | 1 => show r.val = 0 + r.val; omega
        | 2 => show d.val = 0 + d.val; omega), hw1]

end Steps

end Cert.Fox
-- ==== Proof.Words.lean ====
/- The offsets and the trip counts the kernel computes in words, as numbers. -/
module

public import proofs.«01_k».proof.Proof.Gen.KernelIdeal.Skeleton

@[expose] public section

namespace Cert.Fox

open Idealize.ShloMosaic
open Cert.KernelIdeal Cert.KernelIdeal.Gen

/-! ### The loop's words -/

theorem trips1 (i : grid0.Coords) : (k0_t1_loop i).trips = (i 1).val := by
  have h : (i 1).val < 4 := (i 1).isLt
  show Scf.trips 0#32 (Scalar.addi 0#32 (Scalar.muli (Scalar.divsi (Scalar.subi (BitVec.ofNat 32 (i 1).val) 0#32) 1#32) 1#32)) 1#32 = (i 1).val
  generalize (i 1).val = n at h
  interval_cases n <;> rfl

theorem trips2 (i : grid0.Coords) : (k0_t2_loop i).trips = 0 := by
  have h : (i 1).val < 4 := (i 1).isLt
  show Scf.trips (Scalar.addi 0#32 (Scalar.muli (Scalar.divsi (Scalar.subi (BitVec.ofNat 32 (i 1).val) 0#32) 1#32) 1#32))
    (Scalar.addi 0#32 (Scalar.subi (BitVec.ofNat 32 (i 1).val) 0#32)) 1#32 = 0
  generalize (i 1).val = n at h
  interval_cases n <;> rfl

theorem blockWord (n : Fin 4) : (Scalar.indexCast (Scalar.muli (Scf.iv 0#32 1#32 n.val) 512#32)).toNat = 512 * n.val := by
  have h := n.isLt
  generalize n.val = m at h ⊢
  interval_cases m <;> decide

theorem off1 (i : grid0.Coords) (k : Fin (k0_t1_loop i).trips) (n : Fin 4) (h : k.val = n.val) : k0_off1 i k = ![512 * n.val, 0] := by
  show ![(Scalar.indexCast (Scalar.muli (Scf.iv 0#32 1#32 k.val) 512#32)).toNat, 0] = _
  rw [h, blockWord]

theorem off2 (i : grid0.Coords) (k : Fin (k0_t1_loop i).trips) (n : Fin 4) (h : k.val = n.val) : k0_off2 i k = ![0, 0, 512 * n.val] := by
  show ![0, 0, (Scalar.indexCast (Scalar.muli (Scf.iv 0#32 1#32 k.val) 512#32)).toNat] = _
  rw [h, blockWord]

theorem off3 (i : grid0.Coords) (k : Fin (k0_t1_loop i).trips) (n : Fin 4) (h : k.val = n.val) : k0_off3 i k = ![512 * n.val, 128] := by
  show ![(Scalar.indexCast (Scalar.muli (Scf.iv 0#32 1#32 k.val) 512#32)).toNat, 128] = _
  rw [h, blockWord]

theorem off4 (i : grid0.Coords) (k : Fin (k0_t1_loop i).trips) (n : Fin 4) (h : k.val = n.val) : k0_off4 i k = ![1, 0, 512 * n.val] := by
  show ![1, 0, (Scalar.indexCast (Scalar.muli (Scf.iv 0#32 1#32 k.val) 512#32)).toNat] = _
  rw [h, blockWord]

/-! ### The diagonal block's offsets -/

theorem diagWord (n : Fin 4) : (Scalar.indexCast (Scalar.muli (BitVec.ofNat 32 n.val) 512#32)).toNat = 512 * n.val := by
  have h := n.isLt
  generalize n.val = m at h ⊢
  interval_cases m <;> decide

theorem off9 (i : grid0.Coords) (n : Fin 4) (h : (i 1).val = n.val) : k0_off9 i = ![512 * n.val, 0] := by
  show ![(Scalar.indexCast (Scalar.muli (BitVec.ofNat 32 (i 1).val) 512#32)).toNat, 0] = _
  rw [h, diagWord]

theorem off10 (i : grid0.Coords) (n : Fin 4) (h : (i 1).val = n.val) : k0_off10 i = ![0, 0, 512 * n.val] := by
  show ![0, 0, (Scalar.indexCast (Scalar.muli (BitVec.ofNat 32 (i 1).val) 512#32)).toNat] = _
  rw [h, diagWord]

theorem off11 (i : grid0.Coords) (n : Fin 4) (h : (i 1).val = n.val) : k0_off11 i = ![512 * n.val, 128] := by
  show ![(Scalar.indexCast (Scalar.muli (BitVec.ofNat 32 (i 1).val) 512#32)).toNat, 128] = _
  rw [h, diagWord]

theorem off12 (i : grid0.Coords) (n : Fin 4) (h : (i 1).val = n.val) : k0_off12 i = ![1, 0, 512 * n.val] := by
  show ![1, 0, (Scalar.indexCast (Scalar.muli (BitVec.ofNat 32 (i 1).val) 512#32)).toNat] = _
  rw [h, diagWord]

end Cert.Fox
-- ==== Proof.Trip.lean ====
/- One trip of the kernel's loop over the key blocks before the query block, and the loop's trips together: what the five
   accumulators hold. -/
module

public import proofs.«01_k».proof.Proof.Steps
public import proofs.«01_k».proof.Proof.Words
public import proofs.«01_k».proof.Proof.Gen.KernelIdeal.Loops

@[expose] public section

noncomputable section

namespace Cert.Fox

open Idealize.ShloMosaic hiding ix1 ix2 ix3 ix4
open Idealize.ShloMosaic.TcCoe Idealize.ShloMosaic.ValueIdx
open Cert.KernelIdeal Cert.KernelIdeal.Gen
open Tile (row QReads KReads)

/-! ### What one query block gives each accumulator -/

/-- Query block `a`'s part of the keys' derivative. -/
def dkT (D : Data) (a : Fin 4) (h : Fin 16) (j : Fin 2048) (d : Fin 128) : ℝ :=
  ∑ x : Fin 512, D.ds h (row a x) j * factor * D.q h (row a x) d

/-- Query block `a`'s part of the values' derivative. -/
def dvT (D : Data) (a : Fin 4) (h : Fin 16) (j : Fin 2048) (d : Fin 128) : ℝ :=
  ∑ x : Fin 512, D.p h (row a x) j * D.g h (row a x) d

/-- Query block `a`'s part of the columns' sums. -/
def dcT (D : Data) (a : Fin 4) (h : Fin 16) (j : Fin 2048) : ℝ := ∑ x : Fin 512, D.ds h (row a x) j

/-- The queries' derivative over the keys before block `n`. -/
def dqS (D : Data) (a : Fin 4) (n : ℕ) (h : Fin 16) (x : Fin 512) (d : Fin 128) : ℝ :=
  ∑ j : Fin 2048, if j.val < 512 * n then D.ds h (row a x) j * factor * D.k h j d else 0

/-- The rows' sums over the keys before block `n`. -/
def rsS (D : Data) (a : Fin 4) (n : ℕ) (h : Fin 16) (x : Fin 512) : ℝ :=
  ∑ j : Fin 2048, if j.val < 512 * n then D.ds h (row a x) j else 0

/-- The accumulators of head pair `p` and query block `a` after the key blocks before `n`, over what the point found
    (`Kk`, `Kv`, `Kc`). -/
structure St {κ : Kind} {sp11 sp12 sp13 sp15 sp16 : Space} (D : Data) (p : Fin 8) (a : Fin 4) (Kk Kv : Fin 2 → Fin 2048 → Fin 128 → ℝ) (Kc : Fin 2 → Fin 2048 → ℝ)
    (v11 : View sig κ sp11 S2048x256 .f32) (v12 : View sig κ sp12 S2048x256 .f32) (v13 : View sig κ sp13 S2x1x2048 .f32)
    (v15 : View sig κ sp15 S2x512x128 .f32) (v16 : View sig κ sp16 S2x512x128 .f32) (n : ℕ)
    (f11 : v11.ty.Contents (Elt Ideal)) (f12 : v12.ty.Contents (Elt Ideal)) (f13 : v13.ty.Contents (Elt Ideal))
    (f15 : v15.ty.Contents (Elt Ideal)) (f16 : v16.ty.Contents (Elt Ideal)) : Prop where
  dk : ∀ e j d, v11.read (Elt Ideal) f11 (ix2 j (lane e d)) = ((Kk e j d + (if j.val < 512 * n then dkT D a (hd p e) j d else 0) : ℝ) : EReal)
  dv : ∀ e j d, v12.read (Elt Ideal) f12 (ix2 j (lane e d)) = ((Kv e j d + (if j.val < 512 * n then dvT D a (hd p e) j d else 0) : ℝ) : EReal)
  dc : ∀ e j, v13.read (Elt Ideal) f13 (ix3 e 0 j) = ((Kc e j - (if j.val < 512 * n then dcT D a (hd p e) j else 0) : ℝ) : EReal)
  dq : ∀ e x d, v15.read (Elt Ideal) f15 (ix3 e x d) = ((dqS D a n (hd p e) x d : ℝ) : EReal)
  rs : ∀ e x d, v16.read (Elt Ideal) f16 (ix3 e x d) = ((rsS D a n (hd p e) x : ℝ) : EReal)

theorem dqS_succ (D : Data) (a n : Fin 4) (h : Fin 16) (x : Fin 512) (d : Fin 128) :
    dqS D a n.val h x d + ∑ j : Fin 512, D.ds h (row a x) (row n j) * factor * D.k h (row n j) d = dqS D a (n.val + 1) h x d :=
  (Tile.sum_lt_succ (fun j => D.ds h (row a x) j * factor * D.k h j d) n).symm

theorem rsS_succ (D : Data) (a n : Fin 4) (h : Fin 16) (x : Fin 512) :
    rsS D a n.val h x + ∑ j : Fin 512, D.ds h (row a x) (row n j) = rsS D a (n.val + 1) h x :=
  (Tile.sum_lt_succ (fun j => D.ds h (row a x) j) n).symm

namespace St

variable {κ : Kind} {sp11 sp12 sp13 sp15 sp16 : Space} {D : Data} {p : Fin 8} {a n : Fin 4} {Kk Kv : Fin 2 → Fin 2048 → Fin 128 → ℝ} {Kc : Fin 2 → Fin 2048 → ℝ}
    {v11 : View sig κ sp11 S2048x256 .f32} {v12 : View sig κ sp12 S2048x256 .f32} {v13 : View sig κ sp13 S2x1x2048 .f32}
    {v15 : View sig κ sp15 S2x512x128 .f32} {v16 : View sig κ sp16 S2x512x128 .f32}
    {f11 : v11.ty.Contents (Elt Ideal)} {f12 : v12.ty.Contents (Elt Ideal)} {f13 : v13.ty.Contents (Elt Ideal)}
    {f15 : v15.ty.Contents (Elt Ideal)} {f16 : v16.ty.Contents (Elt Ideal)}

/-! At block `n` itself the accumulators over the keys still hold what the point found. -/

theorem dk_at (S : St D p a Kk Kv Kc v11 v12 v13 v15 v16 n.val f11 f12 f13 f15 f16) (e : Fin 2) (r : Fin 512) (d : Fin 128) :
    v11.read (Elt Ideal) f11 (ix2 (row n r) (lane e d)) = (Kk e (row n r) d : EReal) := by
  rw [S.dk, if_neg (by show ¬(512 * n.val + r.val < 512 * n.val); omega), add_zero]

theorem dv_at (S : St D p a Kk Kv Kc v11 v12 v13 v15 v16 n.val f11 f12 f13 f15 f16) (e : Fin 2) (r : Fin 512) (d : Fin 128) :
    v12.read (Elt Ideal) f12 (ix2 (row n r) (lane e d)) = (Kv e (row n r) d : EReal) := by
  rw [S.dv, if_neg (by show ¬(512 * n.val + r.val < 512 * n.val); omega), add_zero]

theorem dc_at (S : St D p a Kk Kv Kc v11 v12 v13 v15 v16 n.val f11 f12 f13 f15 f16) (e : Fin 2) (r : Fin 512) :
    v13.read (Elt Ideal) f13 (ix3 e 0 (row n r)) = (Kc e (row n r) : EReal) := by
  rw [S.dc, if_neg (by show ¬(512 * n.val + r.val < 512 * n.val); omega), sub_zero]

end St

/-! ### The accumulators' steps, given a pair of blocks' derivative and weights -/

section Pays

variable {D : Data} {h : Fin 16} {a n : Fin 4} {q g k : Vec Ideal S512x128 .bf16} {ds w : FVec Ideal S512x512 .f32} {o : ℝ}

theorem dkPay (hds : ∀ i j, ds (ix2 i j) = (D.ds h (row a i) (row n j) : EReal)) (hq : ∀ i d, q (ix2 i d) = (D.q h (row a i) d : EReal))
    {old : Vec Ideal S512x128 .f32} (r : Fin 512) (d : Fin 128) (ho : old (ix2 r d) = (o : EReal)) :
    addf (shapeCast S512x128 old Facts₀.shapeCasts_S512x128_S512x128)
      (matmul (φ₂ := .bf16) dot_S512x512_S512x128_S512x128_0_0_1_1_n_n none (k0_pay64 (F := Ideal) ds) q (constant S512x128 .f32 0x00000000#32)) (ix2 r d)
      = ((o + dkT D a h (row n r) d : ℝ) : EReal) :=
  Tile.accT (M := fun i j => D.ds h (row a i) (row n j) * factor) (X := fun i d => D.q h (row a i) d) _ _ _ r d
    (fun i => Tile.scaled ds hds i r) (fun i => hq i d) ho

theorem dvPay (hw : ∀ i j, w (ix2 i j) = (D.p h (row a i) (row n j) : EReal)) (hg : ∀ i d, g (ix2 i d) = (D.g h (row a i) d : EReal))
    {old : Vec Ideal S512x128 .f32} (r : Fin 512) (d : Fin 128) (ho : old (ix2 r d) = (o : EReal)) :
    addf (shapeCast S512x128 old Facts₀.shapeCasts_S512x128_S512x128)
      (matmul (φ₂ := .bf16) dot_S512x512_S512x128_S512x128_0_0_1_1_n_n none (truncf .bf16 w Facts₀.bitsLt_bf16_f32) g (constant S512x128 .f32 0x00000000#32)) (ix2 r d)
      = ((o + dvT D a h (row n r) d : ℝ) : EReal) :=
  Tile.accT (M := fun i j => D.p h (row a i) (row n j)) (X := fun i d => D.g h (row a i) d) _ _ _ r d
    (fun i => hw i r) (fun i => hg i d) ho

theorem dcPay (hds : ∀ i j, ds (ix2 i j) = (D.ds h (row a i) (row n j) : EReal))
    {old : Vec Ideal S1x1x512 .f32} (r : Fin 512) (ho : old (ix3 0 0 r) = (o : EReal)) :
    k0_pay8 (F := Ideal) ds old (ix3 0 0 r) = ((o - dcT D a h (row n r) : ℝ) : EReal) :=
  Tile.subCol (M := fun i j => D.ds h (row a i) (row n j)) _ _ 0 0 r (fun i => hds i r) ho

theorem dqPay (hds : ∀ i j, ds (ix2 i j) = (D.ds h (row a i) (row n j) : EReal)) (hk : ∀ j d, k (ix2 j d) = (D.k h (row n j) d : EReal))
    {old : Vec Ideal S1x512x128 .f32} (r : Fin 512) (d : Fin 128) (ho : old (ix3 0 r d) = ((dqS D a n.val h r d : ℝ) : EReal)) :
    k0_pay7 (F := Ideal) k (k0_pay64 (F := Ideal) ds) old (ix3 0 r d) = ((dqS D a (n.val + 1) h r d : ℝ) : EReal) := by
  rw [← dqS_succ]
  exact Tile.accN (M := fun i j => D.ds h (row a i) (row n j) * factor) (X := fun j d => D.k h (row n j) d) _ _ _ 0 r d
    (fun j => Tile.scaled ds hds r j) (fun j => hk j d) ho

theorem rsPay (hds : ∀ i j, ds (ix2 i j) = (D.ds h (row a i) (row n j) : EReal))
    {old : Vec Ideal S1x512x128 .f32} (r : Fin 512) (d : Fin 128) (ho : old (ix3 0 r d) = ((rsS D a n.val h r : ℝ) : EReal)) :
    k0_pay9 (F := Ideal) ds old (ix3 0 r d) = ((rsS D a (n.val + 1) h r : ℝ) : EReal) := by
  rw [← rsS_succ]
  exact Tile.addRow (M := fun i j => D.ds h (row a i) (row n j)) _ _ 0 r d (fun j => hds r j) ho

end Pays

/-! ### The trip -/

section Trip

variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S2x512x1 .f32) (harg5 : arg5.IsWhole)
  (arg6 : Memref sig .tc .vmem S2x1x2048 .f32) (harg6 : arg6.IsWhole)
  (arg7 : Memref sig .tc .vmem S512x256 .bf16) (harg7 : arg7.IsWhole)
  (arg8 : Memref sig .tc .vmem S512x256 .f32) (harg8 : arg8.IsWhole)
  (arg9 : Memref sig .tc .vmem S2x512x128 .f32) (harg9 : arg9.IsWhole)
  (arg10 : Memref sig .tc .vmem S512x256 .bf16) (harg10 : arg10.IsWhole)
  (arg11 : Memref sig .tc .vmem S2048x256 .f32) (harg11 : arg11.IsWhole)
  (arg12 : Memref sig .tc .vmem S2048x256 .f32) (harg12 : arg12.IsWhole)
  (arg13 : Memref sig .tc .vmem S2x1x2048 .f32) (harg13 : arg13.IsWhole)
  (arg14 : Memref sig .tc .vmem S2x512x1 .f32) (harg14 : arg14.IsWhole)
  (arg15 : Memref sig .tc .vmem S2x512x128 .f32) (harg15 : arg15.IsWhole)
  (arg16 : Memref sig .tc .vmem S2x512x128 .f32) (harg16 : arg16.IsWhole)
  (arg1 : BitVec 32) (v3 v4 v5 v6 : Vec Ideal S512x128 .bf16) (v12 v18 v21 v24 : FVec Ideal S512x1 .f32)
  (cst : Ideal .f32) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)

/-- What the two loops read and never store: the keys, the values and the gates of head pair `p`, and the queries' side of
    query block `a`. -/
structure Fixed (D : Data) (p : Fin 8) (a : Fin 4) : Prop where
  k : ∀ e j d, arg3.view.read (Elt Ideal) X3 (ix2 j (lane e d)) = (D.k (hd p e) j d : EReal)
  v : ∀ e j d, arg4.view.read (Elt Ideal) X4 (ix2 j (lane e d)) = (D.v (hd p e) j d : EReal)
  cr : ∀ e j, arg6.view.read (Elt Ideal) X6 (ix3 e 0 j) = (D.u (hd p e) j : EReal)
  q0 : QReads D (hd p 0) a v3 v5 v21 v12 (View.readAt (Elt Ideal) arg5.view (Rect.unit (s := S2x512x1) ![0, 0, 0] S1x512x1.size Facts₀.inb_S2x512x1_S1x512x1_0_0_0).toLoadRect X5)
  q1 : QReads D (hd p 1) a v4 v6 v24 v18 (View.readAt (Elt Ideal) arg5.view (Rect.unit (s := S2x512x1) ![1, 0, 0] S1x512x1.size Facts₀.inb_S2x512x1_S1x512x1_1_0_0).toLoadRect X5)

variable {D : Data} {p : Fin 8} {a : Fin 4}

variable {c i arg2 harg2 arg3 harg3 arg4 harg4 arg5 harg5 arg6 harg6 arg7 harg7 arg8 harg8 arg9 harg9 arg10 harg10 arg11 harg11 arg12 harg12 arg13 harg13 arg14 harg14
  arg15 harg15 arg16 harg16 arg1 v3 v4 v5 v6 v12 v18 v21 v24 cst X3 X4 X5 X6}

/-- A head's keys, values and gates at block `n`, as loaded. -/
theorem Fixed.kreads (H : Fixed arg3 arg4 arg5 arg6 v3 v4 v5 v6 v12 v18 v21 v24 X3 X4 X5 X6 D p a) (n : Fin 4) (e : Fin 2)
    {o2 o2' : Fin 2 → ℕ} {o3 : Fin 3 → ℕ} (inb2) (inb2') (inb3)
    (h2 : o2 = ![512 * n.val, 128 * e.val]) (h2' : o2' = ![512 * n.val, 128 * e.val]) (h3 : o3 = ![e.val, 0, 512 * n.val]) :
    KReads D (hd p e) n (View.readAt (Elt Ideal) arg3.view (Rect.unit (s := S2048x256) o2 S512x128.size inb2).toLoadRect X3)
      (View.readAt (Elt Ideal) arg4.view (Rect.unit (s := S2048x256) o2' S512x128.size inb2').toLoadRect X4)
      (View.readAt (Elt Ideal) arg6.view (Rect.unit (s := S2x1x2048) o3 S1x1x512.size inb3).toLoadRect X6) where
  k j d := (Steps.load2 arg3.view X3 (512 * n.val) e inb2 h2 j d (row n j) rfl).trans (H.k e _ d)
  v j d := (Steps.load2 arg4.view X4 (512 * n.val) e inb2' h2' j d (row n j) rfl).trans (H.v e _ d)
  cr j := (Steps.load3r arg6.view X6 (512 * n.val) e inb3 h3 0 0 j (row n j) rfl).trans (H.cr e _)

variable {Kk Kv : Fin 2 → Fin 2048 → Fin 128 → ℝ} {Kc : Fin 2 → Fin 2048 → ℝ}
  {f11 : BufTy.Contents (Elt Ideal) arg11.view.ty} {f12 : BufTy.Contents (Elt Ideal) arg12.view.ty}
  {f13 : BufTy.Contents (Elt Ideal) arg13.view.ty} {f15 : BufTy.Contents (Elt Ideal) arg15.view.ty}
  {f16 : BufTy.Contents (Elt Ideal) arg16.view.ty}

/-- One trip takes the accumulators from the blocks before `n` to the blocks before `n + 1`. -/
theorem trip_step (H : Fixed arg3 arg4 arg5 arg6 v3 v4 v5 v6 v12 v18 v21 v24 X3 X4 X5 X6 D p a)
    (n : Fin 4) (k : Fin (k0_t1_loop i).trips) (hk : k.val = n.val) (hn : n < a)
    (S : St D p a Kk Kv Kc arg11.view arg12.view arg13.view arg15.view arg16.view n.val f11 f12 f13 f15 f16) :
    St D p a Kk Kv Kc arg11.view arg12.view arg13.view arg15.view arg16.view (n.val + 1)
      (arg11.view.writes (Elt Ideal) f11 (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst X3 X4 X5 X6 k f11 f12 f13 f15 f16).1)
      (arg12.view.writes (Elt Ideal) f12 (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst X3 X4 X5 X6 k f11 f12 f13 f15 f16).2.1)
      (arg13.view.writes (Elt Ideal) f13 (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst X3 X4 X5 X6 k f11 f12 f13 f15 f16).2.2.1)
      (arg15.view.writes (Elt Ideal) f15 (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst X3 X4 X5 X6 k f11 f12 f13 f15 f16).2.2.2.1)
      (arg16.view.writes (Elt Ideal) f16 (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst X3 X4 X5 X6 k f11 f12 f13 f15 f16).2.2.2.2) := by
  have K0 := H.kreads n 0 (o2 := k0_off1 i k) (o2' := k0_off1 i k) (o3 := k0_off2 i k) (Facts₀.k0_off1_inb i k) (Facts₀.k0_off1_inb i k) (Facts₀.k0_off2_inb i k)
    (off1 i k n hk) (off1 i k n hk) (off2 i k n hk)
  have K1 := H.kreads n 1 (o2 := k0_off3 i k) (o2' := k0_off3 i k) (o3 := k0_off4 i k) (Facts₀.k0_off3_inb i k) (Facts₀.k0_off3_inb i k) (Facts₀.k0_off4_inb i k)
    (off3 i k n hk) (off3 i k n hk) (off4 i k n hk)
  have P0 := Tile.p_off H.q0 K0 hn
  have P1 := Tile.p_off H.q1 K1 hn
  have E0 := Tile.ds_off H.q0 K0 hn
  have E1 := Tile.ds_off H.q1 K1 hn
  unfold tripL_k0_t1 trip_k0_t1
  dsimp only
  refine ⟨?_, ?_, ?_, ?_, ?_⟩
  · refine Steps.store2 arg11.view f11 n S.dk _ _ (off1 i k n hk) (off3 i k n hk) _ _ (fun r d => ?_) (fun r d => ?_)
    · exact dkPay E0 H.q0.q r d ((Steps.load2 arg11.view f11 (512 * n.val) 0 _ (off1 i k n hk) r d (row n r) rfl).trans (S.dk_at 0 r d))
    · exact dkPay E1 H.q1.q r d ((Steps.load2 arg11.view f11 (512 * n.val) 1 _ (off3 i k n hk) r d (row n r) rfl).trans (S.dk_at 1 r d))
  · refine Steps.store2 arg12.view f12 n S.dv _ _ (off1 i k n hk) (off3 i k n hk) _ _ (fun r d => ?_) (fun r d => ?_)
    · exact dvPay P0 H.q0.g r d ((Steps.load2 arg12.view f12 (512 * n.val) 0 _ (off1 i k n hk) r d (row n r) rfl).trans (S.dv_at 0 r d))
    · exact dvPay P1 H.q1.g r d ((Steps.load2 arg12.view f12 (512 * n.val) 1 _ (off3 i k n hk) r d (row n r) rfl).trans (S.dv_at 1 r d))
  · refine Steps.store3r arg13.view f13 n S.dc _ _ (off2 i k n hk) (off4 i k n hk) _ _ (fun r => ?_) (fun r => ?_)
    · exact dcPay E0 r ((Steps.load3r arg13.view f13 (512 * n.val) 0 _ (off2 i k n hk) 0 0 r (row n r) rfl).trans (S.dc_at 0 r))
    · exact dcPay E1 r ((Steps.load3r arg13.view f13 (512 * n.val) 1 _ (off4 i k n hk) 0 0 r (row n r) rfl).trans (S.dc_at 1 r))
  · refine Steps.storeS arg15.view f15 [] _ _ _ _ (fun r d => ?_) (fun r d => ?_)
    · exact dqPay E0 K0.k r d ((Steps.load3c arg15.view f15 0 _ rfl 0 r d d rfl).trans (S.dq 0 r d))
    · exact dqPay E1 K1.k r d ((Steps.load3c arg15.view f15 1 _ rfl 0 r d d rfl).trans (S.dq 1 r d))
  · refine Steps.storeS arg16.view f16 [] _ _ _ _ (fun r d => ?_) (fun r d => ?_)
    · exact rsPay E0 r d ((Steps.load3c arg16.view f16 0 _ rfl 0 r d d rfl).trans (S.rs 0 r d))
    · exact rsPay E1 r d ((Steps.load3c arg16.view f16 1 _ rfl 0 r d d rfl).trans (S.rs 1 r d))

/-- The loop's trips together: the accumulators after `n` of them. -/
theorem loop_step (H : Fixed arg3 arg4 arg5 arg6 v3 v4 v5 v6 v12 v18 v21 v24 X3 X4 X5 X6 D p a)
    (S : St D p a Kk Kv Kc arg11.view arg12.view arg13.view arg15.view arg16.view 0 f11 f12 f13 f15 f16) (ha : (i 1).val = a.val)
    (n : ℕ) (hn : n ≤ a.val) :
    St D p a Kk Kv Kc arg11.view arg12.view arg13.view arg15.view arg16.view n
      (arg11.view.writes (Elt Ideal) f11 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst X3 X4 X5 X6 f11 f12 f13 f15 f16 n).1)
      (arg12.view.writes (Elt Ideal) f12 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst X3 X4 X5 X6 f11 f12 f13 f15 f16 n).2.1)
      (arg13.view.writes (Elt Ideal) f13 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst X3 X4 X5 X6 f11 f12 f13 f15 f16 n).2.2.1)
      (arg15.view.writes (Elt Ideal) f15 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst X3 X4 X5 X6 f11 f12 f13 f15 f16 n).2.2.2.1)
      (arg16.view.writes (Elt Ideal) f16 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst X3 X4 X5 X6 f11 f12 f13 f15 f16 n).2.2.2.2) := by
  induction n with
  | zero => exact S
  | succ n ih =>
    have ht : n < (k0_t1_loop i).trips := by rw [trips1, ha]; omega
    have T := trip_step (c := c) (i := i) (arg2 := arg2) (harg2 := harg2) (harg3 := harg3) (harg4 := harg4) (harg5 := harg5) (harg6 := harg6)
      (arg7 := arg7) (harg7 := harg7) (arg8 := arg8) (harg8 := harg8) (arg9 := arg9) (harg9 := harg9) (arg10 := arg10) (harg10 := harg10)
      (harg11 := harg11) (harg12 := harg12) (harg13 := harg13) (arg14 := arg14) (harg14 := harg14) (harg15 := harg15) (harg16 := harg16)
      (arg1 := arg1) (cst := cst) H ⟨n, by omega⟩ ⟨n, ht⟩ rfl (Fin.lt_def.mpr (by show n < a.val; omega)) (ih (by omega))
    rw [← View.writes_append, ← View.writes_append, ← View.writes_append, ← View.writes_append, ← View.writes_append] at T
    rw [pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst X3 X4 X5 X6 f11 f12 f13 f15 f16 ⟨n, ht⟩]
    exact T

end Trip

end Cert.Fox
-- ==== Proof.Diag.lean ====
/- The diagonal block: its two heads' stores, one after the other, take the accumulators past query block `a` itself. -/
module

public import proofs.«01_k».proof.Proof.Trip

@[expose] public section

noncomputable section

namespace Cert.Fox

open Idealize.ShloMosaic hiding ix1 ix2 ix3 ix4
open Idealize.ShloMosaic.TcCoe Idealize.ShloMosaic.ValueIdx
open Cert.KernelIdeal Cert.KernelIdeal.Gen
open Tile (row)

namespace Steps

variable {κ : Kind} {sp : Space}

/-! ### The second head's loads do not see the first head's store -/

theorem skip2 (v : View sig κ sp S2048x256 .f32) (f : v.ty.Contents (Elt Ideal)) (o : ℕ) {off0 off1 : Fin 2 → ℕ} (inb0) (inb1)
    (h0 : off0 = ![o, 0]) (h1 : off1 = ![o, 128]) (w0 : (Rect.unit (s := S2048x256) off0 S512x128.size inb0).shape.Idx → Elt Ideal .f32)
    (P : List (View.Piece (Elt Ideal) S2048x256 .f32)) (r : Fin 512) (d : Fin 128) (j : Fin 2048) (hj : j.val = o + r.val) :
    v.readAt (Elt Ideal) (Rect.unit (s := S2048x256) off1 S512x128.size inb1).toLoadRect (v.writes (Elt Ideal) f (⟨Rect.unit off0 S512x128.size inb0, w0⟩ :: P)) (ix2 r d)
      = v.read (Elt Ideal) (v.writes (Elt Ideal) f P) (ix2 j (lane 1 d)) := by
  rw [load2 v _ o 1 inb1 h1 r d j hj,
    View.read_writes_cons_unit_of_not_mem _ _ inb0 w0 _ _ h0 1 (Or.inr (by show 0 + 128 ≤ 128 * 1 + d.val; omega))]

theorem skip3r (v : View sig κ sp S2x1x2048 .f32) (f : v.ty.Contents (Elt Ideal)) (o : ℕ) {off0 off1 : Fin 3 → ℕ} (inb0) (inb1)
    (h0 : off0 = ![0, 0, o]) (h1 : off1 = ![1, 0, o]) (w0 : (Rect.unit (s := S2x1x2048) off0 S1x1x512.size inb0).shape.Idx → Elt Ideal .f32)
    (P : List (View.Piece (Elt Ideal) S2x1x2048 .f32)) (r : Fin 512) (j : Fin 2048) (hj : j.val = o + r.val) :
    v.readAt (Elt Ideal) (Rect.unit (s := S2x1x2048) off1 S1x1x512.size inb1).toLoadRect (v.writes (Elt Ideal) f (⟨Rect.unit off0 S1x1x512.size inb0, w0⟩ :: P))
        (ix3 0 0 r)
      = v.read (Elt Ideal) (v.writes (Elt Ideal) f P) (ix3 1 0 j) := by
  rw [load3r v _ o 1 inb1 h1 0 0 r j hj,
    View.read_writes_cons_unit_of_not_mem _ _ inb0 w0 _ _ h0 0 (Or.inr (by show 0 + 1 ≤ 1; omega))]

theorem skipS (v : View sig κ sp S2x512x128 .f32) (f : v.ty.Contents (Elt Ideal)) (inb0) (inb1)
    (w0 : (Rect.unit (s := S2x512x128) ![0, 0, 0] S1x512x128.size inb0).shape.Idx → Elt Ideal .f32)
    (P : List (View.Piece (Elt Ideal) S2x512x128 .f32)) (r : Fin 512) (d : Fin 128) :
    v.readAt (Elt Ideal) (Rect.unit (s := S2x512x128) ![1, 0, 0] S1x512x128.size inb1).toLoadRect
        (v.writes (Elt Ideal) f (⟨Rect.unit ![0, 0, 0] S1x512x128.size inb0, w0⟩ :: P)) (ix3 0 r d)
      = v.read (Elt Ideal) (v.writes (Elt Ideal) f P) (ix3 1 r d) := by
  rw [load3c v _ 1 inb1 rfl 0 r d d rfl,
    View.read_writes_cons_unit_of_not_mem _ _ inb0 w0 _ _ rfl 0 (Or.inr (by show 0 + 1 ≤ 1; omega))]

end Steps

variable {κ : Kind} {sp11 sp12 sp13 sp15 sp16 : Space} {D : Data} {p : Fin 8} {a : Fin 4} {Kk Kv : Fin 2 → Fin 2048 → Fin 128 → ℝ} {Kc : Fin 2 → Fin 2048 → ℝ}
    {v11 : View sig κ sp11 S2048x256 .f32} {v12 : View sig κ sp12 S2048x256 .f32} {v13 : View sig κ sp13 S2x1x2048 .f32}
    {v15 : View sig κ sp15 S2x512x128 .f32} {v16 : View sig κ sp16 S2x512x128 .f32}
    {f11 : v11.ty.Contents (Elt Ideal)} {f12 : v12.ty.Contents (Elt Ideal)} {f13 : v13.ty.Contents (Elt Ideal)}
    {f15 : v15.ty.Contents (Elt Ideal)} {f16 : v16.ty.Contents (Elt Ideal)}
    {P11 P12 : List (View.Piece (Elt Ideal) S2048x256 .f32)} {P13 : List (View.Piece (Elt Ideal) S2x1x2048 .f32)}
    {P15 P16 : List (View.Piece (Elt Ideal) S2x512x128 .f32)}
    {q0 q1 g0 g1 k0 k1 : Vec Ideal S512x128 .bf16} {w0 w1 ds0 ds1 : FVec Ideal S512x512 .f32}

/-- The step past block `a`, over pieces already stored. -/
theorem diag_step {o0 o1 : Fin 2 → ℕ} {o0' o1' : Fin 3 → ℕ} (inb0) (inb1) (inb0') (inb1')
    (h0 : o0 = ![512 * a.val, 0]) (h1 : o1 = ![512 * a.val, 128]) (h0' : o0' = ![0, 0, 512 * a.val]) (h1' : o1' = ![1, 0, 512 * a.val])
    (hq0 : ∀ i d, q0 (ix2 i d) = (D.q (hd p 0) (row a i) d : EReal)) (hq1 : ∀ i d, q1 (ix2 i d) = (D.q (hd p 1) (row a i) d : EReal))
    (hg0 : ∀ i d, g0 (ix2 i d) = (D.g (hd p 0) (row a i) d : EReal)) (hg1 : ∀ i d, g1 (ix2 i d) = (D.g (hd p 1) (row a i) d : EReal))
    (hk0 : ∀ i d, k0 (ix2 i d) = (D.k (hd p 0) (row a i) d : EReal)) (hk1 : ∀ i d, k1 (ix2 i d) = (D.k (hd p 1) (row a i) d : EReal))
    (hw0 : ∀ i j, w0 (ix2 i j) = (D.p (hd p 0) (row a i) (row a j) : EReal)) (hw1 : ∀ i j, w1 (ix2 i j) = (D.p (hd p 1) (row a i) (row a j) : EReal))
    (hd0 : ∀ i j, ds0 (ix2 i j) = (D.ds (hd p 0) (row a i) (row a j) : EReal)) (hd1 : ∀ i j, ds1 (ix2 i j) = (D.ds (hd p 1) (row a i) (row a j) : EReal))
    (S : St D p a Kk Kv Kc v11 v12 v13 v15 v16 a.val (v11.writes (Elt Ideal) f11 P11) (v12.writes (Elt Ideal) f12 P12) (v13.writes (Elt Ideal) f13 P13)
      (v15.writes (Elt Ideal) f15 P15) (v16.writes (Elt Ideal) f16 P16)) :
    let A11 : View.Piece (Elt Ideal) S2048x256 .f32 := ⟨Rect.unit (s := S2048x256) o0 S512x128.size inb0,
      addf (shapeCast S512x128 (v11.readAt (Elt Ideal) (Rect.unit (s := S2048x256) o0 S512x128.size inb0).toLoadRect (v11.writes (Elt Ideal) f11 P11) : Vec Ideal S512x128 .f32) Facts₀.shapeCasts_S512x128_S512x128)
        (matmul (φ₂ := .bf16) dot_S512x512_S512x128_S512x128_0_0_1_1_n_n none (k0_pay64 (F := Ideal) ds0) q0 (constant S512x128 .f32 0x00000000#32))⟩
    let A12 : View.Piece (Elt Ideal) S2048x256 .f32 := ⟨Rect.unit (s := S2048x256) o0 S512x128.size inb0,
      addf (shapeCast S512x128 (v12.readAt (Elt Ideal) (Rect.unit (s := S2048x256) o0 S512x128.size inb0).toLoadRect (v12.writes (Elt Ideal) f12 P12) : Vec Ideal S512x128 .f32) Facts₀.shapeCasts_S512x128_S512x128)
        (matmul (φ₂ := .bf16) dot_S512x512_S512x128_S512x128_0_0_1_1_n_n none (truncf .bf16 w0 Facts₀.bitsLt_bf16_f32) g0 (constant S512x128 .f32 0x00000000#32))⟩
    let A13 : View.Piece (Elt Ideal) S2x1x2048 .f32 := ⟨Rect.unit (s := S2x1x2048) o0' S1x1x512.size inb0',
      k0_pay8 (F := Ideal) ds0 (v13.readAt (Elt Ideal) (Rect.unit (s := S2x1x2048) o0' S1x1x512.size inb0').toLoadRect (v13.writes (Elt Ideal) f13 P13))⟩
    let A15 : View.Piece (Elt Ideal) S2x512x128 .f32 := ⟨Rect.unit (s := S2x512x128) ![0, 0, 0] S1x512x128.size Facts₀.inb_S2x512x128_S1x512x128_0_0_0,
      k0_pay7 (F := Ideal) k0 (k0_pay64 (F := Ideal) ds0) (v15.readAt (Elt Ideal) (Rect.unit (s := S2x512x128) ![0, 0, 0] S1x512x128.size Facts₀.inb_S2x512x128_S1x512x128_0_0_0).toLoadRect (v15.writes (Elt Ideal) f15 P15))⟩
    let A16 : View.Piece (Elt Ideal) S2x512x128 .f32 := ⟨Rect.unit (s := S2x512x128) ![0, 0, 0] S1x512x128.size Facts₀.inb_S2x512x128_S1x512x128_0_0_0,
      k0_pay9 (F := Ideal) ds0 (v16.readAt (Elt Ideal) (Rect.unit (s := S2x512x128) ![0, 0, 0] S1x512x128.size Facts₀.inb_S2x512x128_S1x512x128_0_0_0).toLoadRect (v16.writes (Elt Ideal) f16 P16))⟩
    St D p a Kk Kv Kc v11 v12 v13 v15 v16 (a.val + 1)
      (v11.writes (Elt Ideal) f11 (⟨Rect.unit (s := S2048x256) o1 S512x128.size inb1,
        addf (shapeCast S512x128 (v11.readAt (Elt Ideal) (Rect.unit (s := S2048x256) o1 S512x128.size inb1).toLoadRect (v11.writes (Elt Ideal) f11 (A11 :: P11)) : Vec Ideal S512x128 .f32) Facts₀.shapeCasts_S512x128_S512x128)
        (matmul (φ₂ := .bf16) dot_S512x512_S512x128_S512x128_0_0_1_1_n_n none (k0_pay64 (F := Ideal) ds1) q1 (constant S512x128 .f32 0x00000000#32))⟩ :: A11 :: P11))
      (v12.writes (Elt Ideal) f12 (⟨Rect.unit (s := S2048x256) o1 S512x128.size inb1,
        addf (shapeCast S512x128 (v12.readAt (Elt Ideal) (Rect.unit (s := S2048x256) o1 S512x128.size inb1).toLoadRect (v12.writes (Elt Ideal) f12 (A12 :: P12)) : Vec Ideal S512x128 .f32) Facts₀.shapeCasts_S512x128_S512x128)
        (matmul (φ₂ := .bf16) dot_S512x512_S512x128_S512x128_0_0_1_1_n_n none (truncf .bf16 w1 Facts₀.bitsLt_bf16_f32) g1 (constant S512x128 .f32 0x00000000#32))⟩ :: A12 :: P12))
      (v13.writes (Elt Ideal) f13 (⟨Rect.unit (s := S2x1x2048) o1' S1x1x512.size inb1',
        k0_pay8 (F := Ideal) ds1 (v13.readAt (Elt Ideal) (Rect.unit (s := S2x1x2048) o1' S1x1x512.size inb1').toLoadRect (v13.writes (Elt Ideal) f13 (A13 :: P13)))⟩ :: A13 :: P13))
      (v15.writes (Elt Ideal) f15 (⟨Rect.unit (s := S2x512x128) ![1, 0, 0] S1x512x128.size Facts₀.inb_S2x512x128_S1x512x128_1_0_0,
        k0_pay7 (F := Ideal) k1 (k0_pay64 (F := Ideal) ds1) (v15.readAt (Elt Ideal) (Rect.unit (s := S2x512x128) ![1, 0, 0] S1x512x128.size Facts₀.inb_S2x512x128_S1x512x128_1_0_0).toLoadRect (v15.writes (Elt Ideal) f15 (A15 :: P15)))⟩ :: A15 :: P15))
      (v16.writes (Elt Ideal) f16 (⟨Rect.unit (s := S2x512x128) ![1, 0, 0] S1x512x128.size Facts₀.inb_S2x512x128_S1x512x128_1_0_0,
        k0_pay9 (F := Ideal) ds1 (v16.readAt (Elt Ideal) (Rect.unit (s := S2x512x128) ![1, 0, 0] S1x512x128.size Facts₀.inb_S2x512x128_S1x512x128_1_0_0).toLoadRect (v16.writes (Elt Ideal) f16 (A16 :: P16)))⟩ :: A16 :: P16)) := by
  intro A11 A12 A13 A15 A16
  refine ⟨?_, ?_, ?_, ?_, ?_⟩
  · exact Steps.store2 v11 (v11.writes (Elt Ideal) f11 P11) a S.dk inb0 inb1 h0 h1 _ _
      (fun r d => dkPay hd0 hq0 r d ((Steps.load2 v11 _ (512 * a.val) 0 inb0 h0 r d (row a r) rfl).trans (S.dk_at 0 r d)))
      (fun r d => dkPay hd1 hq1 r d ((Steps.skip2 v11 f11 (512 * a.val) inb0 inb1 h0 h1 _ P11 r d (row a r) rfl).trans (S.dk_at 1 r d)))
  · exact Steps.store2 v12 (v12.writes (Elt Ideal) f12 P12) a S.dv inb0 inb1 h0 h1 _ _
      (fun r d => dvPay hw0 hg0 r d ((Steps.load2 v12 _ (512 * a.val) 0 inb0 h0 r d (row a r) rfl).trans (S.dv_at 0 r d)))
      (fun r d => dvPay hw1 hg1 r d ((Steps.skip2 v12 f12 (512 * a.val) inb0 inb1 h0 h1 _ P12 r d (row a r) rfl).trans (S.dv_at 1 r d)))
  · exact Steps.store3r v13 (v13.writes (Elt Ideal) f13 P13) a S.dc inb0' inb1' h0' h1' _ _
      (fun r => dcPay hd0 r ((Steps.load3r v13 _ (512 * a.val) 0 inb0' h0' 0 0 r (row a r) rfl).trans (S.dc_at 0 r)))
      (fun r => dcPay hd1 r ((Steps.skip3r v13 f13 (512 * a.val) inb0' inb1' h0' h1' _ P13 r (row a r) rfl).trans (S.dc_at 1 r)))
  · exact Steps.storeS v15 f15 P15 _ _ _ _
      (fun r d => dqPay hd0 hk0 r d ((Steps.load3c v15 _ 0 _ rfl 0 r d d rfl).trans (S.dq 0 r d)))
      (fun r d => dqPay hd1 hk1 r d ((Steps.skipS v15 f15 _ _ _ P15 r d).trans (S.dq 1 r d)))
  · exact Steps.storeS v16 f16 P16 _ _ _ _
      (fun r d => rsPay hd0 r d ((Steps.load3c v16 _ 0 _ rfl 0 r d d rfl).trans (S.rs 0 r d)))
      (fun r d => rsPay hd1 r d ((Steps.skipS v16 f16 _ _ _ P16 r d).trans (S.rs 1 r d)))

end Cert.Fox
-- ==== Proof.Point.lean ====
/- One point of the grid: the head pair and the query block its blocks belong to, and what it leaves of its five results. -/
module

public import proofs.«01_k».proof.Proof.Diag
public import proofs.«01_k».proof.Proof.Gen.KernelIdeal.Frame
public import Idealize.ShloMosaic.Lib.VecWindow

@[expose] public section

noncomputable section

namespace Cert.Fox

open Idealize.ShloMosaic hiding ix1 ix2 ix3 ix4
open Idealize.ShloMosaic.TcCoe Idealize.ShloMosaic.ValueIdx
open Cert.KernelIdeal Cert.KernelIdeal.Gen
open Tile (row QReads KReads)

/-! ### The sums over every key block up to the query's own -/

theorem dqS_all (D : Data) (a : Fin 4) (h : Fin 16) (x : Fin 512) (d : Fin 128) : dqS D a (a.val + 1) h x d = D.dq h (row a x) d := by
  refine Finset.sum_congr rfl fun j _ => ?_
  by_cases hj : j.val < 512 * (a.val + 1)
  · rw [if_pos hj]
  · rw [if_neg hj, D.ds_of_lt h (row a x) j (by show 512 * a.val + x.val < j.val; omega), zero_mul, zero_mul]

theorem rsS_all (D : Data) (a : Fin 4) (h : Fin 16) (x : Fin 512) : rsS D a (a.val + 1) h x = D.dcq h (row a x) := by
  refine Finset.sum_congr rfl fun j _ => ?_
  by_cases hj : j.val < 512 * (a.val + 1)
  · rw [if_pos hj]
  · rw [if_neg hj, D.ds_of_lt h (row a x) j (by show 512 * a.val + x.val < j.val; omega)]

theorem dkT_of_le (D : Data) (a : Fin 4) (h : Fin 16) (j : Fin 2048) (d : Fin 128) :
    (if j.val < 512 * (a.val + 1) then dkT D a h j d else 0) = dkT D a h j d := by
  by_cases hj : j.val < 512 * (a.val + 1)
  · rw [if_pos hj]
  · rw [if_neg hj]
    refine (Finset.sum_eq_zero fun x _ => ?_).symm
    rw [D.ds_of_lt h (row a x) j (by show 512 * a.val + x.val < j.val; omega), zero_mul, zero_mul]

theorem dvT_of_le (D : Data) (a : Fin 4) (h : Fin 16) (j : Fin 2048) (d : Fin 128) :
    (if j.val < 512 * (a.val + 1) then dvT D a h j d else 0) = dvT D a h j d := by
  by_cases hj : j.val < 512 * (a.val + 1)
  · rw [if_pos hj]
  · rw [if_neg hj]
    refine (Finset.sum_eq_zero fun x _ => ?_).symm
    rw [D.p_of_lt h (row a x) j (by show 512 * a.val + x.val < j.val; omega), zero_mul]

theorem dcT_of_le (D : Data) (a : Fin 4) (h : Fin 16) (j : Fin 2048) :
    (if j.val < 512 * (a.val + 1) then dcT D a h j else 0) = dcT D a h j := by
  by_cases hj : j.val < 512 * (a.val + 1)
  · rw [if_pos hj]
  · rw [if_neg hj]
    refine (Finset.sum_eq_zero fun x _ => ?_).symm
    rw [D.ds_of_lt h (row a x) j (by show 512 * a.val + x.val < j.val; omega)]

/-! ### The point's blocks -/

/-- What the eight arguments' blocks hold at head pair `p` and query block `a`. -/
structure Blocks (D : Data) (p : Fin 8) (a : Fin 4) (x0 : Vec Ideal S512x256 .bf16) (x1 : Vec Ideal S2048x256 .bf16) (x2 : Vec Ideal S2048x256 .bf16) (x3 : Vec Ideal S2x512x1 .f32) (x4 : Vec Ideal S2x1x2048 .f32) (x5 : Vec Ideal S512x256 .bf16) (x6 : Vec Ideal S512x256 .f32) (x7 : Vec Ideal S2x512x128 .f32) : Prop where
  q : ∀ e x d, x0 (ix2 x (lane e d)) = (D.q (hd p e) (row a x) d : EReal)
  k : ∀ e j d, x1 (ix2 j (lane e d)) = (D.k (hd p e) j d : EReal)
  v : ∀ e j d, x2 (ix2 j (lane e d)) = (D.v (hd p e) j d : EReal)
  cc : ∀ e x, x3 (ix3 e x 0) = (D.u (hd p e) (row a x) : EReal)
  cr : ∀ e j, x4 (ix3 e 0 j) = (D.u (hd p e) j : EReal)
  g : ∀ e x d, x5 (ix2 x (lane e d)) = (D.g (hd p e) (row a x) d : EReal)
  o : ∀ e x d, x6 (ix2 x (lane e d)) = (D.out (hd p e) (row a x) d : EReal)
  l : ∀ e x, ∃ c : ℝ, x7 (ix3 e x 0) = ((c + Real.log (D.z (hd p e) (row a x) * Real.exp (-c)) : ℝ) : EReal)

section Point

variable {c : Dev nD} {i : grid0.Coords}
  {arg2 : Memref sig .tc .vmem S512x256 .bf16} {harg2 : arg2.IsWhole}
  {arg3 : Memref sig .tc .vmem S2048x256 .bf16} {harg3 : arg3.IsWhole}
  {arg4 : Memref sig .tc .vmem S2048x256 .bf16} {harg4 : arg4.IsWhole}
  {arg5 : Memref sig .tc .vmem S2x512x1 .f32} {harg5 : arg5.IsWhole}
  {arg6 : Memref sig .tc .vmem S2x1x2048 .f32} {harg6 : arg6.IsWhole}
  {arg7 : Memref sig .tc .vmem S512x256 .bf16} {harg7 : arg7.IsWhole}
  {arg8 : Memref sig .tc .vmem S512x256 .f32} {harg8 : arg8.IsWhole}
  {arg9 : Memref sig .tc .vmem S2x512x128 .f32} {harg9 : arg9.IsWhole}
  {arg10 : Memref sig .tc .vmem S512x256 .bf16} {harg10 : arg10.IsWhole}
  {arg11 : Memref sig .tc .vmem S2048x256 .f32} {harg11 : arg11.IsWhole}
  {arg12 : Memref sig .tc .vmem S2048x256 .f32} {harg12 : arg12.IsWhole}
  {arg13 : Memref sig .tc .vmem S2x1x2048 .f32} {harg13 : arg13.IsWhole}
  {arg14 : Memref sig .tc .vmem S2x512x1 .f32} {harg14 : arg14.IsWhole}
  {arg15 : Memref sig .tc .vmem S2x512x128 .f32} {harg15 : arg15.IsWhole}
  {arg16 : Memref sig .tc .vmem S2x512x128 .f32} {harg16 : arg16.IsWhole}
  {x0 : Vec Ideal S512x256 .bf16} {x1 : Vec Ideal S2048x256 .bf16} {x2 : Vec Ideal S2048x256 .bf16} {x3 : Vec Ideal S2x512x1 .f32} {x4 : Vec Ideal S2x1x2048 .f32} {x5 : Vec Ideal S512x256 .bf16} {x6 : Vec Ideal S512x256 .f32} {x7 : Vec Ideal S2x512x128 .f32} {xo9 xo10 : Vec Ideal S2048x256 .f32} {xo11 : Vec Ideal S2x1x2048 .f32}
  {D : Data} {p : Fin 8} {a : Fin 4}

/-- A head's side of the queries, as loaded. -/
theorem Blocks.qreads (B : Blocks D p a x0 x1 x2 x3 x4 x5 x6 x7) (e : Fin 2) {o2 o7 o8 : Fin 2 → ℕ} {o9 o5 : Fin 3 → ℕ} (inb2) (inb7) (inb8) (inb9) (inb5)
    (h2 : o2 = ![0, 128 * e.val]) (h7 : o7 = ![0, 128 * e.val]) (h8 : o8 = ![0, 128 * e.val]) (h9 : o9 = ![e.val, 0, 0]) (h5 : o5 = ![e.val, 0, 0]) :
    QReads D (hd p e) a (View.readAt (Elt Ideal) arg2.view (Rect.unit (s := S512x256) o2 S512x128.size inb2).toLoadRect (harg2.unread x0))
      (View.readAt (Elt Ideal) arg7.view (Rect.unit (s := S512x256) o7 S512x128.size inb7).toLoadRect (harg7.unread x5))
      (k0_pay41 (F := Ideal) (View.readAt (Elt Ideal) arg9.view (Rect.unit (s := S2x512x128) o9 S1x512x128.size inb9).toLoadRect (harg9.unread x7)))
      (k0_pay39 (F := Ideal) (View.readAt (Elt Ideal) arg7.view (Rect.unit (s := S512x256) o7 S512x128.size inb7).toLoadRect (harg7.unread x5))
        (View.readAt (Elt Ideal) arg8.view (Rect.unit (s := S512x256) o8 S512x128.size inb8).toLoadRect (harg8.unread x6)))
      (View.readAt (Elt Ideal) arg5.view (Rect.unit (s := S2x512x1) o5 S1x512x1.size inb5).toLoadRect (harg5.unread x3)) := by
  have hg : ∀ x d, View.readAt (Elt Ideal) arg7.view (Rect.unit (s := S512x256) o7 S512x128.size inb7).toLoadRect (harg7.unread x5) (ix2 x d)
      = (D.g (hd p e) (row a x) d : EReal) := fun x d => by
    refine (Steps.load2 arg7.view (harg7.unread x5) 0 e inb7 h7 x d x (by omega)).trans ?_
    rw [harg7.read_unread, B.g]
  refine ⟨fun x d => ?_, hg, fun x => ?_, fun x => ?_, fun x => ?_⟩
  · refine (Steps.load2 arg2.view (harg2.unread x0) 0 e inb2 h2 x d x (by omega)).trans ?_
    rw [harg2.read_unread, B.q]
  · obtain ⟨cc, hc⟩ := B.l e x
    refine ⟨cc, ?_⟩
    rw [Tile.lse41, ← hc]
    refine (Steps.load3c arg9.view (harg9.unread x7) e inb9 h9 0 x 0 0 rfl).trans ?_
    rw [harg9.read_unread]
  · refine (Tile.delta39 _ _ (G := fun d => D.g (hd p e) (row a x) d) (O := fun d => D.out (hd p e) (row a x) d) x (fun d => hg x d) (fun d => ?_)).trans rfl
    refine (Steps.load2 arg8.view (harg8.unread x6) 0 e inb8 h8 x d x (by omega)).trans ?_
    rw [harg8.read_unread, B.o]
  · refine (Steps.load3c arg5.view (harg5.unread x3) e inb5 h5 0 x 0 0 rfl).trans ?_
    rw [harg5.read_unread, B.cc]

/-- What the loops read at the point. -/
theorem fixed (B : Blocks D p a x0 x1 x2 x3 x4 x5 x6 x7) :
    Fixed arg3 arg4 arg5 arg6
      (View.readAt (Elt Ideal) arg2.view (Rect.unit (s := S512x256) ![0, 0] S512x128.size Facts₀.inb_S512x256_S512x128_0_0).toLoadRect (harg2.unread x0))
      (View.readAt (Elt Ideal) arg2.view (Rect.unit (s := S512x256) ![0, 128] S512x128.size Facts₀.inb_S512x256_S512x128_0_128).toLoadRect (harg2.unread x0))
      (View.readAt (Elt Ideal) arg7.view (Rect.unit (s := S512x256) ![0, 0] S512x128.size Facts₀.inb_S512x256_S512x128_0_0).toLoadRect (harg7.unread x5))
      (View.readAt (Elt Ideal) arg7.view (Rect.unit (s := S512x256) ![0, 128] S512x128.size Facts₀.inb_S512x256_S512x128_0_128).toLoadRect (harg7.unread x5))
      (k0_pay39 (F := Ideal) (View.readAt (Elt Ideal) arg7.view (Rect.unit (s := S512x256) ![0, 0] S512x128.size Facts₀.inb_S512x256_S512x128_0_0).toLoadRect (harg7.unread x5))
        (View.readAt (Elt Ideal) arg8.view (Rect.unit (s := S512x256) ![0, 0] S512x128.size Facts₀.inb_S512x256_S512x128_0_0).toLoadRect (harg8.unread x6)))
      (k0_pay39 (F := Ideal) (View.readAt (Elt Ideal) arg7.view (Rect.unit (s := S512x256) ![0, 128] S512x128.size Facts₀.inb_S512x256_S512x128_0_128).toLoadRect (harg7.unread x5))
        (View.readAt (Elt Ideal) arg8.view (Rect.unit (s := S512x256) ![0, 128] S512x128.size Facts₀.inb_S512x256_S512x128_0_128).toLoadRect (harg8.unread x6)))
      (k0_pay41 (F := Ideal) (View.readAt (Elt Ideal) arg9.view (Rect.unit (s := S2x512x128) ![0, 0, 0] S1x512x128.size Facts₀.inb_S2x512x128_S1x512x128_0_0_0).toLoadRect (harg9.unread x7)))
      (k0_pay41 (F := Ideal) (View.readAt (Elt Ideal) arg9.view (Rect.unit (s := S2x512x128) ![1, 0, 0] S1x512x128.size Facts₀.inb_S2x512x128_S1x512x128_1_0_0).toLoadRect (harg9.unread x7)))
      (harg3.unread x1) (harg4.unread x2) (harg5.unread x3) (harg6.unread x4) D p a where
  k e j d := by rw [harg3.read_unread, B.k]
  v e j d := by rw [harg4.read_unread, B.v]
  cr e j := by rw [harg6.read_unread, B.cr]
  q0 := B.qreads 0 _ _ _ _ _ rfl rfl rfl rfl rfl
  q1 := B.qreads 1 _ _ _ _ _ rfl rfl rfl rfl rfl

/-- The loop after the diagonal's own point makes no trip. -/
theorem t2_nil (arg1 : BitVec 32) (v3 v4 v5 v6 : Vec Ideal S512x128 .bf16) (v12 v18 v21 v24 : FVec Ideal S512x1 .f32) (cst : Ideal .f32) (v37 : BitVec 32) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (G11 : BufTy.Contents (Elt Ideal) arg11.view.ty) (G12 : BufTy.Contents (Elt Ideal) arg12.view.ty) (G13 : BufTy.Contents (Elt Ideal) arg13.view.ty) (G15 : BufTy.Contents (Elt Ideal) arg15.view.ty) (G16 : BufTy.Contents (Elt Ideal) arg16.view.ty) :
    pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst v37 X3 X4 X5 X6 G11 G12 G13 G15 G16
      (Scf.trips (k0_t2_loop i).lb (k0_t2_loop i).ub (k0_t2_loop i).st) = ([], [], [], [], []) := by
  rw [show Scf.trips (k0_t2_loop i).lb (k0_t2_loop i).ub (k0_t2_loop i).st = 0 from trips2 i]
  rfl

theorem zeros44 (y : S2x512x128.Idx) : k0_pay44 (F := Ideal) (FloatOps.ofBits .f32 0x00000000#32) y = 0 :=
  Ideal.ofBits_zero_f32

theorem zeros43 (y : S2x512x128.Idx) : k0_pay43 (F := Ideal) y = 0 :=
  Ideal.ofBits_zero_f32

theorem dqS_zero (a : Fin 4) (h : Fin 16) (x : Fin 512) (d : Fin 128) : ((dqS D a 0 h x d : ℝ) : EReal) = 0 := by
  rw [← EReal.coe_zero]
  refine congrArg _ (Finset.sum_eq_zero fun j _ => if_neg (by omega))

theorem rsS_zero (a : Fin 4) (h : Fin 16) (x : Fin 512) : ((rsS D a 0 h x : ℝ) : EReal) = 0 := by
  rw [← EReal.coe_zero]
  refine congrArg _ (Finset.sum_eq_zero fun j _ => if_neg (by omega))

variable {Kk Kv : Fin 2 → Fin 2048 → Fin 128 → ℝ} {Kc : Fin 2 → Fin 2048 → ℝ}

/-- The whole loop: its trips are the query block's number. -/
theorem loop_end {arg1 : BitVec 32} {v3 v4 v5 v6 : Vec Ideal S512x128 .bf16} {v12 v18 v21 v24 : FVec Ideal S512x1 .f32} {cst : Ideal .f32} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {f11 : BufTy.Contents (Elt Ideal) arg11.view.ty} {f12 : BufTy.Contents (Elt Ideal) arg12.view.ty} {f13 : BufTy.Contents (Elt Ideal) arg13.view.ty} {f15 : BufTy.Contents (Elt Ideal) arg15.view.ty} {f16 : BufTy.Contents (Elt Ideal) arg16.view.ty}
    (H : Fixed arg3 arg4 arg5 arg6 v3 v4 v5 v6 v12 v18 v21 v24 X3 X4 X5 X6 D p a)
    (S : St D p a Kk Kv Kc arg11.view arg12.view arg13.view arg15.view arg16.view 0 f11 f12 f13 f15 f16) (ha : (i 1).val = a.val)
    (n : ℕ) (hn : n = a.val) :
    St D p a Kk Kv Kc arg11.view arg12.view arg13.view arg15.view arg16.view a.val
      (arg11.view.writes (Elt Ideal) f11 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst X3 X4 X5 X6 f11 f12 f13 f15 f16 n).1)
      (arg12.view.writes (Elt Ideal) f12 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst X3 X4 X5 X6 f11 f12 f13 f15 f16 n).2.1)
      (arg13.view.writes (Elt Ideal) f13 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst X3 X4 X5 X6 f11 f12 f13 f15 f16 n).2.2.1)
      (arg15.view.writes (Elt Ideal) f15 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst X3 X4 X5 X6 f11 f12 f13 f15 f16 n).2.2.2.1)
      (arg16.view.writes (Elt Ideal) f16 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v4 v5 v6 v12 v18 v21 v24 cst X3 X4 X5 X6 f11 f12 f13 f15 f16 n).2.2.2.2) := by
  subst hn
  exact loop_step (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (cst := cst) (arg1 := arg1) H S ha _ le_rfl

theorem scr15 {κ : Kind} {sp : Space} (v : View sig κ sp S2x512x128 .f32) (e : Fin 2) (x : Fin 512) (d : Fin 128) :
    v.read (Elt Ideal) (v.writes (Elt Ideal) v.junk [⟨Rect.unit (s := S2x512x128) ![0, 0, 0] S2x512x128.size Facts₀.inb_S2x512x128_S2x512x128_0_0_0, k0_pay43 (F := Ideal)⟩]) (ix3 e x d)
      = (dqS D a 0 (hd p e) x d : EReal) :=
  (congrFun (View.read_writes_full v v.junk _ _ []) _).trans ((zeros43 _).trans (dqS_zero a _ x d).symm)

theorem scr16 {κ : Kind} {sp : Space} (v : View sig κ sp S2x512x128 .f32) (e : Fin 2) (x : Fin 512) (d : Fin 128) :
    v.read (Elt Ideal) (v.writes (Elt Ideal) v.junk [⟨Rect.unit (s := S2x512x128) ![0, 0, 0] S2x512x128.size Facts₀.inb_S2x512x128_S2x512x128_0_0_0, k0_pay44 (F := Ideal) (FloatOps.ofBits .f32 0x00000000#32)⟩]) (ix3 e x d)
      = (rsS D a 0 (hd p e) x : EReal) :=
  (congrFun (View.read_writes_full v v.junk _ _ []) _).trans ((zeros44 _).trans (rsS_zero a _ x).symm)

theorem zer {κ : Kind} {sp : Space} (v : View sig κ sp S2048x256 .f32) {T : Fin 2 → Fin 2048 → Fin 128 → ℝ} (e : Fin 2) (j : Fin 2048) (d : Fin 128) :
    v.read (Elt Ideal) (v.writes (Elt Ideal) v.junk [⟨Rect.unit (s := S2048x256) ![0, 0] S2048x256.size Facts₀.inb_S2048x256_S2048x256_0_0, broadcast (α := Ideal .f32) S2048x256 (FloatOps.ofBits .f32 0x00000000#32)⟩]) (ix2 j (lane e d))
      = (((0 : ℝ) + (if j.val < 512 * 0 then T e j d else 0) : ℝ) : EReal) := by
  rw [if_neg (by omega), zero_add]
  exact (congrFun (View.read_writes_full v v.junk _ _ []) _).trans Ideal.ofBits_zero_f32

theorem zerc {κ : Kind} {sp : Space} (v : View sig κ sp S2x1x2048 .f32) {T : Fin 2 → Fin 2048 → ℝ} (e : Fin 2) (j : Fin 2048) :
    v.read (Elt Ideal) (v.writes (Elt Ideal) v.junk [⟨Rect.unit (s := S2x1x2048) ![0, 0, 0] S2x1x2048.size Facts₀.inb_S2x1x2048_S2x1x2048_0_0_0, broadcast (α := Ideal .f32) S2x1x2048 (FloatOps.ofBits .f32 0x00000000#32)⟩]) (ix3 e 0 j)
      = (((0 : ℝ) - (if j.val < 512 * 0 then T e j else 0) : ℝ) : EReal) := by
  rw [if_neg (by omega), sub_zero]
  exact (congrFun (View.read_writes_full v v.junk _ _ []) _).trans Ideal.ofBits_zero_f32

/-- A later query block: the accumulators, and the two results stored whole, in terms of the scratch's pieces. -/
theorem stateB (hc : ¬cond0_0 i) (B : Blocks D p a x0 x1 x2 x3 x4 x5 x6 x7) (hi : (i 1).val = a.val)
    (h9 : ∀ e j d, xo9 (ix2 j (lane e d)) = (Kk e j d : EReal)) (h10 : ∀ e j d, xo10 (ix2 j (lane e d)) = (Kv e j d : EReal))
    (h11 : ∀ e j, xo11 (ix3 e 0 j) = (Kc e j : EReal)) :
    ∃ P15 P16 : List (View.Piece (Elt Ideal) S2x512x128 .f32),
      St D p a Kk Kv Kc arg11.view arg12.view arg13.view arg15.view arg16.view (a.val + 1)
        (arg11.view.writes (Elt Ideal) (harg11.unread xo9) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xo9 xo10 xo11).2.1)
        (arg12.view.writes (Elt Ideal) (harg12.unread xo10) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xo9 xo10 xo11).2.2.1)
        (arg13.view.writes (Elt Ideal) (harg13.unread xo11) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xo9 xo10 xo11).2.2.2.1)
        (arg15.view.writes (Elt Ideal) arg15.view.junk P15) (arg16.view.writes (Elt Ideal) arg16.view.junk P16)
      ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xo9 xo10 xo11).1 = [⟨Rect.unit (s := S512x256) ![0, 128] S512x128.size Facts₀.inb_S512x256_S512x128_0_128, k0_pay72 (F := Ideal) (arg15.view.readCov P15 (Rect.unit (s := S2x512x128) ![1, 0, 0] S1x512x128.size Facts₀.inb_S2x512x128_S1x512x128_1_0_0).toLoadRect)⟩, ⟨Rect.unit (s := S512x256) ![0, 0] S512x128.size Facts₀.inb_S512x256_S512x128_0_0, k0_pay70 (F := Ideal) (arg15.view.readCov P15 (Rect.unit (s := S2x512x128) ![0, 0, 0] S1x512x128.size Facts₀.inb_S2x512x128_S1x512x128_0_0_0).toLoadRect)⟩]
      ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xo9 xo10 xo11).2.2.2.2.1 = [⟨Rect.unit (s := S2x512x1) ![1, 0, 0] S1x512x1.size Facts₀.inb_S2x512x1_S1x512x1_1_0_0, k0_pay1 (F := Ideal) (k0_pay73 (F := Ideal) (arg16.view.readCov P16 (Rect.unit (s := S2x512x128) ![1, 0, 0] S1x512x1.size Facts₀.inb_S2x512x128_S1x512x1_1_0_0).toLoadRect))⟩, ⟨Rect.unit (s := S2x512x1) ![0, 0, 0] S1x512x1.size Facts₀.inb_S2x512x1_S1x512x1_0_0_0, k0_pay71 (F := Ideal) (arg16.view.readCov P16 (Rect.unit (s := S2x512x128) ![0, 0, 0] S1x512x1.size Facts₀.inb_S2x512x128_S1x512x1_0_0_0).toLoadRect)⟩] := by
  have H := fixed (arg2 := arg2) (harg2 := harg2) (arg3 := arg3) (harg3 := harg3) (arg4 := arg4) (harg4 := harg4) (arg5 := arg5) (harg5 := harg5)
    (arg6 := arg6) (harg6 := harg6) (arg7 := arg7) (harg7 := harg7) (arg8 := arg8) (harg8 := harg8) (arg9 := arg9) (harg9 := harg9) B
  have K0 := H.kreads a 0 (o2 := k0_off9 i) (o2' := k0_off9 i) (o3 := k0_off10 i) (Facts₀.k0_off9_inb i) (Facts₀.k0_off9_inb i) (Facts₀.k0_off10_inb i)
    (off9 i a hi) (off9 i a hi) (off10 i a hi)
  have K1 := H.kreads a 1 (o2 := k0_off11 i) (o2' := k0_off11 i) (o3 := k0_off12 i) (Facts₀.k0_off11_inb i) (Facts₀.k0_off11_inb i) (Facts₀.k0_off12_inb i)
    (off11 i a hi) (off11 i a hi) (off12 i a hi)
  have P0 := Tile.p_diag H.q0 K0
  have P1 := Tile.p_diag H.q1 K1
  have E0 := Tile.ds_diag H.q0 K0
  have E1 := Tile.ds_diag H.q1 K1
  unfold kernelRun0_B
  dsimp only
  refine ⟨_, _, ?_, rfl, rfl⟩
  refine diag_step (Facts₀.k0_off9_inb i) (Facts₀.k0_off11_inb i) (Facts₀.k0_off10_inb i) (Facts₀.k0_off12_inb i) (off9 i a hi) (off11 i a hi) (off10 i a hi) (off12 i a hi)
    H.q0.q H.q1.q H.q0.g H.q1.g K0.k K1.k P0 P1 E0 E1 ?_
  rw [t2_nil]
  simp only [List.nil_append]
  rw [View.writes_append, View.writes_append]
  refine loop_end H ?_ hi _ ((trips1 i).trans hi)
  exact ⟨fun e j d => by rw [harg11.read_unread, h9, if_neg (by omega), add_zero],
    fun e j d => by rw [harg12.read_unread, h10, if_neg (by omega), add_zero],
    fun e j => by rw [harg13.read_unread, h11, if_neg (by omega), sub_zero], scr15 arg15.view, scr16 arg16.view⟩

/-- The first query block, the accumulators over zeros. -/
theorem stateA (hc : cond0_0 i) (B : Blocks D p a x0 x1 x2 x3 x4 x5 x6 x7) (hi : (i 1).val = a.val) :
    ∃ P15 P16 : List (View.Piece (Elt Ideal) S2x512x128 .f32),
      St D p a (fun _ _ _ => 0) (fun _ _ _ => 0) (fun _ _ => 0) arg11.view arg12.view arg13.view arg15.view arg16.view (a.val + 1)
        (arg11.view.writes (Elt Ideal) arg11.view.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.1)
        (arg12.view.writes (Elt Ideal) arg12.view.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.1)
        (arg13.view.writes (Elt Ideal) arg13.view.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.2.1)
        (arg15.view.writes (Elt Ideal) arg15.view.junk P15) (arg16.view.writes (Elt Ideal) arg16.view.junk P16)
      ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).1 = [⟨Rect.unit (s := S512x256) ![0, 128] S512x128.size Facts₀.inb_S512x256_S512x128_0_128, k0_pay72 (F := Ideal) (arg15.view.readCov P15 (Rect.unit (s := S2x512x128) ![1, 0, 0] S1x512x128.size Facts₀.inb_S2x512x128_S1x512x128_1_0_0).toLoadRect)⟩, ⟨Rect.unit (s := S512x256) ![0, 0] S512x128.size Facts₀.inb_S512x256_S512x128_0_0, k0_pay70 (F := Ideal) (arg15.view.readCov P15 (Rect.unit (s := S2x512x128) ![0, 0, 0] S1x512x128.size Facts₀.inb_S2x512x128_S1x512x128_0_0_0).toLoadRect)⟩]
      ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7).2.2.2.2.1 = [⟨Rect.unit (s := S2x512x1) ![1, 0, 0] S1x512x1.size Facts₀.inb_S2x512x1_S1x512x1_1_0_0, k0_pay1 (F := Ideal) (k0_pay73 (F := Ideal) (arg16.view.readCov P16 (Rect.unit (s := S2x512x128) ![1, 0, 0] S1x512x1.size Facts₀.inb_S2x512x128_S1x512x1_1_0_0).toLoadRect))⟩, ⟨Rect.unit (s := S2x512x1) ![0, 0, 0] S1x512x1.size Facts₀.inb_S2x512x1_S1x512x1_0_0_0, k0_pay71 (F := Ideal) (arg16.view.readCov P16 (Rect.unit (s := S2x512x128) ![0, 0, 0] S1x512x1.size Facts₀.inb_S2x512x128_S1x512x1_0_0_0).toLoadRect)⟩] := by
  have H := fixed (arg2 := arg2) (harg2 := harg2) (arg3 := arg3) (harg3 := harg3) (arg4 := arg4) (harg4 := harg4) (arg5 := arg5) (harg5 := harg5)
    (arg6 := arg6) (harg6 := harg6) (arg7 := arg7) (harg7 := harg7) (arg8 := arg8) (harg8 := harg8) (arg9 := arg9) (harg9 := harg9) B
  have K0 := H.kreads a 0 (o2 := k0_off9 i) (o2' := k0_off9 i) (o3 := k0_off10 i) (Facts₀.k0_off9_inb i) (Facts₀.k0_off9_inb i) (Facts₀.k0_off10_inb i)
    (off9 i a hi) (off9 i a hi) (off10 i a hi)
  have K1 := H.kreads a 1 (o2 := k0_off11 i) (o2' := k0_off11 i) (o3 := k0_off12 i) (Facts₀.k0_off11_inb i) (Facts₀.k0_off11_inb i) (Facts₀.k0_off12_inb i)
    (off11 i a hi) (off11 i a hi) (off12 i a hi)
  have P0 := Tile.p_diag H.q0 K0
  have P1 := Tile.p_diag H.q1 K1
  have E0 := Tile.ds_diag H.q0 K0
  have E1 := Tile.ds_diag H.q1 K1
  unfold kernelRun0_A
  dsimp only
  refine ⟨_, _, ?_, rfl, rfl⟩
  refine diag_step (Facts₀.k0_off9_inb i) (Facts₀.k0_off11_inb i) (Facts₀.k0_off10_inb i) (Facts₀.k0_off12_inb i) (off9 i a hi) (off11 i a hi) (off10 i a hi) (off12 i a hi)
    H.q0.q H.q1.q H.q0.g H.q1.g K0.k K1.k P0 P1 E0 E1 ?_
  rw [t2_nil]
  simp only [List.nil_append]
  rw [View.writes_append, View.writes_append, View.writes_append, View.writes_append, View.writes_append]
  refine loop_end H ?_ hi _ ((trips1 i).trans hi)
  exact ⟨zer arg11.view, zer arg12.view, zerc arg13.view, scr15 arg15.view, scr16 arg16.view⟩

/-! ### The five results of the point -/

/-- Two heads' halves stored side by side. -/
theorem pair2 {κ : Kind} {sp : Space} (v : View sig κ sp S512x256 .bf16) (f : v.ty.Contents (Elt Ideal)) {off1 off0 : Fin 2 → ℕ} (inb1) (inb0)
    (h1 : off1 = ![0, 128]) (h0 : off0 = ![0, 0]) (w1 : (Rect.unit (s := S512x256) off1 S512x128.size inb1).shape.Idx → Elt Ideal .bf16)
    (w0 : (Rect.unit (s := S512x256) off0 S512x128.size inb0).shape.Idx → Elt Ideal .bf16) {R : Fin 2 → Fin 512 → Fin 128 → ℝ}
    (hw1 : ∀ (x : Fin 512) (d : Fin 128), w1 (ix2 x d) = (R 1 x d : EReal)) (hw0 : ∀ (x : Fin 512) (d : Fin 128), w0 (ix2 x d) = (R 0 x d : EReal)) :
    ∀ e x d, v.read (Elt Ideal) (v.writes (Elt Ideal) f [⟨Rect.unit off1 S512x128.size inb1, w1⟩, ⟨Rect.unit off0 S512x128.size inb0, w0⟩]) (ix2 x (lane e d))
      = (R e x d : EReal) := by
  intro e x d
  match e with
  | 0 =>
    rw [View.read_writes_cons_unit_of_not_mem _ _ inb1 w1 _ _ h1 1 (Or.inl (by show 128 * 0 + d.val < 128; omega)),
      View.read_writes_cons_unit_of_mem _ _ inb0 w0 _ _ (ix2 (n0 := 512) (n1 := 128) x d) h0 (fun a => by
        match a with
        | 0 => show x.val = 0 + x.val; omega
        | 1 => show 128 * 0 + d.val = 0 + d.val; omega), hw0]
  | 1 =>
    rw [View.read_writes_cons_unit_of_mem _ _ inb1 w1 _ _ (ix2 (n0 := 512) (n1 := 128) x d) h1 (fun a => by
        match a with
        | 0 => show x.val = 0 + x.val; omega
        | 1 => show 128 * 1 + d.val = 128 + d.val; omega), hw1]

theorem pair3 {κ : Kind} {sp : Space} (v : View sig κ sp S2x512x1 .f32) (f : v.ty.Contents (Elt Ideal)) {off1 off0 : Fin 3 → ℕ} (inb1) (inb0)
    (h1 : off1 = ![1, 0, 0]) (h0 : off0 = ![0, 0, 0]) (w1 : (Rect.unit (s := S2x512x1) off1 S1x512x1.size inb1).shape.Idx → Elt Ideal .f32)
    (w0 : (Rect.unit (s := S2x512x1) off0 S1x512x1.size inb0).shape.Idx → Elt Ideal .f32) {R : Fin 2 → Fin 512 → ℝ}
    (hw1 : ∀ x : Fin 512, w1 (ix3 (n0 := 1) (n2 := 1) 0 x 0) = (R 1 x : EReal)) (hw0 : ∀ x : Fin 512, w0 (ix3 (n0 := 1) (n2 := 1) 0 x 0) = (R 0 x : EReal)) :
    ∀ e x, v.read (Elt Ideal) (v.writes (Elt Ideal) f [⟨Rect.unit off1 S1x512x1.size inb1, w1⟩, ⟨Rect.unit off0 S1x512x1.size inb0, w0⟩]) (ix3 e x 0)
      = (R e x : EReal) := by
  intro e x
  match e with
  | 0 =>
    rw [View.read_writes_cons_unit_of_not_mem _ _ inb1 w1 _ _ h1 0 (Or.inl (by show 0 < 1; omega)),
      View.read_writes_cons_unit_of_mem _ _ inb0 w0 _ _ (ix3 (n0 := 1) (n1 := 512) (n2 := 1) 0 x 0) h0 (fun a => by
        match a with
        | 0 => rfl
        | 1 => show x.val = 0 + x.val; omega
        | 2 => rfl), hw0]
  | 1 =>
    rw [View.read_writes_cons_unit_of_mem _ _ inb1 w1 _ _ (ix3 (n0 := 1) (n1 := 512) (n2 := 1) 0 x 0) h1 (fun a => by
        match a with
        | 0 => rfl
        | 1 => show x.val = 0 + x.val; omega
        | 2 => rfl), hw1]

/-- The queries' gradient, stored a head at a time from its accumulator. -/
theorem dq_out {κ : Kind} {sp : Space} (v8 : View sig κ sp S512x256 .bf16) (f8 : v8.ty.Contents (Elt Ideal)) (f15 : BufTy.Contents (Elt Ideal) arg15.view.ty)
    {w1 w0 : FVec Ideal S512x128 .bf16}
    (h1 : w1 = k0_pay72 (F := Ideal) (arg15.view.readAt (Elt Ideal) (Rect.unit (s := S2x512x128) ![1, 0, 0] S1x512x128.size Facts₀.inb_S2x512x128_S1x512x128_1_0_0).toLoadRect f15))
    (h0 : w0 = k0_pay70 (F := Ideal) (arg15.view.readAt (Elt Ideal) (Rect.unit (s := S2x512x128) ![0, 0, 0] S1x512x128.size Facts₀.inb_S2x512x128_S1x512x128_0_0_0).toLoadRect f15))
    (h : ∀ e x d, arg15.view.read (Elt Ideal) f15 (ix3 e x d) = (dqS D a (a.val + 1) (hd p e) x d : EReal)) (e : Fin 2) (x : Fin 512) (d : Fin 128) :
    v8.read (Elt Ideal) (v8.writes (Elt Ideal) f8 [⟨Rect.unit (s := S512x256) ![0, 128] S512x128.size Facts₀.inb_S512x256_S512x128_0_128, w1⟩,
      ⟨Rect.unit (s := S512x256) ![0, 0] S512x128.size Facts₀.inb_S512x256_S512x128_0_0, w0⟩]) (ix2 x (lane e d)) = (D.dq (hd p e) (row a x) d : EReal) := by
  have E : ∀ e (y : Vec Ideal S1x512x128 .f32), (∀ x d, y (ix3 0 x d) = arg15.view.read (Elt Ideal) f15 (ix3 e x d)) →
      ∀ x d, y (ix3 0 x d) = (D.dq (hd p e) (row a x) d : EReal) := fun e y hy x d => by rw [hy, h, dqS_all]
  refine pair2 v8 f8 _ _ rfl rfl w1 w0 (R := fun e x d => D.dq (hd p e) (row a x) d) (fun x d => ?_) (fun x d => ?_) e x d
  · rw [h1, show ∀ y, k0_pay72 (F := Ideal) y (ix2 x d) = y (ix3 0 x d) from fun y => by unfold k0_pay72; pointwise; rfl]
    exact E 1 _ (fun x d => Steps.load3c arg15.view f15 1 _ rfl 0 x d d rfl) x d
  · rw [h0, show ∀ y, k0_pay70 (F := Ideal) y (ix2 x d) = y (ix3 0 x d) from fun y => by unfold k0_pay70; pointwise; rfl]
    exact E 0 _ (fun x d => Steps.load3c arg15.view f15 0 _ rfl 0 x d d rfl) x d

/-- The rows' sums, stored a head at a time from the accumulator's first lane. -/
theorem dcq_out {κ : Kind} {sp : Space} (v12 : View sig κ sp S2x512x1 .f32) (f12 : v12.ty.Contents (Elt Ideal)) (f16 : BufTy.Contents (Elt Ideal) arg16.view.ty)
    {w1 w0 : FVec Ideal S1x512x1 .f32}
    (h1 : w1 = k0_pay1 (F := Ideal) (k0_pay73 (F := Ideal) (arg16.view.readAt (Elt Ideal) (Rect.unit (s := S2x512x128) ![1, 0, 0] S1x512x1.size Facts₀.inb_S2x512x128_S1x512x1_1_0_0).toLoadRect f16)))
    (h0 : w0 = k0_pay71 (F := Ideal) (arg16.view.readAt (Elt Ideal) (Rect.unit (s := S2x512x128) ![0, 0, 0] S1x512x1.size Facts₀.inb_S2x512x128_S1x512x1_0_0_0).toLoadRect f16))
    (h : ∀ e x d, arg16.view.read (Elt Ideal) f16 (ix3 e x d) = (rsS D a (a.val + 1) (hd p e) x : EReal)) (e : Fin 2) (x : Fin 512) :
    v12.read (Elt Ideal) (v12.writes (Elt Ideal) f12 [⟨Rect.unit (s := S2x512x1) ![1, 0, 0] S1x512x1.size Facts₀.inb_S2x512x1_S1x512x1_1_0_0, w1⟩,
      ⟨Rect.unit (s := S2x512x1) ![0, 0, 0] S1x512x1.size Facts₀.inb_S2x512x1_S1x512x1_0_0_0, w0⟩]) (ix3 e x 0) = (D.dcq (hd p e) (row a x) : EReal) := by
  have E : ∀ e (y : Vec Ideal S1x512x1 .f32), (∀ x, y (ix3 0 x 0) = arg16.view.read (Elt Ideal) f16 (ix3 e x 0)) →
      ∀ x, y (ix3 0 x 0) = (D.dcq (hd p e) (row a x) : EReal) := fun e y hy x => by rw [hy, h, rsS_all]
  refine pair3 v12 f12 _ _ rfl rfl w1 w0 (R := fun e x => D.dcq (hd p e) (row a x)) (fun x => ?_) (fun x => ?_) e x
  · rw [h1, show ∀ y, k0_pay1 (F := Ideal) (k0_pay73 (F := Ideal) y) (ix3 0 x 0) = y (ix3 0 x 0) from fun y => by unfold k0_pay1 k0_pay73; pointwise]
    exact E 1 _ (fun x => Steps.load3c arg16.view f16 1 _ rfl 0 x 0 0 rfl) x
  · rw [h0, show ∀ y, k0_pay71 (F := Ideal) y (ix3 0 x 0) = y (ix3 0 x 0) from fun y => by unfold k0_pay71; pointwise]
    exact E 0 _ (fun x => Steps.load3c arg16.view f16 0 _ rfl 0 x 0 0 rfl) x

/-- A later query block's results. -/
theorem outB (hc : ¬cond0_0 i) (B : Blocks D p a x0 x1 x2 x3 x4 x5 x6 x7) (hi : (i 1).val = a.val)
    (h9 : ∀ e j d, xo9 (ix2 j (lane e d)) = (Kk e j d : EReal)) (h10 : ∀ e j d, xo10 (ix2 j (lane e d)) = (Kv e j d : EReal))
    (h11 : ∀ e j, xo11 (ix3 e 0 j) = (Kc e j : EReal)) :
    (∀ e x d, out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xo9 xo10 xo11 (ix2 x (lane e d)) = (D.dq (hd p e) (row a x) d : EReal))
    ∧ (∀ e j d, out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xo9 xo10 xo11 (ix2 j (lane e d)) = ((Kk e j d + dkT D a (hd p e) j d : ℝ) : EReal))
    ∧ (∀ e j d, out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xo9 xo10 xo11 (ix2 j (lane e d)) = ((Kv e j d + dvT D a (hd p e) j d : ℝ) : EReal))
    ∧ (∀ e j, out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xo9 xo10 xo11 (ix3 e 0 j) = ((Kc e j - dcT D a (hd p e) j : ℝ) : EReal))
    ∧ (∀ e x, out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xo9 xo10 xo11 (ix3 e x 0) = (D.dcq (hd p e) (row a x) : EReal)) := by
  obtain ⟨P15, P16, S, e8, e12⟩ := stateB (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) hc B hi h9 h10 h11
  refine ⟨fun e x d => ?_, fun e j d => ?_, fun e j d => ?_, fun e j => ?_, fun e x => ?_⟩
  · unfold out0_B_8
    rw [e8]
    exact dq_out VO0_8 VO0_8.junk _ rfl rfl S.dq e x d
  · unfold out0_B_9
    rw [S.dk, dkT_of_le]
  · unfold out0_B_10
    rw [S.dv, dvT_of_le]
  · unfold out0_B_11
    rw [S.dc, dcT_of_le]
  · unfold out0_B_12
    rw [e12]
    exact dcq_out VO0_12 VO0_12.junk _ rfl rfl S.rs e x

/-- The first query block's results. -/
theorem outA (hc : cond0_0 i) (B : Blocks D p a x0 x1 x2 x3 x4 x5 x6 x7) (hi : (i 1).val = a.val) :
    (∀ e x d, out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 (ix2 x (lane e d)) = (D.dq (hd p e) (row a x) d : EReal))
    ∧ (∀ e j d, out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 (ix2 j (lane e d)) = (dkT D a (hd p e) j d : EReal))
    ∧ (∀ e j d, out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 (ix2 j (lane e d)) = (dvT D a (hd p e) j d : EReal))
    ∧ (∀ e j, out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 (ix3 e 0 j) = ((0 - dcT D a (hd p e) j : ℝ) : EReal))
    ∧ (∀ e x, out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 (ix3 e x 0) = (D.dcq (hd p e) (row a x) : EReal)) := by
  obtain ⟨P15, P16, S, e8, e12⟩ := stateA (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) hc B hi
  refine ⟨fun e x d => ?_, fun e j d => ?_, fun e j d => ?_, fun e j => ?_, fun e x => ?_⟩
  · unfold out0_A_8
    rw [e8]
    exact dq_out VO0_8 VO0_8.junk _ rfl rfl S.dq e x d
  · unfold out0_A_9
    rw [View.read_writes_apply_eq VO0_9 _ arg11.view arg11.view.junk _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 _), S.dk, dkT_of_le, zero_add]
  · unfold out0_A_10
    rw [View.read_writes_apply_eq VO0_10 _ arg12.view arg12.view.junk _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 _), S.dv, dvT_of_le, zero_add]
  · unfold out0_A_11
    rw [View.read_writes_apply_eq VO0_11 _ arg13.view arg13.view.junk _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 _), S.dc, dcT_of_le]
  · unfold out0_A_12
    rw [e12]
    exact dcq_out VO0_12 VO0_12.junk _ rfl rfl S.rs e x

end Point

end Cert.Fox
-- ==== Proof.Host.lean ====
/- What the host lines hand the kernel: the forward's output and its row normalisers are the reference's own. -/
module

public import proofs.«01_k».proof.Proof.Reference
public import proofs.«01_k».proof.Proof.Gen.KernelIdeal.Frame.Runs
public import Idealize.ShloMosaic.Lib.StableHlo.RunRead
public import Idealize.ShloMosaic.Lib.Pointwise

@[expose] public section

noncomputable section

namespace Cert.Fox

open Idealize.ShloMosaic hiding ix1 ix2 ix3 ix4
open Idealize.ShloMosaic.TcCoe Idealize.ShloMosaic.ValueIdx Idealize.ShloMosaic.StableHlo
open Cert.KernelIdeal Cert.KernelIdeal.Gen
open Cert.ReferenceIdeal.Read

variable (m : (ℓ : Loc nD τ sig) → Buf (Elt Ideal) ℓ) (c : Dev nD)

theorem V_v67 : V m c main_v67 = shapeCast _ (m ((c : Thread nD τ).loc main_arg1)) Facts₀.shapeCasts_S16x2048_S16x2048x1 := by
  unfold V
  simp only [List.flatten_cons, List.flatten_nil, List.append_nil, List.cons_append, List.nil_append]
  after_reads_simp
  all_goals rfl

theorem V_v64 : V m c main_v64 = val_main_v55 (F := Ideal) (m ((c : Thread nD τ).loc main_arg0)) (m ((c : Thread nD τ).loc main_arg1)) := by
  unfold V
  simp only [List.flatten_cons, List.flatten_nil, List.append_nil, List.cons_append, List.nil_append]
  after_reads_simp
  all_goals rfl

theorem V_v68 : V m c main_v68 = shapeCast _ (m ((c : Thread nD τ).loc main_arg1)) Facts₀.shapeCasts_S16x2048_S16x1x2048 := by
  unfold V
  simp only [List.flatten_cons, List.flatten_nil, List.append_nil, List.cons_append, List.nil_append]
  after_reads_simp
  all_goals rfl

/-- The rows' maxima and their sums' logarithms, as the host adds them. -/
def lse (x0 : FVec Ideal S2048x6144 .bf16) (x1 : FVec Ideal S16x2048 .f32) : FVec Ideal S16x2048 .f32 :=
  addf (val_main_v25 (F := Ideal) x0 x1) (Host.log (Host.reduceAdd (Host.exp (subf (val_main_v24_0 (F := Ideal) x0 x1)
    (broadcastInDim S16x2048x2048 ![0, 1, 2] Facts₀.bcast_S16x2048x1_S16x2048x2048_0_1_2
      (broadcastInDim S16x2048x1 ![0, 1] Facts₀.bcast_S16x2048_S16x2048x1_0_1 (val_main_v25 (F := Ideal) x0 x1)))))
    (constant S_ .f32 0x00000000#32) Facts₀.reducesTo_S16x2048x2048_S16x2048_d2 Facts₀.h_S_))

theorem V_v66 : V m c main_v66 = broadcastInDim S16x2048x128 ![0, 1, 2] Facts₀.bcast_S16x2048x1_S16x2048x128_0_1_2
    (broadcastInDim S16x2048x1 ![0, 1] Facts₀.bcast_S16x2048_S16x2048x1_0_1 (lse (m ((c : Thread nD τ).loc main_arg0)) (m ((c : Thread nD τ).loc main_arg1)))) := by
  unfold V
  simp only [List.flatten_cons, List.flatten_nil, List.append_nil, List.cons_append, List.nil_append]
  after_reads_simp
  all_goals rfl

theorem v25_eq (x0 : FVec Ideal S2048x6144 .bf16) (x1 : FVec Ideal S16x2048 .f32) : val_main_v25 (F := Ideal) x0 x1 = val_main_v32 (F := Ideal) x0 x1 := by
  funext i
  rw [val_main_v32_apply, val_main_v31_apply]
  show _ = max (Ideal.ofBits .f32 0xFF800000#32) _
  rw [ofBits_negInf]
  exact (bot_sup_eq _).symm

theorem lse_eq (x0 : FVec Ideal S2048x6144 .bf16) (x1 : FVec Ideal S16x2048 .f32) :
    lse x0 x1 = addf (val_main_v32 (F := Ideal) x0 x1) (Host.log (val_main_v46 (F := Ideal) x0 x1)) := by
  unfold lse
  rw [v25_eq]
  rfl

theorem addf_log (a b : FVec Ideal S16x2048 .f32) (y : S16x2048.Idx) : addf a (Host.log b) y = a y + Ideal.log (b y) := rfl

variable {D : Data}

/-- A row's normaliser: its maximum and the logarithm of its weights' sum over it. -/
theorem lse_at {x0 : FVec Ideal S2048x6144 .bf16} {x1 : FVec Ideal S16x2048 .f32} {x2 : FVec Ideal S2048x2048 .bf16} (R : Reads D x0 x1 x2)
    (h : Fin 16) (i : Fin 2048) : ∃ c : ℝ, lse x0 x1 (ix2 h i) = ((c + Real.log (D.z h i * Real.exp (-c)) : ℝ) : EReal) := by
  obtain ⟨c, hc⟩ := Ref.v32 R h i
  refine ⟨c, ?_⟩
  rw [lse_eq, addf_log, hc, Ref.v46 R h i hc, Ideal.log_coe, if_neg (not_le.mpr (mul_pos (D.z_pos h i) (Real.exp_pos _))), ← EReal.coe_add]

/-- The row's normaliser as the kernel's block holds it, the same in every lane. -/
theorem V_v66_at {x2 : FVec Ideal S2048x2048 .bf16} (R : Reads D (m ((c : Thread nD τ).loc main_arg0)) (m ((c : Thread nD τ).loc main_arg1)) x2)
    (h : Fin 16) (i : Fin 2048) (d : Fin 128) : ∃ c' : ℝ, V m c main_v66 (ix3 h i d) = ((c' + Real.log (D.z h i * Real.exp (-c')) : ℝ) : EReal) := by
  obtain ⟨c', hc⟩ := lse_at R h i
  refine ⟨c', ?_⟩
  rw [V_v66, ← hc]
  exact congrArg (lse _ _) (funext fun a => Fin.ext (by
    match a with
    | ⟨0, _⟩ => rfl
    | ⟨1, _⟩ => rfl))

end Cert.Fox
-- ==== Proof.Grid.lean ====
/- The grid, point by point: where its windows lie and what they read. -/
module

public import proofs.«01_k».proof.Proof.Point
public import proofs.«01_k».proof.Proof.Host
public import proofs.«01_k».proof.Proof.Gen.KernelIdeal.Value

@[expose] public section

noncomputable section

namespace Cert.Fox

open Idealize.ShloMosaic hiding ix1 ix2 ix3 ix4
open Idealize.ShloMosaic.TcCoe Idealize.ShloMosaic.ValueIdx
open Cert.KernelIdeal Cert.KernelIdeal.Gen
open Tile (row)

variable (m : (ℓ : Loc nD τ sig) → Buf (Elt Ideal) ℓ) (c : Dev nD)

theorem lt32 (t : Fin cfg0.N) : t.val < 32 := lt_of_lt_of_eq t.isLt (show cfg0.N = 32 from N_0)

/-- A point's head pair and query block. -/
def hp (t : Fin cfg0.N) : Fin 8 := ⟨t.val / 4, by have := lt32 t; omega⟩
def qb (t : Fin cfg0.N) : Fin 4 := ⟨t.val % 4, by omega⟩

theorem coord1 : ∀ t : Fin cfg0.N, (grid0.coords t 1).val = (qb t).val :=
  (by decide +kernel : ∀ t : Fin grid0.N, (grid0.coords t 1).val = t.val % 4)

theorem idxIn : ∀ t : Fin cfg0.N,
    (win0_0.index t (0 : Fin 2) = t.val % 4 ∧ win0_0.index t (1 : Fin 2) = t.val / 4)
    ∧ (win0_1.index t (0 : Fin 2) = 0 ∧ win0_1.index t (1 : Fin 2) = 8 + t.val / 4)
    ∧ (win0_2.index t (0 : Fin 2) = 0 ∧ win0_2.index t (1 : Fin 2) = 16 + t.val / 4)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = 0 ∧ win0_4.index t (2 : Fin 3) = 0)
    ∧ (win0_5.index t (0 : Fin 2) = t.val % 4 ∧ win0_5.index t (1 : Fin 2) = t.val / 4)
    ∧ (win0_6.index t (0 : Fin 2) = t.val % 4 ∧ win0_6.index t (1 : Fin 2) = t.val / 4)
    ∧ (win0_7.index t (0 : Fin 3) = t.val / 4 ∧ win0_7.index t (1 : Fin 3) = t.val % 4 ∧ win0_7.index t (2 : Fin 3) = 0) :=
  (by decide +kernel : ∀ t : Fin grid0.N, _)

theorem idxOut : ∀ t : Fin cfg0.N,
    (win0_8.index t (0 : Fin 2) = t.val % 4 ∧ win0_8.index t (1 : Fin 2) = t.val / 4)
    ∧ (win0_9.index t (0 : Fin 2) = 0 ∧ win0_9.index t (1 : Fin 2) = t.val / 4)
    ∧ (win0_10.index t (0 : Fin 2) = 0 ∧ win0_10.index t (1 : Fin 2) = t.val / 4)
    ∧ (win0_11.index t (0 : Fin 3) = t.val / 4 ∧ win0_11.index t (1 : Fin 3) = 0 ∧ win0_11.index t (2 : Fin 3) = 0)
    ∧ (win0_12.index t (0 : Fin 3) = t.val / 4 ∧ win0_12.index t (1 : Fin 3) = t.val % 4 ∧ win0_12.index t (2 : Fin 3) = 0) :=
  (by decide +kernel : ∀ t : Fin grid0.N, _)

/-! ### The windows' blocks -/

section Blocks

variable {D : Data} (R : Reads D (m ((c : Thread nD τ).loc main_arg0)) (m ((c : Thread nD τ).loc main_arg1)) (m ((c : Thread nD τ).loc main_arg2)))

include R in
theorem iblk0_at (t : Fin cfg0.N) (e : Fin 2) (x : Fin 512) (d : Fin 128) :
    (iblk m c 0 t : Vec Ideal S512x256 .bf16) (ix2 x (lane e d)) = (D.q (hd (hp t) e) (row (qb t) x) d : EReal) := by
  obtain ⟨⟨h0, h1⟩, -⟩ := idxIn t
  show V m c main_arg0 (((cfg0.win 0).blk t).view.emb (ix2 x (lane e d))) = _
  rw [V_main_arg0]
  refine (at2 _ _ (row (qb t) x) (col3 0 (hd (hp t) e) d) ?_ ?_).trans (R.q _ _ _)
  · show win0_0.index t (0 : Fin 2) * 512 + 1 * x.val = 512 * (t.val % 4) + x.val
    rw [h0]; omega
  · show win0_0.index t (1 : Fin 2) * 256 + 1 * (128 * e.val + d.val) = 2048 * 0 + (128 * (2 * (t.val / 4) + e.val) + d.val)
    rw [h1]; omega

include R in
theorem iblk1_at (t : Fin cfg0.N) (e : Fin 2) (j : Fin 2048) (d : Fin 128) :
    (iblk m c 1 t : Vec Ideal S2048x256 .bf16) (ix2 j (lane e d)) = (D.k (hd (hp t) e) j d : EReal) := by
  obtain ⟨-, ⟨h0, h1⟩, -⟩ := idxIn t
  show V m c main_arg0 (((cfg0.win 1).blk t).view.emb (ix2 j (lane e d))) = _
  rw [V_main_arg0]
  refine (at2 _ _ j (col3 1 (hd (hp t) e) d) ?_ ?_).trans (R.k _ _ _)
  · show win0_1.index t (0 : Fin 2) * 2048 + 1 * j.val = j.val
    rw [h0]; omega
  · show win0_1.index t (1 : Fin 2) * 256 + 1 * (128 * e.val + d.val) = 2048 * 1 + (128 * (2 * (t.val / 4) + e.val) + d.val)
    rw [h1]; omega

include R in
theorem iblk2_at (t : Fin cfg0.N) (e : Fin 2) (j : Fin 2048) (d : Fin 128) :
    (iblk m c 2 t : Vec Ideal S2048x256 .bf16) (ix2 j (lane e d)) = (D.v (hd (hp t) e) j d : EReal) := by
  obtain ⟨-, -, ⟨h0, h1⟩, -⟩ := idxIn t
  show V m c main_arg0 (((cfg0.win 2).blk t).view.emb (ix2 j (lane e d))) = _
  rw [V_main_arg0]
  refine (at2 _ _ j (col3 2 (hd (hp t) e) d) ?_ ?_).trans (R.v _ _ _)
  · show win0_2.index t (0 : Fin 2) * 2048 + 1 * j.val = j.val
    rw [h0]; omega
  · show win0_2.index t (1 : Fin 2) * 256 + 1 * (128 * e.val + d.val) = 2048 * 2 + (128 * (2 * (t.val / 4) + e.val) + d.val)
    rw [h1]; omega

include R in
theorem iblk3_at (t : Fin cfg0.N) (e : Fin 2) (x : Fin 512) :
    (iblk m c 3 t : Vec Ideal S2x512x1 .f32) (ix3 e x 0) = (D.u (hd (hp t) e) (row (qb t) x) : EReal) := by
  obtain ⟨-, -, -, ⟨h0, h1, h2⟩, -⟩ := idxIn t
  show V m c main_v67 (((cfg0.win 3).blk t).view.emb (ix3 e x 0)) = _
  rw [V_v67]
  refine (at3 _ _ (hd (hp t) e) (row (qb t) x) 0 ?_ ?_ ?_).trans ?_
  · show win0_3.index t (0 : Fin 3) * 2 + 1 * e.val = 2 * (t.val / 4) + e.val
    rw [h0]; omega
  · show win0_3.index t (1 : Fin 3) * 512 + 1 * x.val = 512 * (t.val % 4) + x.val
    rw [h1]; omega
  · show win0_3.index t (2 : Fin 3) * 1 + 1 * 0 = 0
    rw [h2]
  · pointwise
    exact R.u _ _

include R in
theorem iblk4_at (t : Fin cfg0.N) (e : Fin 2) (j : Fin 2048) :
    (iblk m c 4 t : Vec Ideal S2x1x2048 .f32) (ix3 e 0 j) = (D.u (hd (hp t) e) j : EReal) := by
  obtain ⟨-, -, -, -, ⟨h0, h1, h2⟩, -⟩ := idxIn t
  show V m c main_v68 (((cfg0.win 4).blk t).view.emb (ix3 e 0 j)) = _
  rw [V_v68]
  refine (at3 _ _ (hd (hp t) e) 0 j ?_ ?_ ?_).trans ?_
  · show win0_4.index t (0 : Fin 3) * 2 + 1 * e.val = 2 * (t.val / 4) + e.val
    rw [h0]; omega
  · show win0_4.index t (1 : Fin 3) * 1 + 1 * 0 = 0
    rw [h1]
  · show win0_4.index t (2 : Fin 3) * 2048 + 1 * j.val = j.val
    rw [h2]; omega
  · refine (shapeCast_apply _ _ (ix3 (hd (hp t) e) 0 j) (ix2 (hd (hp t) e) j) ?_).trans (R.u _ _)
    rw [Shape.rowMajor_val_two, Shape.rowMajor_val_three]
    show (hd (hp t) e).val * 2048 + j.val = ((hd (hp t) e).val * 1 + 0) * 2048 + j.val
    omega

include R in
theorem iblk5_at (t : Fin cfg0.N) (e : Fin 2) (x : Fin 512) (d : Fin 128) :
    (iblk m c 5 t : Vec Ideal S512x256 .bf16) (ix2 x (lane e d)) = (D.g (hd (hp t) e) (row (qb t) x) d : EReal) := by
  obtain ⟨-, -, -, -, -, ⟨h0, h1⟩, -⟩ := idxIn t
  show V m c main_arg2 (((cfg0.win 5).blk t).view.emb (ix2 x (lane e d))) = _
  rw [V_main_arg2]
  refine (at2 _ _ (row (qb t) x) (col (hd (hp t) e) d) ?_ ?_).trans (R.g _ _ _)
  · show win0_5.index t (0 : Fin 2) * 512 + 1 * x.val = 512 * (t.val % 4) + x.val
    rw [h0]; omega
  · show win0_5.index t (1 : Fin 2) * 256 + 1 * (128 * e.val + d.val) = 128 * (2 * (t.val / 4) + e.val) + d.val
    rw [h1]; omega

include R in
theorem iblk6_at (t : Fin cfg0.N) (e : Fin 2) (x : Fin 512) (d : Fin 128) :
    (iblk m c 6 t : Vec Ideal S512x256 .f32) (ix2 x (lane e d)) = (D.out (hd (hp t) e) (row (qb t) x) d : EReal) := by
  obtain ⟨-, -, -, -, -, -, ⟨h0, h1⟩, -⟩ := idxIn t
  show V m c main_v64 (((cfg0.win 6).blk t).view.emb (ix2 x (lane e d))) = _
  rw [V_v64]
  refine (at2 _ _ (row (qb t) x) (col (hd (hp t) e) d) ?_ ?_).trans (Ref.v55 R _ _ _)
  · show win0_6.index t (0 : Fin 2) * 512 + 1 * x.val = 512 * (t.val % 4) + x.val
    rw [h0]; omega
  · show win0_6.index t (1 : Fin 2) * 256 + 1 * (128 * e.val + d.val) = 128 * (2 * (t.val / 4) + e.val) + d.val
    rw [h1]; omega

/-- A function read where the eighth window's block lies. -/
theorem at7 (t : Fin cfg0.N) (e : Fin 2) (x : Fin 512) (w : S16x2048x128.Idx → EReal) :
    w (((cfg0.win 7).blk t).view.emb (ix3 e x 0 : S2x512x128.Idx)) = w (ix3 (hd (hp t) e) (row (qb t) x) 0) := by
  obtain ⟨-, -, -, -, -, -, -, h0, h1, h2⟩ := idxIn t
  refine at3 w _ (hd (hp t) e) (row (qb t) x) 0 ?_ ?_ ?_
  · show win0_7.index t (0 : Fin 3) * 2 + 1 * e.val = 2 * (t.val / 4) + e.val
    rw [h0]; omega
  · show win0_7.index t (1 : Fin 3) * 512 + 1 * x.val = 512 * (t.val % 4) + x.val
    rw [h1]; omega
  · show win0_7.index t (2 : Fin 3) * 128 + 1 * 0 = 0
    rw [h2]

/-- The eighth window's block, whatever the arrays hold. -/
theorem read7 (t : Fin cfg0.N) (z : S2x512x128.Idx) (W : (b : Ref sig .tc) → Buf (Elt Ideal) ((c : Thread nD τ).loc b)) :
    ((cfg0.win 7).blk t).view.read (Elt Ideal) (W (Pipeline.arrRef spec0 7)) z = W main_v66 (((cfg0.win 7).blk t).view.emb z) := rfl

theorem iblk7_eq (t : Fin cfg0.N) (e : Fin 2) (x : Fin 512) :
    (iblk m c 7 t : Vec Ideal S2x512x128 .f32) (ix3 e x 0) = V m c main_v66 (((cfg0.win 7).blk t).view.emb (ix3 e x 0 : S2x512x128.Idx)) :=
  read7 c t _ (V m c)

include R in
theorem iblk7_at (t : Fin cfg0.N) (e : Fin 2) (x : Fin 512) :
    ∃ r : ℝ, (iblk m c 7 t : Vec Ideal S2x512x128 .f32) (ix3 e x 0)
      = ((r + Real.log (D.z (hd (hp t) e) (row (qb t) x) * Real.exp (-r)) : ℝ) : EReal) := by
  obtain ⟨r, hr⟩ := V_v66_at m c R (hd (hp t) e) (row (qb t) x) 0
  exact ⟨r, (iblk7_eq m c t e x).trans ((at7 t e x (V m c main_v66)).trans hr)⟩

include R in
/-- The eight blocks of a point. -/
theorem blocks_at (t : Fin cfg0.N) : Blocks D (hp t) (qb t) (iblk m c 0 t) (iblk m c 1 t) (iblk m c 2 t) (iblk m c 3 t) (iblk m c 4 t) (iblk m c 5 t)
    (iblk m c 6 t) (iblk m c 7 t) where
  q := iblk0_at m c R t
  k := iblk1_at m c R t
  v := iblk2_at m c R t
  cc := iblk3_at m c R t
  cr := iblk4_at m c R t
  g := iblk5_at m c R t
  o := iblk6_at m c R t
  l := iblk7_at m c R t

end Blocks

end Cert.Fox
-- ==== Proof.Sweep.lean ====
/- The grid, point by point: what the results' buffers hold after each point. -/
module

public import proofs.«01_k».proof.Proof.Grid

@[expose] public section

noncomputable section

namespace Cert.Fox

open Idealize.ShloMosaic hiding ix1 ix2 ix3 ix4
open Idealize.ShloMosaic.TcCoe Idealize.ShloMosaic.ValueIdx
open Cert.KernelIdeal Cert.KernelIdeal.Gen
open Tile (row)

/-- The query blocks' shares up to the `n`-th, added. -/
def acc (T : Fin 4 → ℝ) (n : ℕ) : ℝ := ∑ b : Fin 4, if b.val ≤ n then T b else 0

theorem acc_zero (T : Fin 4 → ℝ) (b : Fin 4) (h : b.val = 0) : acc T b.val = T b := by
  obtain rfl : b = 0 := Fin.ext h
  simp [acc, Fin.sum_univ_four]

theorem acc_succ (T : Fin 4 → ℝ) (b : Fin 4) (h : b.val ≠ 0) : acc T b.val = acc T (b.val - 1) + T b := by
  match b with
  | 0 => exact absurd rfl h
  | 1 => simp [acc, Fin.sum_univ_four]
  | 2 => simp [acc, Fin.sum_univ_four]
  | 3 => simp [acc, Fin.sum_univ_four]

theorem acc_three (T : Fin 4 → ℝ) : acc T 3 = ∑ b : Fin 4, T b := by
  simp [acc, Fin.sum_univ_four]

/-- What the five results' buffers hold after the point of head pair `p` and query block `a`. -/
structure Outs (D : Data) (p : Fin 8) (a : Fin 4) (o : Vec Ideal S512x256 .bf16 × Vec Ideal S2048x256 .f32 × Vec Ideal S2048x256 .f32
    × Vec Ideal S2x1x2048 .f32 × Vec Ideal S2x512x1 .f32) : Prop where
  dq : ∀ e x d, o.1 (ix2 x (lane e d)) = (D.dq (hd p e) (row a x) d : EReal)
  dk : ∀ e j d, o.2.1 (ix2 j (lane e d)) = (acc (fun b => dkT D b (hd p e) j d) a.val : EReal)
  dv : ∀ e j d, o.2.2.1 (ix2 j (lane e d)) = (acc (fun b => dvT D b (hd p e) j d) a.val : EReal)
  dc : ∀ e j, o.2.2.2.1 (ix3 e 0 j) = ((-acc (fun b => dcT D b (hd p e) j) a.val : ℝ) : EReal)
  rs : ∀ e x, o.2.2.2.2 (ix3 e x 0) = (D.dcq (hd p e) (row a x) : EReal)

theorem Outs.of {D : Data} {p : Fin 8} {a : Fin 4} {o1 : Vec Ideal S512x256 .bf16} {o2 o3 : Vec Ideal S2048x256 .f32} {o4 : Vec Ideal S2x1x2048 .f32}
    {o5 : Vec Ideal S2x512x1 .f32}
    (h1 : ∀ e x d, o1 (ix2 x (lane e d)) = (D.dq (hd p e) (row a x) d : EReal))
    (h2 : ∀ e j d, o2 (ix2 j (lane e d)) = (acc (fun b => dkT D b (hd p e) j d) a.val : EReal))
    (h3 : ∀ e j d, o3 (ix2 j (lane e d)) = (acc (fun b => dvT D b (hd p e) j d) a.val : EReal))
    (h4 : ∀ e j, o4 (ix3 e 0 j) = ((-acc (fun b => dcT D b (hd p e) j) a.val : ℝ) : EReal))
    (h5 : ∀ e x, o5 (ix3 e x 0) = (D.dcq (hd p e) (row a x) : EReal)) : Outs D p a (o1, o2, o3, o4, o5) :=
  ⟨h1, h2, h3, h4, h5⟩

variable (m : (ℓ : Loc nD τ sig) → Buf (Elt Ideal) ℓ) (c : Dev nD)
variable {D : Data} (R : Reads D (m ((c : Thread nD τ).loc main_arg0)) (m ((c : Thread nD τ).loc main_arg1)) (m ((c : Thread nD τ).loc main_arg2)))

include R in
theorem outs_first (t : Fin cfg0.N) (h0 : t.val % 4 = 0) : Outs D (hp t) (qb t) (outsAt0 m c t.val t.isLt) := by
  obtain ⟨h8, h9, h10, h11, h12⟩ := outA (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := scM0_0) (harg15 := Memref.isWhole_whole _) (arg16 := scM0_1) (harg16 := Memref.isWhole_whole _) ((hcond0_0 t).mpr h0) (blocks_at m c R t) (coord1 t)
  rw [outsAt0_A m c t h0]
  have hb : (qb t).val = 0 := h0
  refine Outs.of h8 (fun e j d => ?_) (fun e j d => ?_) (fun e j => ?_) h12
  · rw [acc_zero _ _ hb]; exact h9 e j d
  · rw [acc_zero _ _ hb]; exact h10 e j d
  · rw [acc_zero _ _ hb, ← zero_sub]; exact h11 e j

include R in
theorem outs_next (t : Fin cfg0.N) (h0 : ¬t.val % 4 = 0) (a : Fin 4) (ha : a.val = (qb t).val - 1)
    (ih : Outs D (hp t) a (outsAt0 m c (t.val - 1) (Nat.lt_of_le_of_lt (Nat.sub_le _ _) t.isLt))) : Outs D (hp t) (qb t) (outsAt0 m c t.val t.isLt) := by
  obtain ⟨h8, h9, h10, h11, h12⟩ := outB (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := ms0_9 t) (harg11 := hs0_9 t) (arg12 := ms0_10 t) (harg12 := hs0_10 t) (arg13 := ms0_11 t) (harg13 := hs0_11 t) (arg14 := ms0_12 t) (harg14 := hs0_12 t) (arg15 := scM0_0) (harg15 := Memref.isWhole_whole _) (arg16 := scM0_1) (harg16 := Memref.isWhole_whole _) (fun h => h0 ((hcond0_0 t).mp h)) (blocks_at m c R t) (coord1 t) ih.dk ih.dv ih.dc
  rw [outsAt0_B m c t h0]
  have hb : (qb t).val ≠ 0 := h0
  refine Outs.of h8 (fun e j d => ?_) (fun e j d => ?_) (fun e j => ?_) h12
  · rw [acc_succ _ _ hb, ← ha]; exact h9 e j d
  · rw [acc_succ _ _ hb, ← ha]; exact h10 e j d
  · rw [acc_succ _ _ hb, ← ha, neg_add, ← sub_eq_add_neg]; exact h11 e j

include R in
theorem outs_nat : ∀ (n : ℕ) (hn : n < cfg0.N), Outs D (hp ⟨n, hn⟩) (qb ⟨n, hn⟩) (outsAt0 m c n hn) := by
  intro n
  induction n with
  | zero => exact fun hn => outs_first m c R ⟨0, hn⟩ (Nat.zero_mod 4)
  | succ n ih =>
    intro hn
    rcases Nat.eq_zero_or_pos ((n + 1) % 4) with h0 | h0
    · exact outs_first m c R ⟨n + 1, hn⟩ h0
    · have ih := ih (Nat.lt_of_succ_lt hn)
      have hp' : hp ⟨n, Nat.lt_of_succ_lt hn⟩ = hp ⟨n + 1, hn⟩ := Fin.ext (show n / 4 = (n + 1) / 4 by omega)
      rw [hp'] at ih
      exact outs_next m c R ⟨n + 1, hn⟩ (Nat.pos_iff_ne_zero.mp h0) _ (show n % 4 = (n + 1) % 4 - 1 by omega) ih

include R in
/-- The results' buffers after every point. -/
theorem outs (t : Fin cfg0.N) : Outs D (hp t) (qb t) (outsAt0 m c t.val t.isLt) := outs_nat m c R t.val t.isLt

end Cert.Fox
-- ==== Proof.Result.lean ====
/- The five result arrays after the grid. -/
module

public import proofs.«01_k».proof.Proof.Sweep

@[expose] public section

noncomputable section

namespace Cert.Fox

open Idealize.ShloMosaic hiding ix1 ix2 ix3 ix4
open Idealize.ShloMosaic.TcCoe Idealize.ShloMosaic.ValueIdx
open Cert.KernelIdeal Cert.KernelIdeal.Gen
open Tile (row)

/-- A sum over all rows, one query block at a time. -/
theorem sum_rows (f : Fin 2048 → ℝ) : ∑ b : Fin 4, ∑ x : Fin 512, f (row b x) = ∑ i, f i := by
  rw [← Fintype.sum_prod_type']
  refine Fintype.sum_equiv (finProdFinEquiv (m := 4) (n := 512)) _ _ fun y => ?_
  refine congrArg f (Fin.ext ?_)
  show 512 * y.1.val + y.2.val = y.2.val + 512 * y.1.val
  exact Nat.add_comm _ _

theorem dk_whole (D : Data) (h : Fin 16) (j : Fin 2048) (d : Fin 128) : acc (fun b => dkT D b h j d) 3 = D.dk h j d := by
  rw [acc_three]
  exact sum_rows fun i => D.ds h i j * factor * D.q h i d

theorem dv_whole (D : Data) (h : Fin 16) (j : Fin 2048) (d : Fin 128) : acc (fun b => dvT D b h j d) 3 = D.dv h j d := by
  rw [acc_three]
  exact sum_rows fun i => D.p h i j * D.g h i d

theorem dc_whole (D : Data) (h : Fin 16) (j : Fin 2048) : -acc (fun b => dcT D b h j) 3 = D.dck h j := by
  rw [acc_three]
  exact congrArg Neg.neg (sum_rows fun i => D.ds h i j)

/-- Every column of a head pair's block is a head's lane. -/
theorem exists_lane (y : Fin 256) : ∃ e d, y = lane e d :=
  ⟨⟨y.val / 128, by omega⟩, ⟨y.val % 128, by omega⟩, Fin.ext (by show y.val = 128 * (y.val / 128) + y.val % 128; omega)⟩

theorem exists_tile {n : ℕ} (z : (⟨2, ![n, 256]⟩ : Shape).Idx) : ∃ x e d, z = ix2 x (lane e d) := by
  obtain ⟨e, d, h⟩ := exists_lane (z 1)
  refine ⟨z 0, e, d, funext fun a => ?_⟩
  match a with
  | ⟨0, _⟩ => rfl
  | ⟨1, _⟩ => exact h

theorem exists_line (z : S2x1x2048.Idx) : ∃ e j, z = ix3 e 0 j :=
  ⟨z 0, z 2, funext fun a => by match a with | ⟨0, _⟩ => rfl | ⟨1, _⟩ => exact Subsingleton.elim (α := Fin 1) _ _ | ⟨2, _⟩ => rfl⟩

theorem exists_post (z : S2x512x1.Idx) : ∃ e x, z = ix3 e x 0 :=
  ⟨z 0, z 1, funext fun a => by match a with | ⟨0, _⟩ => rfl | ⟨1, _⟩ => rfl | ⟨2, _⟩ => exact Subsingleton.elim (α := Fin 1) _ _⟩

/-- The point of head pair `p` and query block `a`. -/
def pt (p a : ℕ) (hp : p < 8) (ha : a < 4) : Fin cfg0.N := ⟨4 * p + a, lt_of_lt_of_eq (by omega) N_0.symm⟩

variable (m : (ℓ : Loc nD τ sig) → Buf (Elt Ideal) ℓ) (c : Dev nD)
variable {D : Data} (R : Reads D (m ((c : Thread nD τ).loc main_arg0)) (m ((c : Thread nD τ).loc main_arg1)) (m ((c : Thread nD τ).loc main_arg2)))

theorem at8 (t : Fin cfg0.N) (e : Fin 2) (x : Fin 512) (d : Fin 128) (r : S2048x2048.Idx → EReal) :
    ((cfg0.win 8).blk t).view.read (Elt Ideal) r (ix2 x (lane e d) : S512x256.Idx) = r (ix2 (row (qb t) x) (col (hd (hp t) e) d)) := by
  obtain ⟨⟨i0, i1⟩, -⟩ := idxOut t
  refine at2 r _ (row (qb t) x) (col (hd (hp t) e) d) ?_ ?_
  · show win0_8.index t (0 : Fin 2) * 512 + 1 * x.val = 512 * (t.val % 4) + x.val
    rw [i0]; omega
  · show win0_8.index t (1 : Fin 2) * 256 + 1 * (128 * e.val + d.val) = 128 * (2 * (t.val / 4) + e.val) + d.val
    rw [i1]; omega

include R in
theorem final8 (r : S2048x2048.Idx → EReal) (hr : ∀ h i d, r (ix2 i (col h d)) = (D.dq h i d : EReal)) : (dats m 0 c).arrAt 8 cfg0.N = r := by
  refine (dats m 0 c).arrAt_eq_of_cover 8 r (fun t _ => ?_) (fun y => ?_)
  · rw [Value.flushed8 m c t]
    funext z
    obtain ⟨x, e, d, rfl⟩ := exists_tile z
    exact ((outs m c R t).dq e x d).trans ((at8 t e x d r).trans (hr _ _ _)).symm
  · have b0 : (y (0 : Fin 2)).val < 2048 := (y (0 : Fin 2)).isLt
    have b1 : (y (1 : Fin 2)).val < 2048 := (y (1 : Fin 2)).isLt
    obtain ⟨t, ht, hf⟩ : ∃ t : Fin cfg0.N, t.val = 4 * ((y (1 : Fin 2)).val / 256) + (y (0 : Fin 2)).val / 512 ∧ (cfg0.win 8).flush t = true :=
      ⟨pt ((y (1 : Fin 2)).val / 256) ((y (0 : Fin 2)).val / 512) (by omega) (by omega), rfl, flush0_8 _⟩
    refine ⟨t, hf, ?_⟩
    show y ∈ ((View.whole main_v69_0).slice (win0_8.rect t)).set
    rw [View.set_slice_whole, Rect.mem_set_unit]
    obtain ⟨⟨i0, i1⟩, -⟩ := idxOut t
    intro a
    match a with
    | ⟨0, _⟩ =>
      show win0_8.index t (0 : Fin 2) * 512 ≤ (y (0 : Fin 2)).val ∧ (y (0 : Fin 2)).val < win0_8.index t (0 : Fin 2) * 512 + 512
      rw [i0]; omega
    | ⟨1, _⟩ =>
      show win0_8.index t (1 : Fin 2) * 256 ≤ (y (1 : Fin 2)).val ∧ (y (1 : Fin 2)).val < win0_8.index t (1 : Fin 2) * 256 + 256
      rw [i1]; omega

theorem at9 (t : Fin cfg0.N) (e : Fin 2) (x : Fin 2048) (d : Fin 128) (r : S2048x2048.Idx → EReal) :
    ((cfg0.win 9).blk t).view.read (Elt Ideal) r (ix2 x (lane e d) : S2048x256.Idx) = r (ix2 x (col (hd (hp t) e) d)) := by
  obtain ⟨-, ⟨i0, i1⟩, -⟩ := idxOut t
  refine at2 r _ x (col (hd (hp t) e) d) ?_ ?_
  · show win0_9.index t (0 : Fin 2) * 2048 + 1 * x.val = x.val
    rw [i0]; omega
  · show win0_9.index t (1 : Fin 2) * 256 + 1 * (128 * e.val + d.val) = 128 * (2 * (t.val / 4) + e.val) + d.val
    rw [i1]; omega

include R in
theorem final9 (r : S2048x2048.Idx → EReal) (hr : ∀ h i d, r (ix2 i (col h d)) = (D.dk h i d : EReal)) : (dats m 0 c).arrAt 9 cfg0.N = r := by
  refine (dats m 0 c).arrAt_eq_of_cover 9 r (fun t hf => ?_) (fun y => ?_)
  · rw [Value.flushed9 m c t]
    have hq : (qb t).val = 3 := (flush0_9 t).mp hf
    funext z
    obtain ⟨x, e, d, rfl⟩ := exists_tile z
    have b := (outs m c R t).dk e x d
    rw [hq, dk_whole] at b
    exact b.trans ((at9 t e x d r).trans (hr _ _ _)).symm
  · have b0 : (y (0 : Fin 2)).val < 2048 := (y (0 : Fin 2)).isLt
    have b1 : (y (1 : Fin 2)).val < 2048 := (y (1 : Fin 2)).isLt
    obtain ⟨t, ht, hf⟩ : ∃ t : Fin cfg0.N, t.val = 4 * ((y (1 : Fin 2)).val / 256) + 3 ∧ (cfg0.win 9).flush t = true :=
      ⟨pt ((y (1 : Fin 2)).val / 256) (3) (by omega) (by omega), rfl, (flush0_9 _).mpr (show (4 * ((y (1 : Fin 2)).val / 256) + 3) % 4 = 3 by omega)⟩
    refine ⟨t, hf, ?_⟩
    show y ∈ ((View.whole main_v69_1).slice (win0_9.rect t)).set
    rw [View.set_slice_whole, Rect.mem_set_unit]
    obtain ⟨-, ⟨i0, i1⟩, -⟩ := idxOut t
    intro a
    match a with
    | ⟨0, _⟩ =>
      show win0_9.index t (0 : Fin 2) * 2048 ≤ (y (0 : Fin 2)).val ∧ (y (0 : Fin 2)).val < win0_9.index t (0 : Fin 2) * 2048 + 2048
      rw [i0]; omega
    | ⟨1, _⟩ =>
      show win0_9.index t (1 : Fin 2) * 256 ≤ (y (1 : Fin 2)).val ∧ (y (1 : Fin 2)).val < win0_9.index t (1 : Fin 2) * 256 + 256
      rw [i1]; omega

theorem at10 (t : Fin cfg0.N) (e : Fin 2) (x : Fin 2048) (d : Fin 128) (r : S2048x2048.Idx → EReal) :
    ((cfg0.win 10).blk t).view.read (Elt Ideal) r (ix2 x (lane e d) : S2048x256.Idx) = r (ix2 x (col (hd (hp t) e) d)) := by
  obtain ⟨-, -, ⟨i0, i1⟩, -⟩ := idxOut t
  refine at2 r _ x (col (hd (hp t) e) d) ?_ ?_
  · show win0_10.index t (0 : Fin 2) * 2048 + 1 * x.val = x.val
    rw [i0]; omega
  · show win0_10.index t (1 : Fin 2) * 256 + 1 * (128 * e.val + d.val) = 128 * (2 * (t.val / 4) + e.val) + d.val
    rw [i1]; omega

include R in
theorem final10 (r : S2048x2048.Idx → EReal) (hr : ∀ h i d, r (ix2 i (col h d)) = (D.dv h i d : EReal)) : (dats m 0 c).arrAt 10 cfg0.N = r := by
  refine (dats m 0 c).arrAt_eq_of_cover 10 r (fun t hf => ?_) (fun y => ?_)
  · rw [Value.flushed10 m c t]
    have hq : (qb t).val = 3 := (flush0_10 t).mp hf
    funext z
    obtain ⟨x, e, d, rfl⟩ := exists_tile z
    have b := (outs m c R t).dv e x d
    rw [hq, dv_whole] at b
    exact b.trans ((at10 t e x d r).trans (hr _ _ _)).symm
  · have b0 : (y (0 : Fin 2)).val < 2048 := (y (0 : Fin 2)).isLt
    have b1 : (y (1 : Fin 2)).val < 2048 := (y (1 : Fin 2)).isLt
    obtain ⟨t, ht, hf⟩ : ∃ t : Fin cfg0.N, t.val = 4 * ((y (1 : Fin 2)).val / 256) + 3 ∧ (cfg0.win 10).flush t = true :=
      ⟨pt ((y (1 : Fin 2)).val / 256) (3) (by omega) (by omega), rfl, (flush0_10 _).mpr (show (4 * ((y (1 : Fin 2)).val / 256) + 3) % 4 = 3 by omega)⟩
    refine ⟨t, hf, ?_⟩
    show y ∈ ((View.whole main_v69_2).slice (win0_10.rect t)).set
    rw [View.set_slice_whole, Rect.mem_set_unit]
    obtain ⟨-, -, ⟨i0, i1⟩, -⟩ := idxOut t
    intro a
    match a with
    | ⟨0, _⟩ =>
      show win0_10.index t (0 : Fin 2) * 2048 ≤ (y (0 : Fin 2)).val ∧ (y (0 : Fin 2)).val < win0_10.index t (0 : Fin 2) * 2048 + 2048
      rw [i0]; omega
    | ⟨1, _⟩ =>
      show win0_10.index t (1 : Fin 2) * 256 ≤ (y (1 : Fin 2)).val ∧ (y (1 : Fin 2)).val < win0_10.index t (1 : Fin 2) * 256 + 256
      rw [i1]; omega

theorem at11 (t : Fin cfg0.N) (e : Fin 2) (j : Fin 2048) (r : S16x1x2048.Idx → EReal) :
    ((cfg0.win 11).blk t).view.read (Elt Ideal) r (ix3 e 0 j : S2x1x2048.Idx) = r (ix3 (hd (hp t) e) 0 j) := by
  obtain ⟨-, -, -, ⟨i0, i1, i2⟩, -⟩ := idxOut t
  refine at3 r _ (hd (hp t) e) 0 j ?_ ?_ ?_
  · show win0_11.index t (0 : Fin 3) * 2 + 1 * e.val = 2 * (t.val / 4) + e.val
    rw [i0]; omega
  · show win0_11.index t (1 : Fin 3) * 1 + 1 * 0 = 0
    rw [i1]
  · show win0_11.index t (2 : Fin 3) * 2048 + 1 * j.val = j.val
    rw [i2]; omega

include R in
theorem final11 (r : S16x1x2048.Idx → EReal) (hr : ∀ h j, r (ix3 h 0 j) = (D.dck h j : EReal)) : (dats m 0 c).arrAt 11 cfg0.N = r := by
  refine (dats m 0 c).arrAt_eq_of_cover 11 r (fun t hf => ?_) (fun y => ?_)
  · rw [Value.flushed11 m c t]
    have hq : (qb t).val = 3 := (flush0_11 t).mp hf
    funext z
    obtain ⟨e, j, rfl⟩ := exists_line z
    have b := (outs m c R t).dc e j
    rw [hq, dc_whole] at b
    exact b.trans ((at11 t e j r).trans (hr _ _)).symm
  · have b0 : (y (0 : Fin 3)).val < 16 := (y (0 : Fin 3)).isLt
    have b1 : (y (1 : Fin 3)).val < 1 := (y (1 : Fin 3)).isLt
    have b2 : (y (2 : Fin 3)).val < 2048 := (y (2 : Fin 3)).isLt
    obtain ⟨t, ht, hf⟩ : ∃ t : Fin cfg0.N, t.val = 4 * ((y (0 : Fin 3)).val / 2) + 3 ∧ (cfg0.win 11).flush t = true :=
      ⟨pt ((y (0 : Fin 3)).val / 2) (3) (by omega) (by omega), rfl, (flush0_11 _).mpr (show (4 * ((y (0 : Fin 3)).val / 2) + 3) % 4 = 3 by omega)⟩
    refine ⟨t, hf, ?_⟩
    show y ∈ ((View.whole main_v69_3).slice (win0_11.rect t)).set
    rw [View.set_slice_whole, Rect.mem_set_unit]
    obtain ⟨-, -, -, ⟨i0, i1, i2⟩, -⟩ := idxOut t
    intro a
    match a with
    | ⟨0, _⟩ =>
      show win0_11.index t (0 : Fin 3) * 2 ≤ (y (0 : Fin 3)).val ∧ (y (0 : Fin 3)).val < win0_11.index t (0 : Fin 3) * 2 + 2
      rw [i0]; omega
    | ⟨1, _⟩ =>
      show win0_11.index t (1 : Fin 3) * 1 ≤ (y (1 : Fin 3)).val ∧ (y (1 : Fin 3)).val < win0_11.index t (1 : Fin 3) * 1 + 1
      rw [i1]; omega
    | ⟨2, _⟩ =>
      show win0_11.index t (2 : Fin 3) * 2048 ≤ (y (2 : Fin 3)).val ∧ (y (2 : Fin 3)).val < win0_11.index t (2 : Fin 3) * 2048 + 2048
      rw [i2]; omega

theorem at12 (t : Fin cfg0.N) (e : Fin 2) (x : Fin 512) (r : S16x2048x1.Idx → EReal) :
    ((cfg0.win 12).blk t).view.read (Elt Ideal) r (ix3 e x 0 : S2x512x1.Idx) = r (ix3 (hd (hp t) e) (row (qb t) x) 0) := by
  obtain ⟨-, -, -, -, i0, i1, i2⟩ := idxOut t
  refine at3 r _ (hd (hp t) e) (row (qb t) x) 0 ?_ ?_ ?_
  · show win0_12.index t (0 : Fin 3) * 2 + 1 * e.val = 2 * (t.val / 4) + e.val
    rw [i0]; omega
  · show win0_12.index t (1 : Fin 3) * 512 + 1 * x.val = 512 * (t.val % 4) + x.val
    rw [i1]; omega
  · show win0_12.index t (2 : Fin 3) * 1 + 1 * 0 = 0
    rw [i2]

include R in
theorem final12 (r : S16x2048x1.Idx → EReal) (hr : ∀ h i, r (ix3 h i 0) = (D.dcq h i : EReal)) : (dats m 0 c).arrAt 12 cfg0.N = r := by
  refine (dats m 0 c).arrAt_eq_of_cover 12 r (fun t _ => ?_) (fun y => ?_)
  · rw [Value.flushed12 m c t]
    funext z
    obtain ⟨e, x, rfl⟩ := exists_post z
    exact ((outs m c R t).rs e x).trans ((at12 t e x r).trans (hr _ _)).symm
  · have b0 : (y (0 : Fin 3)).val < 16 := (y (0 : Fin 3)).isLt
    have b1 : (y (1 : Fin 3)).val < 2048 := (y (1 : Fin 3)).isLt
    have b2 : (y (2 : Fin 3)).val < 1 := (y (2 : Fin 3)).isLt
    obtain ⟨t, ht, hf⟩ : ∃ t : Fin cfg0.N, t.val = 4 * ((y (0 : Fin 3)).val / 2) + (y (1 : Fin 3)).val / 512 ∧ (cfg0.win 12).flush t = true :=
      ⟨pt ((y (0 : Fin 3)).val / 2) ((y (1 : Fin 3)).val / 512) (by omega) (by omega), rfl, flush0_12 _⟩
    refine ⟨t, hf, ?_⟩
    show y ∈ ((View.whole main_v69_4).slice (win0_12.rect t)).set
    rw [View.set_slice_whole, Rect.mem_set_unit]
    obtain ⟨-, -, -, -, i0, i1, i2⟩ := idxOut t
    intro a
    match a with
    | ⟨0, _⟩ =>
      show win0_12.index t (0 : Fin 3) * 2 ≤ (y (0 : Fin 3)).val ∧ (y (0 : Fin 3)).val < win0_12.index t (0 : Fin 3) * 2 + 2
      rw [i0]; omega
    | ⟨1, _⟩ =>
      show win0_12.index t (1 : Fin 3) * 512 ≤ (y (1 : Fin 3)).val ∧ (y (1 : Fin 3)).val < win0_12.index t (1 : Fin 3) * 512 + 512
      rw [i1]; omega
    | ⟨2, _⟩ =>
      show win0_12.index t (2 : Fin 3) * 1 ≤ (y (2 : Fin 3)).val ∧ (y (2 : Fin 3)).val < win0_12.index t (2 : Fin 3) * 1 + 1
      rw [i2]; omega

end Cert.Fox
-- ==== Proof.Finite.lean ====
/- Finite arguments, read as reals. -/
module

public import proofs.«01_k».proof.Proof.Reference
public import proofs.«01_k».proof.Proof.Gen.Pre_finite
public import Idealize.ShloMosaic.Lib.ReduceAll
public import Idealize.ShloMosaic.Lib.WordCmp

@[expose] public section

noncomputable section

namespace Cert.Fox

open Idealize.ShloMosaic Idealize.ShloMosaic.ValueIdx
open Cert.ReferenceIdeal

theorem ofBits_posInf : Ideal.ofBits .f32 0x7F800000#32 = ⊤ := by simp [Ideal.ofBits, Ideal.ieee]

/-- A number whose absolute value is below infinity is real. -/
theorem coe_of_abs (x : EReal) (h : max x (-x) < ⊤) : x = (x.toReal : EReal) := by
  refine (EReal.coe_toReal (fun e => ?_) (fun e => ?_)).symm
  · rw [e, top_sup_eq] at h
    exact lt_irrefl _ h
  · rw [e, EReal.neg_bot, sup_top_eq] at h
    exact lt_irrefl _ h

theorem abs_of_cmp (x : EReal) (h : Ideal.cmp .olt (max x (-x)) (Ideal.ofBits .f32 0x7F800000#32) = 1#1) : x = (x.toReal : EReal) := by
  rw [ofBits_posInf] at h
  exact coe_of_abs x ((WordCmp.ofBool_decide_eq_one_iff _).mp h)

theorem and_one {a b : BitVec 1} (h : IntOp.andi a b = 1#1) : a = 1#1 ∧ b = 1#1 := IntOp.andi_eq_one.1 h

instance : Subsingleton Cert.Pre_finite.S_.Idx := ⟨fun a b => funext fun x => Fin.elim0 x⟩

variable (x0 : FVec Ideal S2048x6144 .bf16) (x1 : FVec Ideal S16x2048 .f32) (x2 : FVec Ideal S2048x2048 .bf16)

theorem finite_args (h : Cert.Pre_finite.fn (F := Ideal) x0 x1 x2 = fun _ => 1#1) :
    (∀ i, x0 i = ((x0 i).toReal : EReal)) ∧ (∀ i, x1 i = ((x1 i).toReal : EReal)) ∧ ∀ i, x2 i = ((x2 i).toReal : EReal) := by
  have e := congrFun h (fun a => Fin.elim0 a)
  obtain ⟨e01, e2⟩ := and_one e
  obtain ⟨e0, e1⟩ := and_one e01
  exact ⟨fun i => abs_of_cmp (x0 i) (Host.reduce_andi_all _ _ _ _ _ e0 i), fun i => abs_of_cmp (x1 i) (Host.reduce_andi_all _ _ _ _ _ e1 i),
    fun i => abs_of_cmp (x2 i) (Host.reduce_andi_all _ _ _ _ _ e2 i)⟩

/-- The numbers the arguments hold. -/
def dataOf : Data where
  q := fun h i d => (x0 (ix2 i (col3 0 h d))).toReal
  k := fun h i d => (x0 (ix2 i (col3 1 h d))).toReal
  v := fun h i d => (x0 (ix2 i (col3 2 h d))).toReal
  g := fun h i d => (x2 (ix2 i (col h d))).toReal
  u := fun h i => (x1 (ix2 h i)).toReal

theorem reads_dataOf (h : Cert.Pre_finite.fn (F := Ideal) x0 x1 x2 = fun _ => 1#1) : Reads (dataOf x0 x1 x2) x0 x1 x2 := by
  obtain ⟨e0, e1, e2⟩ := finite_args x0 x1 x2 h
  exact { q := fun _ _ _ => e0 _, k := fun _ _ _ => e0 _, v := fun _ _ _ => e0 _, g := fun _ _ _ => e2 _, u := fun _ _ => e1 _ }

end Cert.Fox
-- ==== Proof.Agree.lean ====
/- The five arrays the grid leaves and the five the reference returns, read of the same finite arguments, are the same. -/
module

public import proofs.«01_k».proof.Proof.Result
public import proofs.«01_k».proof.Proof.Finite

@[expose] public section

noncomputable section

namespace Cert.Fox

open Idealize.ShloMosaic hiding ix1 ix2 ix3 ix4
open Idealize.ShloMosaic.TcCoe Idealize.ShloMosaic.ValueIdx
open Cert.KernelIdeal Cert.KernelIdeal.Gen
open Cert.ReferenceIdeal.Read

variable (m : (ℓ : Loc nD τ sig) → Buf (Elt Ideal) ℓ) (c : Dev nD)
variable {D : Data} {x0 : FVec Ideal S2048x6144 .bf16} {x1 : FVec Ideal S16x2048 .f32} {x2 : FVec Ideal S2048x2048 .bf16}
  (h0 : m ((c : Thread nD τ).loc main_arg0) = x0) (h1 : m ((c : Thread nD τ).loc main_arg1) = x1) (h2 : m ((c : Thread nD τ).loc main_arg2) = x2)
  (R : Reads D x0 x1 x2)

include h0 h1 h2 R

theorem reads_mem : Reads D (m ((c : Thread nD τ).loc main_arg0)) (m ((c : Thread nD τ).loc main_arg1)) (m ((c : Thread nD τ).loc main_arg2)) := by
  rw [h0, h1, h2]
  exact R

theorem agree8 : (dats m 0 c).arrAt 8 cfg0.N = val_main_v91 (F := Ideal) x0 x1 x2 :=
  final8 m c (reads_mem m c h0 h1 h2 R) _ (Ref.dq R)

theorem agree9 : (dats m 0 c).arrAt 9 cfg0.N = val_main_v89 (F := Ideal) x0 x1 x2 :=
  final9 m c (reads_mem m c h0 h1 h2 R) _ fun h j d => Ref.dk R h j d

theorem agree10 : (dats m 0 c).arrAt 10 cfg0.N = val_main_v88 (F := Ideal) x0 x1 x2 :=
  final10 m c (reads_mem m c h0 h1 h2 R) _ fun h j d => Ref.dv R h j d

theorem agree11 : (dats m 0 c).arrAt 11 cfg0.N = val_main_v92 (F := Ideal) x0 x1 x2 :=
  final11 m c (reads_mem m c h0 h1 h2 R) _ (Ref.dck R)

theorem agree12 : (dats m 0 c).arrAt 12 cfg0.N = val_main_v93 (F := Ideal) x0 x1 x2 :=
  final12 m c (reads_mem m c h0 h1 h2 R) _ (Ref.dcq R)

end Cert.Fox
-- ==== Proof.FfnSpec.lean ====
/- The feed-forward layer over the real numbers: its value and the gradients of its input and of its three weights. -/
module

public import Idealize.ShloMosaic.Lib.ValueIdx
public import proofs.«01_k».proof.Proof.Reference

@[expose] public section

noncomputable section

namespace Cert.Ffn

open Idealize.ShloMosaic Idealize.ShloMosaic.ValueIdx

/-- The arguments: the input, the two weights of the gate, the weight of the projection back, and the gradient of the value. -/
structure Data where
  h : Fin 2048 → Fin 2048 → ℝ
  w1 : Fin 2048 → Fin 5632 → ℝ
  w3 : Fin 2048 → Fin 5632 → ℝ
  w2 : Fin 5632 → Fin 2048 → ℝ
  g : Fin 2048 → Fin 2048 → ℝ

/-- The logistic function. -/
def logistic (x : ℝ) : ℝ := 1 / (1 + Real.exp (-x))

namespace Data

variable (D : Data)

/-- The gate's argument. -/
def a (i : Fin 2048) (f : Fin 5632) : ℝ := ∑ k, D.h i k * D.w1 k f
/-- What the gate multiplies. -/
def b (i : Fin 2048) (f : Fin 5632) : ℝ := ∑ k, D.h i k * D.w3 k f
/-- The gated product. -/
def u (i : Fin 2048) (f : Fin 5632) : ℝ := D.a i f * logistic (D.a i f) * D.b i f
/-- The layer's value. -/
def y (i d : Fin 2048) : ℝ := ∑ f, D.u i f * D.w2 f d
/-- The gradient of the gated product. -/
def du (i : Fin 2048) (f : Fin 5632) : ℝ := ∑ d, D.g i d * D.w2 f d
/-- The gradient of the gate's argument. -/
def da (i : Fin 2048) (f : Fin 5632) : ℝ :=
  D.du i f * D.b i f * (logistic (D.a i f) * (1 + D.a i f * (1 - logistic (D.a i f))))
/-- The gradient of what the gate multiplies. -/
def db (i : Fin 2048) (f : Fin 5632) : ℝ := D.du i f * (D.a i f * logistic (D.a i f))
/-- The gradient of the projection back. -/
def dw2 (f : Fin 5632) (d : Fin 2048) : ℝ := ∑ i, D.u i f * D.g i d
/-- The gradient of the gate's first weight. -/
def dw1 (k : Fin 2048) (f : Fin 5632) : ℝ := ∑ i, D.h i k * D.da i f
/-- The gradient of the gate's second weight. -/
def dw3 (k : Fin 2048) (f : Fin 5632) : ℝ := ∑ i, D.h i k * D.db i f
/-- The gradient of the input. -/
def dh (i k : Fin 2048) : ℝ := (∑ f, D.da i f * D.w1 k f) + ∑ f, D.db i f * D.w3 k f

end Data

/-- A matrix of reals as an array. -/
def arr {n0 n1 : Nat} (f : Fin n0 → Fin n1 → ℝ) : (⟨2, ![n0, n1]⟩ : Shape).Idx → EReal := fun z => (f (z 0) (z 1) : EReal)

/-- A matrix of reals as an array with a leading axis of one. -/
def arr1 {n0 n1 : Nat} (f : Fin n0 → Fin n1 → ℝ) : (⟨3, ![1, n0, n1]⟩ : Shape).Idx → EReal := fun z => (f (z 1) (z 2) : EReal)

theorem arr_at {n0 n1 : Nat} (f : Fin n0 → Fin n1 → ℝ) (j : (⟨2, ![n0, n1]⟩ : Shape).Idx) (a : Fin n0) (b : Fin n1)
    (h0 : (j 0).val = a.val) (h1 : (j 1).val = b.val) : arr f j = (f a b : EReal) := Fox.at2 (arr f) j a b h0 h1

theorem arr1_at {n0 n1 : Nat} (f : Fin n0 → Fin n1 → ℝ) (j : (⟨3, ![1, n0, n1]⟩ : Shape).Idx) (a : Fin n0) (b : Fin n1)
    (h1 : (j 1).val = a.val) (h2 : (j 2).val = b.val) : arr1 f j = (f a b : EReal) :=
  Fox.at3 (arr1 f) j 0 a b (Nat.lt_one_iff.mp (show (j 0).val < 1 from (j 0).isLt)) h1 h2

theorem exists_ix2 {n0 n1 : Nat} (z : (⟨2, ![n0, n1]⟩ : Shape).Idx) : ∃ (a : Fin n0) (b : Fin n1), z = ix2 a b :=
  ⟨z 0, z 1, funext fun x => by match x with | ⟨0, _⟩ => rfl | ⟨1, _⟩ => rfl⟩

/-- Place `x` of block `b`, of blocks of `B`. -/
abbrev pos {n : Nat} (B b : Nat) (x : Fin B) (h : b * B + B ≤ n) : Fin n :=
  ⟨b * B + x.val, lt_of_lt_of_le (Nat.add_lt_add_left x.isLt _) h⟩

theorem zero2 : (![0, 0] : Fin 2 → Nat) = fun _ => 0 := funext fun a => by match a with | ⟨0, _⟩ => rfl | ⟨1, _⟩ => rfl

theorem zero3 : (![0, 0, 0] : Fin 3 → Nat) = fun _ => 0 :=
  funext fun a => by match a with | ⟨0, _⟩ => rfl | ⟨1, _⟩ => rfl | ⟨2, _⟩ => rfl

theorem logistic_pos (x : ℝ) : 1 + Real.exp (-x) ≠ 0 := (add_pos one_pos (Real.exp_pos _)).ne'

/-- The quotient that computes the logistic function. -/
theorem logistic_coe (x : ℝ) : Ideal.div 1 (1 + Ideal.exp (-(x : EReal))) = (logistic x : EReal) := by
  rw [← EReal.coe_neg, Ideal.exp_coe, ← EReal.coe_one, ← EReal.coe_add, Fox.Ref.div_coe_coe (logistic_pos x)]
  rfl

end Cert.Ffn

end
-- ==== Proof.FfnReference.lean ====
/- What the feed-forward reference computes, stage by stage, over real arguments. -/
module

public import proofs.«01_k».proof.Proof.FfnSpec
public import proofs.«01_k».proof.Proof.Gen.Reference2Ideal.Read
public import Idealize.ShloMosaic.Lib.IdealHost

@[expose] public section

noncomputable section

namespace Cert.Ffn.Ref

open Idealize.ShloMosaic Idealize.ShloMosaic.ValueIdx Cert.Reference2Ideal Cert.Reference2Ideal.Read
open Cert.Fox (coe_sum)

variable (D : Data)

/-! ### The arguments -/

theorem v3 (i k : Fin 2048) : val_main_v3 (F := Ideal) (arr D.h) (ix2 i k) = (D.h i k : EReal) := rfl

theorem v7 (i d : Fin 2048) : val_main_v7 (F := Ideal) (arr D.g) (ix2 i d) = (D.g i d : EReal) := rfl

theorem v4 (k : Fin 2048) (f : Fin 5632) : val_main_v4 (F := Ideal) (arr1 D.w1) (ix2 k f) = (D.w1 k f : EReal) := by
  rw [val_main_v4_apply, val_main_v0_apply, Ideal.extf_def]
  exact arr1_at D.w1 _ k f (by show (k.val * 5632 + f.val) / 5632 % 2048 = k.val; omega) (by show (k.val * 5632 + f.val) % 5632 = f.val; omega)

theorem v5 (k : Fin 2048) (f : Fin 5632) : val_main_v5 (F := Ideal) (arr1 D.w3) (ix2 k f) = (D.w3 k f : EReal) := by
  rw [val_main_v5_apply, val_main_v1_apply, Ideal.extf_def]
  exact arr1_at D.w3 _ k f (by show (k.val * 5632 + f.val) / 5632 % 2048 = k.val; omega) (by show (k.val * 5632 + f.val) % 5632 = f.val; omega)

theorem v6 (f : Fin 5632) (d : Fin 2048) : val_main_v6 (F := Ideal) (arr1 D.w2) (ix2 f d) = (D.w2 f d : EReal) := by
  rw [val_main_v6_apply, val_main_v2_apply, Ideal.extf_def]
  exact arr1_at D.w2 _ f d (by show (f.val * 2048 + d.val) / 2048 % 5632 = f.val; omega) (by show (f.val * 2048 + d.val) % 2048 = d.val; omega)

/-! ### The value -/

theorem v8 (i : Fin 2048) (f : Fin 5632) : val_main_v8 (F := Ideal) (arr D.h) (arr1 D.w1) (ix2 i f) = (D.a i f : EReal) := by
  rw [val_main_v8_apply, Data.a, coe_sum]
  refine Finset.sum_congr rfl fun k _ => ?_
  rw [EReal.coe_mul, ← v3, ← v4]; rfl

theorem v10 (i : Fin 2048) (f : Fin 5632) : val_main_v10 (F := Ideal) (arr D.h) (arr1 D.w3) (ix2 i f) = (D.b i f : EReal) := by
  rw [val_main_v10_apply, Data.b, coe_sum]
  refine Finset.sum_congr rfl fun k _ => ?_
  rw [EReal.coe_mul, ← v3, ← v5]; rfl

theorem v9_2 (i : Fin 2048) (f : Fin 5632) :
    val_main_v9_2 (F := Ideal) (arr D.h) (arr1 D.w1) (ix2 i f) = (logistic (D.a i f) : EReal) := by
  rw [val_main_v9_2_apply, val_main_call0_v4_apply, val_main_call0_v3_apply, val_main_call0_v2_apply, val_main_call0_v1_apply,
    val_main_call0_v0_apply, val_main_call0_cst_apply, val_main_call0_cst_0_apply, v8, ← logistic_coe, ← Ideal.ofBits_one_f32]
  rfl

theorem v9_0 (i : Fin 2048) (f : Fin 5632) :
    val_main_v9_0 (F := Ideal) (arr D.h) (arr1 D.w1) (ix2 i f) = ((D.a i f * logistic (D.a i f) : ℝ) : EReal) := by
  rw [val_main_v9_0_apply, v8, v9_2, EReal.coe_mul]; rfl

theorem v9_1 (i : Fin 2048) (f : Fin 5632) :
    val_main_v9_1 (F := Ideal) (arr D.h) (arr1 D.w1) (ix2 i f) = ((logistic (D.a i f) * (1 - logistic (D.a i f)) : ℝ) : EReal) := by
  rw [val_main_v9_1_apply, val_main_call0_v7_apply, val_main_call0_v6_apply, val_main_call0_cst_1_apply, v9_2, EReal.coe_mul,
    EReal.coe_sub, EReal.coe_one, ← Ideal.ofBits_one_f32]
  rfl

theorem v11 (i : Fin 2048) (f : Fin 5632) :
    val_main_v11 (F := Ideal) (arr D.h) (arr1 D.w1) (arr1 D.w3) (ix2 i f) = (D.u i f : EReal) := by
  rw [val_main_v11_apply, v9_0, v10, Data.u, EReal.coe_mul]; rfl

theorem v12 (i d : Fin 2048) :
    val_main_v12 (F := Ideal) (arr D.h) (arr1 D.w1) (arr1 D.w3) (arr1 D.w2) (ix2 i d) = (D.y i d : EReal) := by
  rw [val_main_v12_apply, Data.y, coe_sum]
  refine Finset.sum_congr rfl fun f _ => ?_
  rw [EReal.coe_mul, ← v11, ← v6]; rfl

/-! ### The gradients -/

theorem v13 (d : Fin 2048) (f : Fin 5632) :
    val_main_v13 (F := Ideal) (arr D.h) (arr1 D.w1) (arr1 D.w3) (arr D.g) (ix2 d f) = (D.dw2 f d : EReal) := by
  rw [val_main_v13_apply, Data.dw2, coe_sum]
  refine Finset.sum_congr rfl fun i _ => ?_
  rw [mul_comm (D.u i f), EReal.coe_mul, ← v7, ← v11]; rfl

theorem v15 (i : Fin 2048) (f : Fin 5632) : val_main_v15 (F := Ideal) (arr1 D.w2) (arr D.g) (ix2 i f) = (D.du i f : EReal) := by
  rw [val_main_v15_apply, Data.du, coe_sum]
  refine Finset.sum_congr rfl fun d _ => ?_
  rw [EReal.coe_mul, ← v7, ← v6]; rfl

theorem v16 (i : Fin 2048) (f : Fin 5632) :
    val_main_v16 (F := Ideal) (arr D.h) (arr1 D.w1) (arr1 D.w2) (arr D.g) (ix2 i f) = (D.db i f : EReal) := by
  rw [val_main_v16_apply, v9_0, v15, Data.db, mul_comm (D.du i f), EReal.coe_mul]; rfl

theorem v17 (i : Fin 2048) (f : Fin 5632) :
    val_main_v17 (F := Ideal) (arr D.h) (arr1 D.w3) (arr1 D.w2) (arr D.g) (ix2 i f) = ((D.du i f * D.b i f : ℝ) : EReal) := by
  rw [val_main_v17_apply, v15, v10, EReal.coe_mul]; rfl

theorem v21 (i : Fin 2048) (f : Fin 5632) :
    val_main_v21 (F := Ideal) (arr D.h) (arr1 D.w1) (arr1 D.w3) (arr1 D.w2) (arr D.g) (ix2 i f) = (D.da i f : EReal) := by
  rw [val_main_v21_apply, val_main_call1_v1_apply, val_main_call1_v2_apply, val_main_call1_v0_apply, v17, v8, v9_1, v9_2]
  show ((D.du i f * D.b i f : ℝ) : EReal) * (logistic (D.a i f) : EReal)
    + (D.a i f : EReal) * ((D.du i f * D.b i f : ℝ) : EReal) * ((logistic (D.a i f) * (1 - logistic (D.a i f)) : ℝ) : EReal) = _
  rw [← EReal.coe_mul, ← EReal.coe_mul, ← EReal.coe_mul, ← EReal.coe_add, Data.da]
  exact congrArg _ (by ring)

theorem v18 (f : Fin 5632) (k : Fin 2048) :
    val_main_v18 (F := Ideal) (arr D.h) (arr1 D.w1) (arr1 D.w2) (arr D.g) (ix2 f k) = (D.dw3 k f : EReal) := by
  rw [val_main_v18_apply, Data.dw3, coe_sum]
  refine Finset.sum_congr rfl fun i _ => ?_
  rw [mul_comm (D.h i k), EReal.coe_mul, ← v16, ← v3]; rfl

theorem v22 (f : Fin 5632) (k : Fin 2048) :
    val_main_v22 (F := Ideal) (arr D.h) (arr1 D.w1) (arr1 D.w3) (arr1 D.w2) (arr D.g) (ix2 f k) = (D.dw1 k f : EReal) := by
  rw [val_main_v22_apply, Data.dw1, coe_sum]
  refine Finset.sum_congr rfl fun i _ => ?_
  rw [mul_comm (D.h i k), EReal.coe_mul, ← v21, ← v3]; rfl

theorem v20 (i k : Fin 2048) :
    val_main_v20 (F := Ideal) (arr D.h) (arr1 D.w1) (arr1 D.w3) (arr1 D.w2) (arr D.g) (ix2 i k) = ((∑ f, D.db i f * D.w3 k f : ℝ) : EReal) := by
  rw [val_main_v20_apply, coe_sum]
  refine Finset.sum_congr rfl fun f _ => ?_
  rw [EReal.coe_mul, ← v16, ← v5]; rfl

theorem v24 (i k : Fin 2048) :
    val_main_v24 (F := Ideal) (arr D.h) (arr1 D.w1) (arr1 D.w3) (arr1 D.w2) (arr D.g) (ix2 i k) = ((∑ f, D.da i f * D.w1 k f : ℝ) : EReal) := by
  rw [val_main_v24_apply, coe_sum]
  refine Finset.sum_congr rfl fun f _ => ?_
  rw [EReal.coe_mul, ← v21, ← v4]; rfl

/-! ### The five results -/

theorem y : val_main_v12 (F := Ideal) (arr D.h) (arr1 D.w1) (arr1 D.w3) (arr1 D.w2) = arr D.y := by
  funext z
  obtain ⟨i, d, rfl⟩ := exists_ix2 z
  exact v12 D i d

theorem dh : val_main_v25 (F := Ideal) (arr D.h) (arr1 D.w1) (arr1 D.w3) (arr1 D.w2) (arr D.g) = arr D.dh := by
  funext z
  obtain ⟨i, k, rfl⟩ := exists_ix2 z
  rw [val_main_v25_apply, v20, v24]
  show _ = (D.dh i k : EReal)
  rw [Data.dh, add_comm, EReal.coe_add]; rfl

theorem dw1 : val_main_v26 (F := Ideal) (arr D.h) (arr1 D.w1) (arr1 D.w3) (arr1 D.w2) (arr D.g) = arr D.dw1 := by
  funext z
  obtain ⟨k, f, rfl⟩ := exists_ix2 z
  rw [val_main_v26_apply, val_main_v23_apply, Ideal.truncf_def,
    show idx_main_v23 (ix2 k f) = ix2 f k from funext fun x => by match x with | ⟨0, _⟩ => rfl | ⟨1, _⟩ => rfl, v22 D f k]
  rfl

theorem dw3 : val_main_v27 (F := Ideal) (arr D.h) (arr1 D.w1) (arr1 D.w2) (arr D.g) = arr D.dw3 := by
  funext z
  obtain ⟨k, f, rfl⟩ := exists_ix2 z
  rw [val_main_v27_apply, val_main_v19_apply, Ideal.truncf_def,
    show idx_main_v19 (ix2 k f) = ix2 f k from funext fun x => by match x with | ⟨0, _⟩ => rfl | ⟨1, _⟩ => rfl, v18 D f k]
  rfl

theorem dw2 : val_main_v28 (F := Ideal) (arr D.h) (arr1 D.w1) (arr1 D.w3) (arr D.g) = arr D.dw2 := by
  funext z
  obtain ⟨f, d, rfl⟩ := exists_ix2 z
  rw [val_main_v28_apply, val_main_v14_apply, Ideal.truncf_def,
    show idx_main_v14 (ix2 f d) = ix2 d f from funext fun x => by match x with | ⟨0, _⟩ => rfl | ⟨1, _⟩ => rfl, v13 D d f]
  rfl

end Cert.Ffn.Ref

end
-- ==== Proof.FfnTile.lean ====
/- What the feed-forward kernels compute at one grid point, at an index, over blocks that hold real numbers. -/
module

public import proofs.«01_k».proof.Proof.FfnSpec
public import proofs.«01_k».proof.Proof.Gen.Kernel2Ideal.Skeleton
public import Idealize.ShloMosaic.Lib.Pointwise
public import Idealize.ShloMosaic.Lib.Pipeline.Value

@[expose] public section

noncomputable section

namespace Cert.Ffn.Tile

open Idealize.ShloMosaic hiding ix1 ix2 ix3 ix4
open Idealize.ShloMosaic.TcCoe Idealize.ShloMosaic.ValueIdx
open Cert.Kernel2Ideal Cert.Kernel2Ideal.Gen
open Cert.Fox (coe_sum)

/-! ### The products -/

section Products

variable {n : Nat} {A B : Fin n → ℝ}

/-- The sum a product is, when both factors are real. -/
theorem sum_coe {x y : Fin n → EReal} (hx : ∀ k, x k = (A k : EReal)) (hy : ∀ k, y k = (B k : EReal)) :
    ∑ k, x k * y k = ((∑ k, A k * B k : ℝ) : EReal) := by
  rw [coe_sum]
  exact Finset.sum_congr rfl fun k _ => by rw [hx, hy, EReal.coe_mul]

end Products

variable {A B : Fin 2048 → ℝ} (x y : Fin 512)

theorem up1 (v0 : Vec Ideal S512x2048 .bf16) (v1 : Vec Ideal S1x2048x512 .bf16) (h0 : ∀ k, v0 (ix2 x k) = (A k : EReal))
    (h1 : ∀ k, v1 (ix3 0 k y) = (B k : EReal)) : k0_pay1 (F := Ideal) v0 v1 (ix2 x y) = ((∑ k, A k * B k : ℝ) : EReal) := by
  rw [← sum_coe h0 h1]
  unfold k0_pay1
  pointwise
  rfl

theorem up2 (v0 : Vec Ideal S512x2048 .bf16) (v1 : Vec Ideal S1x2048x512 .bf16) (h0 : ∀ k, v0 (ix2 x k) = (A k : EReal))
    (h1 : ∀ k, v1 (ix3 0 k y) = (B k : EReal)) : k0_pay2 (F := Ideal) v0 v1 (ix2 x y) = ((∑ k, A k * B k : ℝ) : EReal) := by
  rw [← sum_coe h0 h1]
  unfold k0_pay2
  pointwise
  rfl

theorem du1 (v0 : Vec Ideal S512x2048 .bf16) (v1 : Vec Ideal S1x512x2048 .bf16) (h0 : ∀ k, v0 (ix2 x k) = (A k : EReal))
    (h1 : ∀ k, v1 (ix3 0 y k) = (B k : EReal)) : k2_pay1 (F := Ideal) v0 v1 (ix2 x y) = ((∑ k, A k * B k : ℝ) : EReal) := by
  rw [← sum_coe h0 h1]
  unfold k2_pay1
  pointwise
  rfl

theorem dw2 (v0 v1 : Vec Ideal S2048x512 .bf16) (h0 : ∀ k, v0 (ix2 k x) = (A k : EReal))
    (h1 : ∀ k, v1 (ix2 k y) = (B k : EReal)) : k3_pay1 (F := Ideal) v0 v1 (ix2 x y) = ((∑ k, A k * B k : ℝ) : EReal) := by
  rw [← sum_coe h0 h1]
  unfold k3_pay1
  pointwise
  rfl

theorem dw1 (v0 v1 : Vec Ideal S2048x512 .bf16) (h0 : ∀ k, v0 (ix2 k x) = (A k : EReal))
    (h1 : ∀ k, v1 (ix2 k y) = (B k : EReal)) : k4_pay1 (F := Ideal) v0 v1 (ix2 x y) = ((∑ k, A k * B k : ℝ) : EReal) := by
  rw [← sum_coe h0 h1]
  unfold k4_pay1
  pointwise
  rfl

theorem dw3 (v0 v1 : Vec Ideal S2048x512 .bf16) (h0 : ∀ k, v0 (ix2 k x) = (A k : EReal))
    (h1 : ∀ k, v1 (ix2 k y) = (B k : EReal)) : k4_pay2 (F := Ideal) v0 v1 (ix2 x y) = ((∑ k, A k * B k : ℝ) : EReal) := by
  rw [← sum_coe h0 h1]
  unfold k4_pay2
  pointwise
  rfl

theorem down {A B : Fin 5632 → ℝ} (v0 : Vec Ideal S512x5632 .bf16) (v1 : Vec Ideal S1x5632x512 .bf16) (h0 : ∀ k, v0 (ix2 x k) = (A k : EReal))
    (h1 : ∀ k, v1 (ix3 0 k y) = (B k : EReal)) : k1_pay1 (F := Ideal) v0 v1 (ix2 x y) = ((∑ k, A k * B k : ℝ) : EReal) := by
  rw [← sum_coe h0 h1]
  unfold k1_pay1
  pointwise
  rfl

theorem dh {A B A' B' : Fin 5632 → ℝ} (y : Fin 256) (v0 v5 : Vec Ideal S512x5632 .bf16) (v2 v7 : Vec Ideal S1x256x5632 .bf16)
    (h0 : ∀ k, v0 (ix2 x k) = (A k : EReal)) (h2 : ∀ k, v2 (ix3 0 y k) = (B k : EReal))
    (h5 : ∀ k, v5 (ix2 x k) = (A' k : EReal)) (h7 : ∀ k, v7 (ix3 0 y k) = (B' k : EReal)) :
    k5_pay1 (F := Ideal) v0 v2 v5 v7 (ix2 x y) = (((∑ k, A k * B k) + ∑ k, A' k * B' k : ℝ) : EReal) := by
  rw [EReal.coe_add, ← sum_coe h0 h2, ← sum_coe h5 h7]
  unfold k5_pay1
  pointwise
  rfl

/-! ### The gate -/

/-- The gated product, from its two factors. -/
theorem gate {a b : ℝ} (v0 v4 : Vec Ideal S512x2048 .bf16) (v1 v5 : Vec Ideal S1x2048x512 .bf16)
    (ha : k0_pay1 (F := Ideal) v0 v1 (ix2 x y) = (a : EReal)) (hb : k0_pay2 (F := Ideal) v4 v5 (ix2 x y) = (b : EReal)) :
    k0_pay5 (F := Ideal) v0 v1 v4 v5 (ix2 x y) = ((a * logistic a * b : ℝ) : EReal) := by
  have e : k0_pay5 (F := Ideal) v0 v1 v4 v5 (ix2 x y)
      = k0_pay1 (F := Ideal) v0 v1 (ix2 x y)
        * Ideal.div (Ideal.ofBits .f32 0x3F800000#32) (Ideal.ofBits .f32 0x3F800000#32
          + Ideal.exp (Ideal.ofBits .f32 0x00000000#32 - k0_pay1 (F := Ideal) v0 v1 (ix2 x y)))
        * k0_pay2 (F := Ideal) v4 v5 (ix2 x y) := by
    unfold k0_pay5; rfl
  rw [e, ha, hb, Ideal.ofBits_one_f32, Ideal.ofBits_zero_f32, zero_sub, logistic_coe, ← EReal.coe_mul, ← EReal.coe_mul]

theorem back2 {a : ℝ} (v4 : Vec Ideal S512x512 .bf16) (ha : v4 (ix2 x y) = (a : EReal)) : k2_pay2 (F := Ideal) v4 (ix2 x y) = (a : EReal) := by
  rw [← ha]
  unfold k2_pay2
  pointwise

theorem back3 {a : ℝ} (v4 : Vec Ideal S512x512 .bf16) (ha : v4 (ix2 x y) = (a : EReal)) :
    k2_pay3 (F := Ideal) v4 (ix2 x y) = (logistic a : EReal) := by
  have e : k2_pay3 (F := Ideal) v4 (ix2 x y)
      = Ideal.div (Ideal.ofBits .f32 0x3F800000#32) (Ideal.ofBits .f32 0x3F800000#32
          + Ideal.exp (Ideal.ofBits .f32 0x00000000#32 - k2_pay2 (F := Ideal) v4 (ix2 x y))) := by
    unfold k2_pay3; rfl
  rw [e, back2 x y v4 ha, Ideal.ofBits_one_f32, Ideal.ofBits_zero_f32, zero_sub, logistic_coe]

/-- The gradient of the gate's argument. -/
theorem da {a b d : ℝ} (v0 : Vec Ideal S512x2048 .bf16) (v1 : Vec Ideal S1x512x2048 .bf16) (v4 v6 : Vec Ideal S512x512 .bf16)
    (hd : k2_pay1 (F := Ideal) v0 v1 (ix2 x y) = (d : EReal)) (ha : v4 (ix2 x y) = (a : EReal)) (hb : v6 (ix2 x y) = (b : EReal)) :
    k2_pay4 (F := Ideal) v0 v1 v4 v6 (ix2 x y) = ((d * b * (logistic a * (1 + a * (1 - logistic a))) : ℝ) : EReal) := by
  have e6 : shapeCast S512x512 v6 shapeCasts_S512x512_S512x512 (ix2 x y) = v6 (ix2 x y) := by pointwise
  have e : k2_pay4 (F := Ideal) v0 v1 v4 v6 (ix2 x y)
      = k2_pay1 (F := Ideal) v0 v1 (ix2 x y) * shapeCast S512x512 v6 shapeCasts_S512x512_S512x512 (ix2 x y)
        * (k2_pay3 (F := Ideal) v4 (ix2 x y) * (Ideal.ofBits .f32 0x3F800000#32
          + k2_pay2 (F := Ideal) v4 (ix2 x y) * (Ideal.ofBits .f32 0x3F800000#32 - k2_pay3 (F := Ideal) v4 (ix2 x y)))) := by
    unfold k2_pay4; rfl
  rw [e, e6, hd, hb, back2 x y v4 ha, back3 x y v4 ha, Ideal.ofBits_one_f32]
  simp only [EReal.coe_mul, EReal.coe_add, EReal.coe_sub, EReal.coe_one]

/-- The gradient of what the gate multiplies. -/
theorem db {a d : ℝ} (v0 : Vec Ideal S512x2048 .bf16) (v1 : Vec Ideal S1x512x2048 .bf16) (v4 : Vec Ideal S512x512 .bf16)
    (hd : k2_pay1 (F := Ideal) v0 v1 (ix2 x y) = (d : EReal)) (ha : v4 (ix2 x y) = (a : EReal)) :
    k2_pay5 (F := Ideal) v0 v1 v4 (ix2 x y) = ((d * (a * logistic a) : ℝ) : EReal) := by
  have e : k2_pay5 (F := Ideal) v0 v1 v4 (ix2 x y)
      = k2_pay1 (F := Ideal) v0 v1 (ix2 x y) * (k2_pay2 (F := Ideal) v4 (ix2 x y) * k2_pay3 (F := Ideal) v4 (ix2 x y)) := by
    unfold k2_pay5; rfl
  rw [e, hd, back2 x y v4 ha, back3 x y v4 ha, ← EReal.coe_mul, ← EReal.coe_mul]

end Cert.Ffn.Tile

end
-- ==== Proof.FfnForward.lean ====
/- The arrays the forward kernels leave, whatever they start from. -/
module

public import proofs.«01_k».proof.Proof.FfnTile
public import proofs.«01_k».proof.Proof.Gen.Kernel2Ideal.Frame

@[expose] public section

noncomputable section

namespace Cert.Ffn

open Idealize.ShloMosaic hiding ix1 ix2 ix3 ix4
open Idealize.ShloMosaic.TcCoe Idealize.ShloMosaic.ValueIdx
open Idealize.ShloMosaic.Pipeline (Dat)
open Cert.Kernel2Ideal Cert.Kernel2Ideal.Gen

variable (W : (c : Dev nD) → (b : Ref sig .tc) → Buf (Elt Ideal) ((c : Thread nD τ).loc b)) (c : Dev nD)

/-! ### The gate, the factor it multiplies and their product -/

section Region0

theorem lt0 (t : Fin cfg0.N) : t.val < 44 := lt_of_lt_of_eq t.isLt (show cfg0.N = 44 from N_0)

theorem idx0_0 : ∀ t : Fin cfg0.N, win0_0.index t (0 : Fin 2) = t.val / 11 ∧ win0_0.index t (1 : Fin 2) = 0 :=
  (by decide +kernel : ∀ t : Fin grid0.N, _)

theorem idx0_1 : ∀ t : Fin cfg0.N, win0_1.index t (0 : Fin 3) = 0 ∧ win0_1.index t (1 : Fin 3) = 0 ∧ win0_1.index t (2 : Fin 3) = t.val % 11 :=
  (by decide +kernel : ∀ t : Fin grid0.N, _)

theorem idx0_2 : ∀ t : Fin cfg0.N, win0_2.index t (0 : Fin 2) = t.val / 11 ∧ win0_2.index t (1 : Fin 2) = 0 :=
  (by decide +kernel : ∀ t : Fin grid0.N, _)

theorem idx0_3 : ∀ t : Fin cfg0.N, win0_3.index t (0 : Fin 3) = 0 ∧ win0_3.index t (1 : Fin 3) = 0 ∧ win0_3.index t (2 : Fin 3) = t.val % 11 :=
  (by decide +kernel : ∀ t : Fin grid0.N, _)

theorem idx0_4 : ∀ t : Fin cfg0.N, win0_4.index t (0 : Fin 2) = t.val / 11 ∧ win0_4.index t (1 : Fin 2) = t.val % 11 :=
  (by decide +kernel : ∀ t : Fin grid0.N, _)

theorem idx0_5 : ∀ t : Fin cfg0.N, win0_5.index t (0 : Fin 2) = t.val / 11 ∧ win0_5.index t (1 : Fin 2) = t.val % 11 :=
  (by decide +kernel : ∀ t : Fin grid0.N, _)

theorem idx0_6 : ∀ t : Fin cfg0.N, win0_6.index t (0 : Fin 2) = t.val / 11 ∧ win0_6.index t (1 : Fin 2) = t.val % 11 :=
  (by decide +kernel : ∀ t : Fin grid0.N, _)

theorem in0_0 {f : Fin 2048 → Fin 2048 → ℝ} (e : (W c main_arg0 : S2048x2048.Idx → EReal) = arr f) (t : Fin cfg0.N) (x : Fin 512) (y : Fin 2048) :
    (iblk0 W c 0 t : Vec Ideal S512x2048 .bf16) (ix2 x y) = (f (pos 512 (t.val / 11) x (by have := lt0 t; omega) : Fin 2048) y : EReal) := by
  obtain ⟨h0, h1⟩ := idx0_0 t
  have r : (iblk0 W c 0 t : Vec Ideal S512x2048 .bf16) (ix2 x y) = (W c main_arg0 : S2048x2048.Idx → EReal) (((cfg0.win 0).blk t).view.emb (ix2 x y : S512x2048.Idx)) := rfl
  refine r.trans ((congrFun e _).trans (arr_at f _ _ _ ?_ ?_))
  · show win0_0.index t (0 : Fin 2) * 512 + 1 * x.val = t.val / 11 * 512 + x.val
    rw [h0]; omega
  · show win0_0.index t (1 : Fin 2) * 2048 + 1 * y.val = y.val
    rw [h1]; omega

theorem in0_1 {f : Fin 2048 → Fin 5632 → ℝ} (e : (W c main_arg1 : S1x2048x5632.Idx → EReal) = arr1 f) (t : Fin cfg0.N) (x : Fin 2048) (y : Fin 512) :
    (iblk0 W c 1 t : Vec Ideal S1x2048x512 .bf16) (ix3 0 x y) = (f x (pos 512 (t.val % 11) y (by have := lt0 t; omega) : Fin 5632) : EReal) := by
  obtain ⟨-, h1, h2⟩ := idx0_1 t
  have r : (iblk0 W c 1 t : Vec Ideal S1x2048x512 .bf16) (ix3 0 x y) = (W c main_arg1 : S1x2048x5632.Idx → EReal) (((cfg0.win 1).blk t).view.emb (ix3 0 x y : S1x2048x512.Idx)) := rfl
  refine r.trans ((congrFun e _).trans (arr1_at f _ _ _ ?_ ?_))
  · show win0_1.index t (1 : Fin 3) * 2048 + 1 * x.val = x.val
    rw [h1]; omega
  · show win0_1.index t (2 : Fin 3) * 512 + 1 * y.val = t.val % 11 * 512 + y.val
    rw [h2]; omega

theorem in0_2 {f : Fin 2048 → Fin 2048 → ℝ} (e : (W c main_arg0 : S2048x2048.Idx → EReal) = arr f) (t : Fin cfg0.N) (x : Fin 512) (y : Fin 2048) :
    (iblk0 W c 2 t : Vec Ideal S512x2048 .bf16) (ix2 x y) = (f (pos 512 (t.val / 11) x (by have := lt0 t; omega) : Fin 2048) y : EReal) := by
  obtain ⟨h0, h1⟩ := idx0_2 t
  have r : (iblk0 W c 2 t : Vec Ideal S512x2048 .bf16) (ix2 x y) = (W c main_arg0 : S2048x2048.Idx → EReal) (((cfg0.win 2).blk t).view.emb (ix2 x y : S512x2048.Idx)) := rfl
  refine r.trans ((congrFun e _).trans (arr_at f _ _ _ ?_ ?_))
  · show win0_2.index t (0 : Fin 2) * 512 + 1 * x.val = t.val / 11 * 512 + x.val
    rw [h0]; omega
  · show win0_2.index t (1 : Fin 2) * 2048 + 1 * y.val = y.val
    rw [h1]; omega

theorem in0_3 {f : Fin 2048 → Fin 5632 → ℝ} (e : (W c main_arg2 : S1x2048x5632.Idx → EReal) = arr1 f) (t : Fin cfg0.N) (x : Fin 2048) (y : Fin 512) :
    (iblk0 W c 3 t : Vec Ideal S1x2048x512 .bf16) (ix3 0 x y) = (f x (pos 512 (t.val % 11) y (by have := lt0 t; omega) : Fin 5632) : EReal) := by
  obtain ⟨-, h1, h2⟩ := idx0_3 t
  have r : (iblk0 W c 3 t : Vec Ideal S1x2048x512 .bf16) (ix3 0 x y) = (W c main_arg2 : S1x2048x5632.Idx → EReal) (((cfg0.win 3).blk t).view.emb (ix3 0 x y : S1x2048x512.Idx)) := rfl
  refine r.trans ((congrFun e _).trans (arr1_at f _ _ _ ?_ ?_))
  · show win0_3.index t (1 : Fin 3) * 2048 + 1 * x.val = x.val
    rw [h1]; omega
  · show win0_3.index t (2 : Fin 3) * 512 + 1 * y.val = t.val % 11 * 512 + y.val
    rw [h2]; omega

theorem out0_4_eq (x0 : Vec Ideal S512x2048 .bf16) (x1 : Vec Ideal S1x2048x512 .bf16) (x2 : Vec Ideal S512x2048 .bf16) (x3 : Vec Ideal S1x2048x512 .bf16) :
    out0_4 (F := Ideal) x0 x1 x2 x3 = k0_pay3 (F := Ideal) x0 x1 := by
  unfold out0_4
  rw [View.canon_unit_zero zero2, View.ld_unit_zero (S := S512x2048) zero2 _ x0, View.ld_unit_zero (S := S1x2048x512) zero3 _ x1]

theorem at0_4 (f : Fin 2048 → Fin 5632 → ℝ) (t : Fin cfg0.N) (x : Fin 512) (y : Fin 512) :
    ((cfg0.win 4).blk t).view.read (Elt Ideal) (arr f) (ix2 x y : S512x512.Idx) = (f (pos 512 (t.val / 11) x (by have := lt0 t; omega) : Fin 2048) (pos 512 (t.val % 11) y (by have := lt0 t; omega) : Fin 5632) : EReal) := by
  obtain ⟨h0, h1⟩ := idx0_4 t
  refine arr_at f _ _ _ ?_ ?_
  · show win0_4.index t (0 : Fin 2) * 512 + 1 * x.val = t.val / 11 * 512 + x.val
    rw [h0]; omega
  · show win0_4.index t (1 : Fin 2) * 512 + 1 * y.val = t.val % 11 * 512 + y.val
    rw [h1]; omega

theorem final0_4 {D : Data} (e0 : (W c main_arg0 : S2048x2048.Idx → EReal) = arr D.h) (e1 : (W c main_arg1 : S1x2048x5632.Idx → EReal) = arr1 D.w1) :
    ((dat0 W c).arrAt 4 cfg0.N : S2048x5632.Idx → EReal) = arr D.a := by
  refine (dat0 W c).arrAt_eq_of_cover 4 (arr D.a) (fun t _ => ?_) (fun z => ?_)
  · show (cfg0.win 4).cut (grid0.coords t) ((dat0 W c).after 4 t) = _
    rw [after0_4, out0_4_eq]
    funext z
    obtain ⟨x, y, rfl⟩ := exists_ix2 (n0 := 512) (n1 := 512) z
    exact (Tile.up1 x y _ _ (fun k => in0_0 W c e0 t x k) (fun k => in0_1 W c e1 t k y)).trans (at0_4 D.a t x y).symm
  · have b0 : (z (0 : Fin 2)).val < 2048 := (z (0 : Fin 2)).isLt
    have b1 : (z (1 : Fin 2)).val < 5632 := (z (1 : Fin 2)).isLt
    have hN : (z (0 : Fin 2)).val / 512 * 11 + (z (1 : Fin 2)).val / 512 < cfg0.N := by
      rw [show cfg0.N = 44 from N_0]; omega
    refine ⟨⟨_, hN⟩, flush0_4 _, ?_⟩
    show z ∈ ((View.whole main_v0_0).slice (win0_4.rect ⟨_, hN⟩)).set
    rw [View.set_slice_whole, Rect.mem_set_unit]
    obtain ⟨i0, i1⟩ := idx0_4 ⟨_, hN⟩
    intro a
    match a with
    | ⟨0, _⟩ =>
      show win0_4.index ⟨_, hN⟩ (0 : Fin 2) * 512 ≤ (z (0 : Fin 2)).val ∧ (z (0 : Fin 2)).val < win0_4.index ⟨_, hN⟩ (0 : Fin 2) * 512 + 512
      rw [i0]; dsimp only; omega
    | ⟨1, _⟩ =>
      show win0_4.index ⟨_, hN⟩ (1 : Fin 2) * 512 ≤ (z (1 : Fin 2)).val ∧ (z (1 : Fin 2)).val < win0_4.index ⟨_, hN⟩ (1 : Fin 2) * 512 + 512
      rw [i1]; dsimp only; omega

theorem out0_5_eq (x0 : Vec Ideal S512x2048 .bf16) (x1 : Vec Ideal S1x2048x512 .bf16) (x2 : Vec Ideal S512x2048 .bf16) (x3 : Vec Ideal S1x2048x512 .bf16) :
    out0_5 (F := Ideal) x0 x1 x2 x3 = k0_pay4 (F := Ideal) x2 x3 := by
  unfold out0_5
  rw [View.canon_unit_zero zero2, View.ld_unit_zero (S := S512x2048) zero2 _ x2, View.ld_unit_zero (S := S1x2048x512) zero3 _ x3]

theorem at0_5 (f : Fin 2048 → Fin 5632 → ℝ) (t : Fin cfg0.N) (x : Fin 512) (y : Fin 512) :
    ((cfg0.win 5).blk t).view.read (Elt Ideal) (arr f) (ix2 x y : S512x512.Idx) = (f (pos 512 (t.val / 11) x (by have := lt0 t; omega) : Fin 2048) (pos 512 (t.val % 11) y (by have := lt0 t; omega) : Fin 5632) : EReal) := by
  obtain ⟨h0, h1⟩ := idx0_5 t
  refine arr_at f _ _ _ ?_ ?_
  · show win0_5.index t (0 : Fin 2) * 512 + 1 * x.val = t.val / 11 * 512 + x.val
    rw [h0]; omega
  · show win0_5.index t (1 : Fin 2) * 512 + 1 * y.val = t.val % 11 * 512 + y.val
    rw [h1]; omega

theorem final0_5 {D : Data} (e2 : (W c main_arg0 : S2048x2048.Idx → EReal) = arr D.h) (e3 : (W c main_arg2 : S1x2048x5632.Idx → EReal) = arr1 D.w3) :
    ((dat0 W c).arrAt 5 cfg0.N : S2048x5632.Idx → EReal) = arr D.b := by
  refine (dat0 W c).arrAt_eq_of_cover 5 (arr D.b) (fun t _ => ?_) (fun z => ?_)
  · show (cfg0.win 5).cut (grid0.coords t) ((dat0 W c).after 5 t) = _
    rw [after0_5, out0_5_eq]
    funext z
    obtain ⟨x, y, rfl⟩ := exists_ix2 (n0 := 512) (n1 := 512) z
    exact (Tile.up2 x y _ _ (fun k => in0_2 W c e2 t x k) (fun k => in0_3 W c e3 t k y)).trans (at0_5 D.b t x y).symm
  · have b0 : (z (0 : Fin 2)).val < 2048 := (z (0 : Fin 2)).isLt
    have b1 : (z (1 : Fin 2)).val < 5632 := (z (1 : Fin 2)).isLt
    have hN : (z (0 : Fin 2)).val / 512 * 11 + (z (1 : Fin 2)).val / 512 < cfg0.N := by
      rw [show cfg0.N = 44 from N_0]; omega
    refine ⟨⟨_, hN⟩, flush0_5 _, ?_⟩
    show z ∈ ((View.whole main_v0_1).slice (win0_5.rect ⟨_, hN⟩)).set
    rw [View.set_slice_whole, Rect.mem_set_unit]
    obtain ⟨i0, i1⟩ := idx0_5 ⟨_, hN⟩
    intro a
    match a with
    | ⟨0, _⟩ =>
      show win0_5.index ⟨_, hN⟩ (0 : Fin 2) * 512 ≤ (z (0 : Fin 2)).val ∧ (z (0 : Fin 2)).val < win0_5.index ⟨_, hN⟩ (0 : Fin 2) * 512 + 512
      rw [i0]; dsimp only; omega
    | ⟨1, _⟩ =>
      show win0_5.index ⟨_, hN⟩ (1 : Fin 2) * 512 ≤ (z (1 : Fin 2)).val ∧ (z (1 : Fin 2)).val < win0_5.index ⟨_, hN⟩ (1 : Fin 2) * 512 + 512
      rw [i1]; dsimp only; omega

theorem out0_6_eq (x0 : Vec Ideal S512x2048 .bf16) (x1 : Vec Ideal S1x2048x512 .bf16) (x2 : Vec Ideal S512x2048 .bf16) (x3 : Vec Ideal S1x2048x512 .bf16) :
    out0_6 (F := Ideal) x0 x1 x2 x3 = k0_pay5 (F := Ideal) x0 x1 x2 x3 := by
  unfold out0_6
  rw [View.canon_unit_zero zero2, View.ld_unit_zero (S := S512x2048) zero2 _ x0, View.ld_unit_zero (S := S1x2048x512) zero3 _ x1, View.ld_unit_zero (S := S512x2048) zero2 _ x2, View.ld_unit_zero (S := S1x2048x512) zero3 _ x3]

theorem at0_6 (f : Fin 2048 → Fin 5632 → ℝ) (t : Fin cfg0.N) (x : Fin 512) (y : Fin 512) :
    ((cfg0.win 6).blk t).view.read (Elt Ideal) (arr f) (ix2 x y : S512x512.Idx) = (f (pos 512 (t.val / 11) x (by have := lt0 t; omega) : Fin 2048) (pos 512 (t.val % 11) y (by have := lt0 t; omega) : Fin 5632) : EReal) := by
  obtain ⟨h0, h1⟩ := idx0_6 t
  refine arr_at f _ _ _ ?_ ?_
  · show win0_6.index t (0 : Fin 2) * 512 + 1 * x.val = t.val / 11 * 512 + x.val
    rw [h0]; omega
  · show win0_6.index t (1 : Fin 2) * 512 + 1 * y.val = t.val % 11 * 512 + y.val
    rw [h1]; omega

theorem final0_6 {D : Data} (e0 : (W c main_arg0 : S2048x2048.Idx → EReal) = arr D.h) (e1 : (W c main_arg1 : S1x2048x5632.Idx → EReal) = arr1 D.w1) (e2 : (W c main_arg0 : S2048x2048.Idx → EReal) = arr D.h) (e3 : (W c main_arg2 : S1x2048x5632.Idx → EReal) = arr1 D.w3) :
    ((dat0 W c).arrAt 6 cfg0.N : S2048x5632.Idx → EReal) = arr D.u := by
  refine (dat0 W c).arrAt_eq_of_cover 6 (arr D.u) (fun t _ => ?_) (fun z => ?_)
  · show (cfg0.win 6).cut (grid0.coords t) ((dat0 W c).after 6 t) = _
    rw [after0_6, out0_6_eq]
    funext z
    obtain ⟨x, y, rfl⟩ := exists_ix2 (n0 := 512) (n1 := 512) z
    exact (Tile.gate x y _ _ _ _ (Tile.up1 x y _ _ (fun k => in0_0 W c e0 t x k) (fun k => in0_1 W c e1 t k y)) (Tile.up2 x y _ _ (fun k => in0_2 W c e2 t x k) (fun k => in0_3 W c e3 t k y))).trans (at0_6 D.u t x y).symm
  · have b0 : (z (0 : Fin 2)).val < 2048 := (z (0 : Fin 2)).isLt
    have b1 : (z (1 : Fin 2)).val < 5632 := (z (1 : Fin 2)).isLt
    have hN : (z (0 : Fin 2)).val / 512 * 11 + (z (1 : Fin 2)).val / 512 < cfg0.N := by
      rw [show cfg0.N = 44 from N_0]; omega
    refine ⟨⟨_, hN⟩, flush0_6 _, ?_⟩
    show z ∈ ((View.whole main_v0_2).slice (win0_6.rect ⟨_, hN⟩)).set
    rw [View.set_slice_whole, Rect.mem_set_unit]
    obtain ⟨i0, i1⟩ := idx0_6 ⟨_, hN⟩
    intro a
    match a with
    | ⟨0, _⟩ =>
      show win0_6.index ⟨_, hN⟩ (0 : Fin 2) * 512 ≤ (z (0 : Fin 2)).val ∧ (z (0 : Fin 2)).val < win0_6.index ⟨_, hN⟩ (0 : Fin 2) * 512 + 512
      rw [i0]; dsimp only; omega
    | ⟨1, _⟩ =>
      show win0_6.index ⟨_, hN⟩ (1 : Fin 2) * 512 ≤ (z (1 : Fin 2)).val ∧ (z (1 : Fin 2)).val < win0_6.index ⟨_, hN⟩ (1 : Fin 2) * 512 + 512
      rw [i1]; dsimp only; omega

end Region0

/-! ### The projection back -/

section Region1

theorem lt1 (t : Fin cfg1.N) : t.val < 16 := lt_of_lt_of_eq t.isLt (show cfg1.N = 16 from N_1)

theorem idx1_0 : ∀ t : Fin cfg1.N, win1_0.index t (0 : Fin 2) = t.val / 4 ∧ win1_0.index t (1 : Fin 2) = 0 :=
  (by decide +kernel : ∀ t : Fin grid1.N, _)

theorem idx1_1 : ∀ t : Fin cfg1.N, win1_1.index t (0 : Fin 3) = 0 ∧ win1_1.index t (1 : Fin 3) = 0 ∧ win1_1.index t (2 : Fin 3) = t.val % 4 :=
  (by decide +kernel : ∀ t : Fin grid1.N, _)

theorem idx1_2 : ∀ t : Fin cfg1.N, win1_2.index t (0 : Fin 2) = t.val / 4 ∧ win1_2.index t (1 : Fin 2) = t.val % 4 :=
  (by decide +kernel : ∀ t : Fin grid1.N, _)

theorem in1_0 {f : Fin 2048 → Fin 5632 → ℝ} (e : (W c main_v0_2 : S2048x5632.Idx → EReal) = arr f) (t : Fin cfg1.N) (x : Fin 512) (y : Fin 5632) :
    (iblk1 W c 0 t : Vec Ideal S512x5632 .bf16) (ix2 x y) = (f (pos 512 (t.val / 4) x (by have := lt1 t; omega) : Fin 2048) y : EReal) := by
  obtain ⟨h0, h1⟩ := idx1_0 t
  have r : (iblk1 W c 0 t : Vec Ideal S512x5632 .bf16) (ix2 x y) = (W c main_v0_2 : S2048x5632.Idx → EReal) (((cfg1.win 0).blk t).view.emb (ix2 x y : S512x5632.Idx)) := rfl
  refine r.trans ((congrFun e _).trans (arr_at f _ _ _ ?_ ?_))
  · show win1_0.index t (0 : Fin 2) * 512 + 1 * x.val = t.val / 4 * 512 + x.val
    rw [h0]; omega
  · show win1_0.index t (1 : Fin 2) * 5632 + 1 * y.val = y.val
    rw [h1]; omega

theorem in1_1 {f : Fin 5632 → Fin 2048 → ℝ} (e : (W c main_arg3 : S1x5632x2048.Idx → EReal) = arr1 f) (t : Fin cfg1.N) (x : Fin 5632) (y : Fin 512) :
    (iblk1 W c 1 t : Vec Ideal S1x5632x512 .bf16) (ix3 0 x y) = (f x (pos 512 (t.val % 4) y (by have := lt1 t; omega) : Fin 2048) : EReal) := by
  obtain ⟨-, h1, h2⟩ := idx1_1 t
  have r : (iblk1 W c 1 t : Vec Ideal S1x5632x512 .bf16) (ix3 0 x y) = (W c main_arg3 : S1x5632x2048.Idx → EReal) (((cfg1.win 1).blk t).view.emb (ix3 0 x y : S1x5632x512.Idx)) := rfl
  refine r.trans ((congrFun e _).trans (arr1_at f _ _ _ ?_ ?_))
  · show win1_1.index t (1 : Fin 3) * 5632 + 1 * x.val = x.val
    rw [h1]; omega
  · show win1_1.index t (2 : Fin 3) * 512 + 1 * y.val = t.val % 4 * 512 + y.val
    rw [h2]; omega

theorem out1_2_eq (x0 : Vec Ideal S512x5632 .bf16) (x1 : Vec Ideal S1x5632x512 .bf16) :
    out1_2 (F := Ideal) x0 x1 = k1_pay1 (F := Ideal) x0 x1 := by
  unfold out1_2
  rw [View.canon_unit_zero zero2, View.ld_unit_zero (S := S512x5632) zero2 _ x0, View.ld_unit_zero (S := S1x5632x512) zero3 _ x1]

theorem at1_2 (f : Fin 2048 → Fin 2048 → ℝ) (t : Fin cfg1.N) (x : Fin 512) (y : Fin 512) :
    ((cfg1.win 2).blk t).view.read (Elt Ideal) (arr f) (ix2 x y : S512x512.Idx) = (f (pos 512 (t.val / 4) x (by have := lt1 t; omega) : Fin 2048) (pos 512 (t.val % 4) y (by have := lt1 t; omega) : Fin 2048) : EReal) := by
  obtain ⟨h0, h1⟩ := idx1_2 t
  refine arr_at f _ _ _ ?_ ?_
  · show win1_2.index t (0 : Fin 2) * 512 + 1 * x.val = t.val / 4 * 512 + x.val
    rw [h0]; omega
  · show win1_2.index t (1 : Fin 2) * 512 + 1 * y.val = t.val % 4 * 512 + y.val
    rw [h1]; omega

theorem final1_2 {D : Data} (e0 : (W c main_v0_2 : S2048x5632.Idx → EReal) = arr D.u) (e1 : (W c main_arg3 : S1x5632x2048.Idx → EReal) = arr1 D.w2) :
    ((dat1 W c).arrAt 2 cfg1.N : S2048x2048.Idx → EReal) = arr D.y := by
  refine (dat1 W c).arrAt_eq_of_cover 2 (arr D.y) (fun t _ => ?_) (fun z => ?_)
  · show (cfg1.win 2).cut (grid1.coords t) ((dat1 W c).after 2 t) = _
    rw [after1_2, out1_2_eq]
    funext z
    obtain ⟨x, y, rfl⟩ := exists_ix2 (n0 := 512) (n1 := 512) z
    exact (Tile.down x y _ _ (fun k => in1_0 W c e0 t x k) (fun k => in1_1 W c e1 t k y)).trans (at1_2 D.y t x y).symm
  · have b0 : (z (0 : Fin 2)).val < 2048 := (z (0 : Fin 2)).isLt
    have b1 : (z (1 : Fin 2)).val < 2048 := (z (1 : Fin 2)).isLt
    have hN : (z (0 : Fin 2)).val / 512 * 4 + (z (1 : Fin 2)).val / 512 < cfg1.N := by
      rw [show cfg1.N = 16 from N_1]; omega
    refine ⟨⟨_, hN⟩, flush1_2 _, ?_⟩
    show z ∈ ((View.whole main_v1).slice (win1_2.rect ⟨_, hN⟩)).set
    rw [View.set_slice_whole, Rect.mem_set_unit]
    obtain ⟨i0, i1⟩ := idx1_2 ⟨_, hN⟩
    intro a
    match a with
    | ⟨0, _⟩ =>
      show win1_2.index ⟨_, hN⟩ (0 : Fin 2) * 512 ≤ (z (0 : Fin 2)).val ∧ (z (0 : Fin 2)).val < win1_2.index ⟨_, hN⟩ (0 : Fin 2) * 512 + 512
      rw [i0]; dsimp only; omega
    | ⟨1, _⟩ =>
      show win1_2.index ⟨_, hN⟩ (1 : Fin 2) * 512 ≤ (z (1 : Fin 2)).val ∧ (z (1 : Fin 2)).val < win1_2.index ⟨_, hN⟩ (1 : Fin 2) * 512 + 512
      rw [i1]; dsimp only; omega

end Region1

end Cert.Ffn

end
-- ==== Proof.FfnGate.lean ====
/- The arrays the kernel of the gate's gradients leaves. -/
module

public import proofs.«01_k».proof.Proof.FfnTile
public import proofs.«01_k».proof.Proof.Gen.Kernel2Ideal.Frame

@[expose] public section

noncomputable section

namespace Cert.Ffn

open Idealize.ShloMosaic hiding ix1 ix2 ix3 ix4
open Idealize.ShloMosaic.TcCoe Idealize.ShloMosaic.ValueIdx
open Idealize.ShloMosaic.Pipeline (Dat)
open Cert.Kernel2Ideal Cert.Kernel2Ideal.Gen

variable (W : (c : Dev nD) → (b : Ref sig .tc) → Buf (Elt Ideal) ((c : Thread nD τ).loc b)) (c : Dev nD)

/-! ### The gradients of the two factors -/

section Region2

theorem lt2 (t : Fin cfg2.N) : t.val < 44 := lt_of_lt_of_eq t.isLt (show cfg2.N = 44 from N_2)

theorem idx2_0 : ∀ t : Fin cfg2.N, win2_0.index t (0 : Fin 2) = t.val / 11 ∧ win2_0.index t (1 : Fin 2) = 0 :=
  (by decide +kernel : ∀ t : Fin grid2.N, _)

theorem idx2_1 : ∀ t : Fin cfg2.N, win2_1.index t (0 : Fin 3) = 0 ∧ win2_1.index t (1 : Fin 3) = t.val % 11 ∧ win2_1.index t (2 : Fin 3) = 0 :=
  (by decide +kernel : ∀ t : Fin grid2.N, _)

theorem idx2_2 : ∀ t : Fin cfg2.N, win2_2.index t (0 : Fin 2) = t.val / 11 ∧ win2_2.index t (1 : Fin 2) = t.val % 11 :=
  (by decide +kernel : ∀ t : Fin grid2.N, _)

theorem idx2_3 : ∀ t : Fin cfg2.N, win2_3.index t (0 : Fin 2) = t.val / 11 ∧ win2_3.index t (1 : Fin 2) = t.val % 11 :=
  (by decide +kernel : ∀ t : Fin grid2.N, _)

theorem idx2_4 : ∀ t : Fin cfg2.N, win2_4.index t (0 : Fin 2) = t.val / 11 ∧ win2_4.index t (1 : Fin 2) = t.val % 11 :=
  (by decide +kernel : ∀ t : Fin grid2.N, _)

theorem idx2_5 : ∀ t : Fin cfg2.N, win2_5.index t (0 : Fin 2) = t.val / 11 ∧ win2_5.index t (1 : Fin 2) = t.val % 11 :=
  (by decide +kernel : ∀ t : Fin grid2.N, _)

theorem in2_0 {f : Fin 2048 → Fin 2048 → ℝ} (e : (W c main_arg4 : S2048x2048.Idx → EReal) = arr f) (t : Fin cfg2.N) (x : Fin 512) (y : Fin 2048) :
    (iblk2 W c 0 t : Vec Ideal S512x2048 .bf16) (ix2 x y) = (f (pos 512 (t.val / 11) x (by have := lt2 t; omega) : Fin 2048) y : EReal) := by
  obtain ⟨h0, h1⟩ := idx2_0 t
  have r : (iblk2 W c 0 t : Vec Ideal S512x2048 .bf16) (ix2 x y) = (W c main_arg4 : S2048x2048.Idx → EReal) (((cfg2.win 0).blk t).view.emb (ix2 x y : S512x2048.Idx)) := rfl
  refine r.trans ((congrFun e _).trans (arr_at f _ _ _ ?_ ?_))
  · show win2_0.index t (0 : Fin 2) * 512 + 1 * x.val = t.val / 11 * 512 + x.val
    rw [h0]; omega
  · show win2_0.index t (1 : Fin 2) * 2048 + 1 * y.val = y.val
    rw [h1]; omega

theorem in2_1 {f : Fin 5632 → Fin 2048 → ℝ} (e : (W c main_arg3 : S1x5632x2048.Idx → EReal) = arr1 f) (t : Fin cfg2.N) (x : Fin 512) (y : Fin 2048) :
    (iblk2 W c 1 t : Vec Ideal S1x512x2048 .bf16) (ix3 0 x y) = (f (pos 512 (t.val % 11) x (by have := lt2 t; omega) : Fin 5632) y : EReal) := by
  obtain ⟨-, h1, h2⟩ := idx2_1 t
  have r : (iblk2 W c 1 t : Vec Ideal S1x512x2048 .bf16) (ix3 0 x y) = (W c main_arg3 : S1x5632x2048.Idx → EReal) (((cfg2.win 1).blk t).view.emb (ix3 0 x y : S1x512x2048.Idx)) := rfl
  refine r.trans ((congrFun e _).trans (arr1_at f _ _ _ ?_ ?_))
  · show win2_1.index t (1 : Fin 3) * 512 + 1 * x.val = t.val % 11 * 512 + x.val
    rw [h1]; omega
  · show win2_1.index t (2 : Fin 3) * 2048 + 1 * y.val = y.val
    rw [h2]; omega

theorem in2_2 {f : Fin 2048 → Fin 5632 → ℝ} (e : (W c main_v0_0 : S2048x5632.Idx → EReal) = arr f) (t : Fin cfg2.N) (x : Fin 512) (y : Fin 512) :
    (iblk2 W c 2 t : Vec Ideal S512x512 .bf16) (ix2 x y) = (f (pos 512 (t.val / 11) x (by have := lt2 t; omega) : Fin 2048) (pos 512 (t.val % 11) y (by have := lt2 t; omega) : Fin 5632) : EReal) := by
  obtain ⟨h0, h1⟩ := idx2_2 t
  have r : (iblk2 W c 2 t : Vec Ideal S512x512 .bf16) (ix2 x y) = (W c main_v0_0 : S2048x5632.Idx → EReal) (((cfg2.win 2).blk t).view.emb (ix2 x y : S512x512.Idx)) := rfl
  refine r.trans ((congrFun e _).trans (arr_at f _ _ _ ?_ ?_))
  · show win2_2.index t (0 : Fin 2) * 512 + 1 * x.val = t.val / 11 * 512 + x.val
    rw [h0]; omega
  · show win2_2.index t (1 : Fin 2) * 512 + 1 * y.val = t.val % 11 * 512 + y.val
    rw [h1]; omega

theorem in2_3 {f : Fin 2048 → Fin 5632 → ℝ} (e : (W c main_v0_1 : S2048x5632.Idx → EReal) = arr f) (t : Fin cfg2.N) (x : Fin 512) (y : Fin 512) :
    (iblk2 W c 3 t : Vec Ideal S512x512 .bf16) (ix2 x y) = (f (pos 512 (t.val / 11) x (by have := lt2 t; omega) : Fin 2048) (pos 512 (t.val % 11) y (by have := lt2 t; omega) : Fin 5632) : EReal) := by
  obtain ⟨h0, h1⟩ := idx2_3 t
  have r : (iblk2 W c 3 t : Vec Ideal S512x512 .bf16) (ix2 x y) = (W c main_v0_1 : S2048x5632.Idx → EReal) (((cfg2.win 3).blk t).view.emb (ix2 x y : S512x512.Idx)) := rfl
  refine r.trans ((congrFun e _).trans (arr_at f _ _ _ ?_ ?_))
  · show win2_3.index t (0 : Fin 2) * 512 + 1 * x.val = t.val / 11 * 512 + x.val
    rw [h0]; omega
  · show win2_3.index t (1 : Fin 2) * 512 + 1 * y.val = t.val % 11 * 512 + y.val
    rw [h1]; omega

theorem out2_4_eq (x0 : Vec Ideal S512x2048 .bf16) (x1 : Vec Ideal S1x512x2048 .bf16) (x2 : Vec Ideal S512x512 .bf16) (x3 : Vec Ideal S512x512 .bf16) :
    out2_4 (F := Ideal) x0 x1 x2 x3 = k2_pay4 (F := Ideal) x0 x1 x2 x3 := by
  unfold out2_4
  rw [View.canon_unit_zero zero2, View.ld_unit_zero (S := S512x2048) zero2 _ x0, View.ld_unit_zero (S := S1x512x2048) zero3 _ x1, View.ld_unit_zero (S := S512x512) zero2 _ x2, View.ld_unit_zero (S := S512x512) zero2 _ x3]

theorem at2_4 (f : Fin 2048 → Fin 5632 → ℝ) (t : Fin cfg2.N) (x : Fin 512) (y : Fin 512) :
    ((cfg2.win 4).blk t).view.read (Elt Ideal) (arr f) (ix2 x y : S512x512.Idx) = (f (pos 512 (t.val / 11) x (by have := lt2 t; omega) : Fin 2048) (pos 512 (t.val % 11) y (by have := lt2 t; omega) : Fin 5632) : EReal) := by
  obtain ⟨h0, h1⟩ := idx2_4 t
  refine arr_at f _ _ _ ?_ ?_
  · show win2_4.index t (0 : Fin 2) * 512 + 1 * x.val = t.val / 11 * 512 + x.val
    rw [h0]; omega
  · show win2_4.index t (1 : Fin 2) * 512 + 1 * y.val = t.val % 11 * 512 + y.val
    rw [h1]; omega

theorem final2_4 {D : Data} (e0 : (W c main_arg4 : S2048x2048.Idx → EReal) = arr D.g) (e1 : (W c main_arg3 : S1x5632x2048.Idx → EReal) = arr1 D.w2) (e2 : (W c main_v0_0 : S2048x5632.Idx → EReal) = arr D.a) (e3 : (W c main_v0_1 : S2048x5632.Idx → EReal) = arr D.b) :
    ((dat2 W c).arrAt 4 cfg2.N : S2048x5632.Idx → EReal) = arr D.da := by
  refine (dat2 W c).arrAt_eq_of_cover 4 (arr D.da) (fun t _ => ?_) (fun z => ?_)
  · show (cfg2.win 4).cut (grid2.coords t) ((dat2 W c).after 4 t) = _
    rw [after2_4, out2_4_eq]
    funext z
    obtain ⟨x, y, rfl⟩ := exists_ix2 (n0 := 512) (n1 := 512) z
    exact (Tile.da x y _ _ _ _ (Tile.du1 x y _ _ (fun k => in2_0 W c e0 t x k) (fun k => in2_1 W c e1 t y k)) (in2_2 W c e2 t x y) (in2_3 W c e3 t x y)).trans (at2_4 D.da t x y).symm
  · have b0 : (z (0 : Fin 2)).val < 2048 := (z (0 : Fin 2)).isLt
    have b1 : (z (1 : Fin 2)).val < 5632 := (z (1 : Fin 2)).isLt
    have hN : (z (0 : Fin 2)).val / 512 * 11 + (z (1 : Fin 2)).val / 512 < cfg2.N := by
      rw [show cfg2.N = 44 from N_2]; omega
    refine ⟨⟨_, hN⟩, flush2_4 _, ?_⟩
    show z ∈ ((View.whole main_v2_0).slice (win2_4.rect ⟨_, hN⟩)).set
    rw [View.set_slice_whole, Rect.mem_set_unit]
    obtain ⟨i0, i1⟩ := idx2_4 ⟨_, hN⟩
    intro a
    match a with
    | ⟨0, _⟩ =>
      show win2_4.index ⟨_, hN⟩ (0 : Fin 2) * 512 ≤ (z (0 : Fin 2)).val ∧ (z (0 : Fin 2)).val < win2_4.index ⟨_, hN⟩ (0 : Fin 2) * 512 + 512
      rw [i0]; dsimp only; omega
    | ⟨1, _⟩ =>
      show win2_4.index ⟨_, hN⟩ (1 : Fin 2) * 512 ≤ (z (1 : Fin 2)).val ∧ (z (1 : Fin 2)).val < win2_4.index ⟨_, hN⟩ (1 : Fin 2) * 512 + 512
      rw [i1]; dsimp only; omega

theorem out2_5_eq (x0 : Vec Ideal S512x2048 .bf16) (x1 : Vec Ideal S1x512x2048 .bf16) (x2 : Vec Ideal S512x512 .bf16) (x3 : Vec Ideal S512x512 .bf16) :
    out2_5 (F := Ideal) x0 x1 x2 x3 = k2_pay5 (F := Ideal) x0 x1 x2 := by
  unfold out2_5
  rw [View.canon_unit_zero zero2, View.ld_unit_zero (S := S512x2048) zero2 _ x0, View.ld_unit_zero (S := S1x512x2048) zero3 _ x1, View.ld_unit_zero (S := S512x512) zero2 _ x2]

theorem at2_5 (f : Fin 2048 → Fin 5632 → ℝ) (t : Fin cfg2.N) (x : Fin 512) (y : Fin 512) :
    ((cfg2.win 5).blk t).view.read (Elt Ideal) (arr f) (ix2 x y : S512x512.Idx) = (f (pos 512 (t.val / 11) x (by have := lt2 t; omega) : Fin 2048) (pos 512 (t.val % 11) y (by have := lt2 t; omega) : Fin 5632) : EReal) := by
  obtain ⟨h0, h1⟩ := idx2_5 t
  refine arr_at f _ _ _ ?_ ?_
  · show win2_5.index t (0 : Fin 2) * 512 + 1 * x.val = t.val / 11 * 512 + x.val
    rw [h0]; omega
  · show win2_5.index t (1 : Fin 2) * 512 + 1 * y.val = t.val % 11 * 512 + y.val
    rw [h1]; omega

theorem final2_5 {D : Data} (e0 : (W c main_arg4 : S2048x2048.Idx → EReal) = arr D.g) (e1 : (W c main_arg3 : S1x5632x2048.Idx → EReal) = arr1 D.w2) (e2 : (W c main_v0_0 : S2048x5632.Idx → EReal) = arr D.a) :
    ((dat2 W c).arrAt 5 cfg2.N : S2048x5632.Idx → EReal) = arr D.db := by
  refine (dat2 W c).arrAt_eq_of_cover 5 (arr D.db) (fun t _ => ?_) (fun z => ?_)
  · show (cfg2.win 5).cut (grid2.coords t) ((dat2 W c).after 5 t) = _
    rw [after2_5, out2_5_eq]
    funext z
    obtain ⟨x, y, rfl⟩ := exists_ix2 (n0 := 512) (n1 := 512) z
    exact (Tile.db x y _ _ _ (Tile.du1 x y _ _ (fun k => in2_0 W c e0 t x k) (fun k => in2_1 W c e1 t y k)) (in2_2 W c e2 t x y)).trans (at2_5 D.db t x y).symm
  · have b0 : (z (0 : Fin 2)).val < 2048 := (z (0 : Fin 2)).isLt
    have b1 : (z (1 : Fin 2)).val < 5632 := (z (1 : Fin 2)).isLt
    have hN : (z (0 : Fin 2)).val / 512 * 11 + (z (1 : Fin 2)).val / 512 < cfg2.N := by
      rw [show cfg2.N = 44 from N_2]; omega
    refine ⟨⟨_, hN⟩, flush2_5 _, ?_⟩
    show z ∈ ((View.whole main_v2_1).slice (win2_5.rect ⟨_, hN⟩)).set
    rw [View.set_slice_whole, Rect.mem_set_unit]
    obtain ⟨i0, i1⟩ := idx2_5 ⟨_, hN⟩
    intro a
    match a with
    | ⟨0, _⟩ =>
      show win2_5.index ⟨_, hN⟩ (0 : Fin 2) * 512 ≤ (z (0 : Fin 2)).val ∧ (z (0 : Fin 2)).val < win2_5.index ⟨_, hN⟩ (0 : Fin 2) * 512 + 512
      rw [i0]; dsimp only; omega
    | ⟨1, _⟩ =>
      show win2_5.index ⟨_, hN⟩ (1 : Fin 2) * 512 ≤ (z (1 : Fin 2)).val ∧ (z (1 : Fin 2)).val < win2_5.index ⟨_, hN⟩ (1 : Fin 2) * 512 + 512
      rw [i1]; dsimp only; omega

end Region2

end Cert.Ffn

end
-- ==== Proof.FfnWeights.lean ====
/- The arrays the kernels of the weights' gradients leave. -/
module

public import proofs.«01_k».proof.Proof.FfnTile
public import proofs.«01_k».proof.Proof.Gen.Kernel2Ideal.Frame

@[expose] public section

noncomputable section

namespace Cert.Ffn

open Idealize.ShloMosaic hiding ix1 ix2 ix3 ix4
open Idealize.ShloMosaic.TcCoe Idealize.ShloMosaic.ValueIdx
open Idealize.ShloMosaic.Pipeline (Dat)
open Cert.Kernel2Ideal Cert.Kernel2Ideal.Gen

variable (W : (c : Dev nD) → (b : Ref sig .tc) → Buf (Elt Ideal) ((c : Thread nD τ).loc b)) (c : Dev nD)

/-! ### The gradient of the projection back -/

section Region3

theorem lt3 (t : Fin cfg3.N) : t.val < 44 := lt_of_lt_of_eq t.isLt (show cfg3.N = 44 from N_3)

theorem idx3_0 : ∀ t : Fin cfg3.N, win3_0.index t (0 : Fin 2) = 0 ∧ win3_0.index t (1 : Fin 2) = t.val / 4 :=
  (by decide +kernel : ∀ t : Fin grid3.N, _)

theorem idx3_1 : ∀ t : Fin cfg3.N, win3_1.index t (0 : Fin 2) = 0 ∧ win3_1.index t (1 : Fin 2) = t.val % 4 :=
  (by decide +kernel : ∀ t : Fin grid3.N, _)

theorem idx3_2 : ∀ t : Fin cfg3.N, win3_2.index t (0 : Fin 2) = t.val / 4 ∧ win3_2.index t (1 : Fin 2) = t.val % 4 :=
  (by decide +kernel : ∀ t : Fin grid3.N, _)

theorem in3_0 {f : Fin 2048 → Fin 5632 → ℝ} (e : (W c main_v0_2 : S2048x5632.Idx → EReal) = arr f) (t : Fin cfg3.N) (x : Fin 2048) (y : Fin 512) :
    (iblk3 W c 0 t : Vec Ideal S2048x512 .bf16) (ix2 x y) = (f x (pos 512 (t.val / 4) y (by have := lt3 t; omega) : Fin 5632) : EReal) := by
  obtain ⟨h0, h1⟩ := idx3_0 t
  have r : (iblk3 W c 0 t : Vec Ideal S2048x512 .bf16) (ix2 x y) = (W c main_v0_2 : S2048x5632.Idx → EReal) (((cfg3.win 0).blk t).view.emb (ix2 x y : S2048x512.Idx)) := rfl
  refine r.trans ((congrFun e _).trans (arr_at f _ _ _ ?_ ?_))
  · show win3_0.index t (0 : Fin 2) * 2048 + 1 * x.val = x.val
    rw [h0]; omega
  · show win3_0.index t (1 : Fin 2) * 512 + 1 * y.val = t.val / 4 * 512 + y.val
    rw [h1]; omega

theorem in3_1 {f : Fin 2048 → Fin 2048 → ℝ} (e : (W c main_arg4 : S2048x2048.Idx → EReal) = arr f) (t : Fin cfg3.N) (x : Fin 2048) (y : Fin 512) :
    (iblk3 W c 1 t : Vec Ideal S2048x512 .bf16) (ix2 x y) = (f x (pos 512 (t.val % 4) y (by have := lt3 t; omega) : Fin 2048) : EReal) := by
  obtain ⟨h0, h1⟩ := idx3_1 t
  have r : (iblk3 W c 1 t : Vec Ideal S2048x512 .bf16) (ix2 x y) = (W c main_arg4 : S2048x2048.Idx → EReal) (((cfg3.win 1).blk t).view.emb (ix2 x y : S2048x512.Idx)) := rfl
  refine r.trans ((congrFun e _).trans (arr_at f _ _ _ ?_ ?_))
  · show win3_1.index t (0 : Fin 2) * 2048 + 1 * x.val = x.val
    rw [h0]; omega
  · show win3_1.index t (1 : Fin 2) * 512 + 1 * y.val = t.val % 4 * 512 + y.val
    rw [h1]; omega

theorem out3_2_eq (x0 : Vec Ideal S2048x512 .bf16) (x1 : Vec Ideal S2048x512 .bf16) :
    out3_2 (F := Ideal) x0 x1 = k3_pay1 (F := Ideal) x0 x1 := by
  unfold out3_2
  rw [View.canon_unit_zero zero2, View.ld_unit_zero (S := S2048x512) zero2 _ x0, View.ld_unit_zero (S := S2048x512) zero2 _ x1]

theorem at3_2 (f : Fin 5632 → Fin 2048 → ℝ) (t : Fin cfg3.N) (x : Fin 512) (y : Fin 512) :
    ((cfg3.win 2).blk t).view.read (Elt Ideal) (arr f) (ix2 x y : S512x512.Idx) = (f (pos 512 (t.val / 4) x (by have := lt3 t; omega) : Fin 5632) (pos 512 (t.val % 4) y (by have := lt3 t; omega) : Fin 2048) : EReal) := by
  obtain ⟨h0, h1⟩ := idx3_2 t
  refine arr_at f _ _ _ ?_ ?_
  · show win3_2.index t (0 : Fin 2) * 512 + 1 * x.val = t.val / 4 * 512 + x.val
    rw [h0]; omega
  · show win3_2.index t (1 : Fin 2) * 512 + 1 * y.val = t.val % 4 * 512 + y.val
    rw [h1]; omega

theorem final3_2 {D : Data} (e0 : (W c main_v0_2 : S2048x5632.Idx → EReal) = arr D.u) (e1 : (W c main_arg4 : S2048x2048.Idx → EReal) = arr D.g) :
    ((dat3 W c).arrAt 2 cfg3.N : S5632x2048.Idx → EReal) = arr D.dw2 := by
  refine (dat3 W c).arrAt_eq_of_cover 2 (arr D.dw2) (fun t _ => ?_) (fun z => ?_)
  · show (cfg3.win 2).cut (grid3.coords t) ((dat3 W c).after 2 t) = _
    rw [after3_2, out3_2_eq]
    funext z
    obtain ⟨x, y, rfl⟩ := exists_ix2 (n0 := 512) (n1 := 512) z
    exact (Tile.dw2 x y _ _ (fun k => in3_0 W c e0 t k x) (fun k => in3_1 W c e1 t k y)).trans (at3_2 D.dw2 t x y).symm
  · have b0 : (z (0 : Fin 2)).val < 5632 := (z (0 : Fin 2)).isLt
    have b1 : (z (1 : Fin 2)).val < 2048 := (z (1 : Fin 2)).isLt
    have hN : (z (0 : Fin 2)).val / 512 * 4 + (z (1 : Fin 2)).val / 512 < cfg3.N := by
      rw [show cfg3.N = 44 from N_3]; omega
    refine ⟨⟨_, hN⟩, flush3_2 _, ?_⟩
    show z ∈ ((View.whole main_v3).slice (win3_2.rect ⟨_, hN⟩)).set
    rw [View.set_slice_whole, Rect.mem_set_unit]
    obtain ⟨i0, i1⟩ := idx3_2 ⟨_, hN⟩
    intro a
    match a with
    | ⟨0, _⟩ =>
      show win3_2.index ⟨_, hN⟩ (0 : Fin 2) * 512 ≤ (z (0 : Fin 2)).val ∧ (z (0 : Fin 2)).val < win3_2.index ⟨_, hN⟩ (0 : Fin 2) * 512 + 512
      rw [i0]; dsimp only; omega
    | ⟨1, _⟩ =>
      show win3_2.index ⟨_, hN⟩ (1 : Fin 2) * 512 ≤ (z (1 : Fin 2)).val ∧ (z (1 : Fin 2)).val < win3_2.index ⟨_, hN⟩ (1 : Fin 2) * 512 + 512
      rw [i1]; dsimp only; omega

end Region3

/-! ### The gradients of the gate's two weights -/

section Region4

theorem lt4 (t : Fin cfg4.N) : t.val < 44 := lt_of_lt_of_eq t.isLt (show cfg4.N = 44 from N_4)

theorem idx4_0 : ∀ t : Fin cfg4.N, win4_0.index t (0 : Fin 2) = 0 ∧ win4_0.index t (1 : Fin 2) = t.val / 11 :=
  (by decide +kernel : ∀ t : Fin grid4.N, _)

theorem idx4_1 : ∀ t : Fin cfg4.N, win4_1.index t (0 : Fin 2) = 0 ∧ win4_1.index t (1 : Fin 2) = t.val % 11 :=
  (by decide +kernel : ∀ t : Fin grid4.N, _)

theorem idx4_2 : ∀ t : Fin cfg4.N, win4_2.index t (0 : Fin 2) = 0 ∧ win4_2.index t (1 : Fin 2) = t.val / 11 :=
  (by decide +kernel : ∀ t : Fin grid4.N, _)

theorem idx4_3 : ∀ t : Fin cfg4.N, win4_3.index t (0 : Fin 2) = 0 ∧ win4_3.index t (1 : Fin 2) = t.val % 11 :=
  (by decide +kernel : ∀ t : Fin grid4.N, _)

theorem idx4_4 : ∀ t : Fin cfg4.N, win4_4.index t (0 : Fin 2) = t.val / 11 ∧ win4_4.index t (1 : Fin 2) = t.val % 11 :=
  (by decide +kernel : ∀ t : Fin grid4.N, _)

theorem idx4_5 : ∀ t : Fin cfg4.N, win4_5.index t (0 : Fin 2) = t.val / 11 ∧ win4_5.index t (1 : Fin 2) = t.val % 11 :=
  (by decide +kernel : ∀ t : Fin grid4.N, _)

theorem in4_0 {f : Fin 2048 → Fin 2048 → ℝ} (e : (W c main_arg0 : S2048x2048.Idx → EReal) = arr f) (t : Fin cfg4.N) (x : Fin 2048) (y : Fin 512) :
    (iblk4 W c 0 t : Vec Ideal S2048x512 .bf16) (ix2 x y) = (f x (pos 512 (t.val / 11) y (by have := lt4 t; omega) : Fin 2048) : EReal) := by
  obtain ⟨h0, h1⟩ := idx4_0 t
  have r : (iblk4 W c 0 t : Vec Ideal S2048x512 .bf16) (ix2 x y) = (W c main_arg0 : S2048x2048.Idx → EReal) (((cfg4.win 0).blk t).view.emb (ix2 x y : S2048x512.Idx)) := rfl
  refine r.trans ((congrFun e _).trans (arr_at f _ _ _ ?_ ?_))
  · show win4_0.index t (0 : Fin 2) * 2048 + 1 * x.val = x.val
    rw [h0]; omega
  · show win4_0.index t (1 : Fin 2) * 512 + 1 * y.val = t.val / 11 * 512 + y.val
    rw [h1]; omega

theorem in4_1 {f : Fin 2048 → Fin 5632 → ℝ} (e : (W c main_v2_0 : S2048x5632.Idx → EReal) = arr f) (t : Fin cfg4.N) (x : Fin 2048) (y : Fin 512) :
    (iblk4 W c 1 t : Vec Ideal S2048x512 .bf16) (ix2 x y) = (f x (pos 512 (t.val % 11) y (by have := lt4 t; omega) : Fin 5632) : EReal) := by
  obtain ⟨h0, h1⟩ := idx4_1 t
  have r : (iblk4 W c 1 t : Vec Ideal S2048x512 .bf16) (ix2 x y) = (W c main_v2_0 : S2048x5632.Idx → EReal) (((cfg4.win 1).blk t).view.emb (ix2 x y : S2048x512.Idx)) := rfl
  refine r.trans ((congrFun e _).trans (arr_at f _ _ _ ?_ ?_))
  · show win4_1.index t (0 : Fin 2) * 2048 + 1 * x.val = x.val
    rw [h0]; omega
  · show win4_1.index t (1 : Fin 2) * 512 + 1 * y.val = t.val % 11 * 512 + y.val
    rw [h1]; omega

theorem in4_2 {f : Fin 2048 → Fin 2048 → ℝ} (e : (W c main_arg0 : S2048x2048.Idx → EReal) = arr f) (t : Fin cfg4.N) (x : Fin 2048) (y : Fin 512) :
    (iblk4 W c 2 t : Vec Ideal S2048x512 .bf16) (ix2 x y) = (f x (pos 512 (t.val / 11) y (by have := lt4 t; omega) : Fin 2048) : EReal) := by
  obtain ⟨h0, h1⟩ := idx4_2 t
  have r : (iblk4 W c 2 t : Vec Ideal S2048x512 .bf16) (ix2 x y) = (W c main_arg0 : S2048x2048.Idx → EReal) (((cfg4.win 2).blk t).view.emb (ix2 x y : S2048x512.Idx)) := rfl
  refine r.trans ((congrFun e _).trans (arr_at f _ _ _ ?_ ?_))
  · show win4_2.index t (0 : Fin 2) * 2048 + 1 * x.val = x.val
    rw [h0]; omega
  · show win4_2.index t (1 : Fin 2) * 512 + 1 * y.val = t.val / 11 * 512 + y.val
    rw [h1]; omega

theorem in4_3 {f : Fin 2048 → Fin 5632 → ℝ} (e : (W c main_v2_1 : S2048x5632.Idx → EReal) = arr f) (t : Fin cfg4.N) (x : Fin 2048) (y : Fin 512) :
    (iblk4 W c 3 t : Vec Ideal S2048x512 .bf16) (ix2 x y) = (f x (pos 512 (t.val % 11) y (by have := lt4 t; omega) : Fin 5632) : EReal) := by
  obtain ⟨h0, h1⟩ := idx4_3 t
  have r : (iblk4 W c 3 t : Vec Ideal S2048x512 .bf16) (ix2 x y) = (W c main_v2_1 : S2048x5632.Idx → EReal) (((cfg4.win 3).blk t).view.emb (ix2 x y : S2048x512.Idx)) := rfl
  refine r.trans ((congrFun e _).trans (arr_at f _ _ _ ?_ ?_))
  · show win4_3.index t (0 : Fin 2) * 2048 + 1 * x.val = x.val
    rw [h0]; omega
  · show win4_3.index t (1 : Fin 2) * 512 + 1 * y.val = t.val % 11 * 512 + y.val
    rw [h1]; omega

theorem out4_4_eq (x0 : Vec Ideal S2048x512 .bf16) (x1 : Vec Ideal S2048x512 .bf16) (x2 : Vec Ideal S2048x512 .bf16) (x3 : Vec Ideal S2048x512 .bf16) :
    out4_4 (F := Ideal) x0 x1 x2 x3 = k4_pay1 (F := Ideal) x0 x1 := by
  unfold out4_4
  rw [View.canon_unit_zero zero2, View.ld_unit_zero (S := S2048x512) zero2 _ x0, View.ld_unit_zero (S := S2048x512) zero2 _ x1]

theorem at4_4 (f : Fin 2048 → Fin 5632 → ℝ) (t : Fin cfg4.N) (x : Fin 512) (y : Fin 512) :
    ((cfg4.win 4).blk t).view.read (Elt Ideal) (arr f) (ix2 x y : S512x512.Idx) = (f (pos 512 (t.val / 11) x (by have := lt4 t; omega) : Fin 2048) (pos 512 (t.val % 11) y (by have := lt4 t; omega) : Fin 5632) : EReal) := by
  obtain ⟨h0, h1⟩ := idx4_4 t
  refine arr_at f _ _ _ ?_ ?_
  · show win4_4.index t (0 : Fin 2) * 512 + 1 * x.val = t.val / 11 * 512 + x.val
    rw [h0]; omega
  · show win4_4.index t (1 : Fin 2) * 512 + 1 * y.val = t.val % 11 * 512 + y.val
    rw [h1]; omega

theorem final4_4 {D : Data} (e0 : (W c main_arg0 : S2048x2048.Idx → EReal) = arr D.h) (e1 : (W c main_v2_0 : S2048x5632.Idx → EReal) = arr D.da) :
    ((dat4 W c).arrAt 4 cfg4.N : S2048x5632.Idx → EReal) = arr D.dw1 := by
  refine (dat4 W c).arrAt_eq_of_cover 4 (arr D.dw1) (fun t _ => ?_) (fun z => ?_)
  · show (cfg4.win 4).cut (grid4.coords t) ((dat4 W c).after 4 t) = _
    rw [after4_4, out4_4_eq]
    funext z
    obtain ⟨x, y, rfl⟩ := exists_ix2 (n0 := 512) (n1 := 512) z
    exact (Tile.dw1 x y _ _ (fun k => in4_0 W c e0 t k x) (fun k => in4_1 W c e1 t k y)).trans (at4_4 D.dw1 t x y).symm
  · have b0 : (z (0 : Fin 2)).val < 2048 := (z (0 : Fin 2)).isLt
    have b1 : (z (1 : Fin 2)).val < 5632 := (z (1 : Fin 2)).isLt
    have hN : (z (0 : Fin 2)).val / 512 * 11 + (z (1 : Fin 2)).val / 512 < cfg4.N := by
      rw [show cfg4.N = 44 from N_4]; omega
    refine ⟨⟨_, hN⟩, flush4_4 _, ?_⟩
    show z ∈ ((View.whole main_v4_0).slice (win4_4.rect ⟨_, hN⟩)).set
    rw [View.set_slice_whole, Rect.mem_set_unit]
    obtain ⟨i0, i1⟩ := idx4_4 ⟨_, hN⟩
    intro a
    match a with
    | ⟨0, _⟩ =>
      show win4_4.index ⟨_, hN⟩ (0 : Fin 2) * 512 ≤ (z (0 : Fin 2)).val ∧ (z (0 : Fin 2)).val < win4_4.index ⟨_, hN⟩ (0 : Fin 2) * 512 + 512
      rw [i0]; dsimp only; omega
    | ⟨1, _⟩ =>
      show win4_4.index ⟨_, hN⟩ (1 : Fin 2) * 512 ≤ (z (1 : Fin 2)).val ∧ (z (1 : Fin 2)).val < win4_4.index ⟨_, hN⟩ (1 : Fin 2) * 512 + 512
      rw [i1]; dsimp only; omega

theorem out4_5_eq (x0 : Vec Ideal S2048x512 .bf16) (x1 : Vec Ideal S2048x512 .bf16) (x2 : Vec Ideal S2048x512 .bf16) (x3 : Vec Ideal S2048x512 .bf16) :
    out4_5 (F := Ideal) x0 x1 x2 x3 = k4_pay2 (F := Ideal) x2 x3 := by
  unfold out4_5
  rw [View.canon_unit_zero zero2, View.ld_unit_zero (S := S2048x512) zero2 _ x2, View.ld_unit_zero (S := S2048x512) zero2 _ x3]

theorem at4_5 (f : Fin 2048 → Fin 5632 → ℝ) (t : Fin cfg4.N) (x : Fin 512) (y : Fin 512) :
    ((cfg4.win 5).blk t).view.read (Elt Ideal) (arr f) (ix2 x y : S512x512.Idx) = (f (pos 512 (t.val / 11) x (by have := lt4 t; omega) : Fin 2048) (pos 512 (t.val % 11) y (by have := lt4 t; omega) : Fin 5632) : EReal) := by
  obtain ⟨h0, h1⟩ := idx4_5 t
  refine arr_at f _ _ _ ?_ ?_
  · show win4_5.index t (0 : Fin 2) * 512 + 1 * x.val = t.val / 11 * 512 + x.val
    rw [h0]; omega
  · show win4_5.index t (1 : Fin 2) * 512 + 1 * y.val = t.val % 11 * 512 + y.val
    rw [h1]; omega

theorem final4_5 {D : Data} (e2 : (W c main_arg0 : S2048x2048.Idx → EReal) = arr D.h) (e3 : (W c main_v2_1 : S2048x5632.Idx → EReal) = arr D.db) :
    ((dat4 W c).arrAt 5 cfg4.N : S2048x5632.Idx → EReal) = arr D.dw3 := by
  refine (dat4 W c).arrAt_eq_of_cover 5 (arr D.dw3) (fun t _ => ?_) (fun z => ?_)
  · show (cfg4.win 5).cut (grid4.coords t) ((dat4 W c).after 5 t) = _
    rw [after4_5, out4_5_eq]
    funext z
    obtain ⟨x, y, rfl⟩ := exists_ix2 (n0 := 512) (n1 := 512) z
    exact (Tile.dw3 x y _ _ (fun k => in4_2 W c e2 t k x) (fun k => in4_3 W c e3 t k y)).trans (at4_5 D.dw3 t x y).symm
  · have b0 : (z (0 : Fin 2)).val < 2048 := (z (0 : Fin 2)).isLt
    have b1 : (z (1 : Fin 2)).val < 5632 := (z (1 : Fin 2)).isLt
    have hN : (z (0 : Fin 2)).val / 512 * 11 + (z (1 : Fin 2)).val / 512 < cfg4.N := by
      rw [show cfg4.N = 44 from N_4]; omega
    refine ⟨⟨_, hN⟩, flush4_5 _, ?_⟩
    show z ∈ ((View.whole main_v4_1).slice (win4_5.rect ⟨_, hN⟩)).set
    rw [View.set_slice_whole, Rect.mem_set_unit]
    obtain ⟨i0, i1⟩ := idx4_5 ⟨_, hN⟩
    intro a
    match a with
    | ⟨0, _⟩ =>
      show win4_5.index ⟨_, hN⟩ (0 : Fin 2) * 512 ≤ (z (0 : Fin 2)).val ∧ (z (0 : Fin 2)).val < win4_5.index ⟨_, hN⟩ (0 : Fin 2) * 512 + 512
      rw [i0]; dsimp only; omega
    | ⟨1, _⟩ =>
      show win4_5.index ⟨_, hN⟩ (1 : Fin 2) * 512 ≤ (z (1 : Fin 2)).val ∧ (z (1 : Fin 2)).val < win4_5.index ⟨_, hN⟩ (1 : Fin 2) * 512 + 512
      rw [i1]; dsimp only; omega

end Region4

end Cert.Ffn

end
-- ==== Proof.FfnInput.lean ====
/- The array the kernel of the input's gradient leaves. -/
module

public import proofs.«01_k».proof.Proof.FfnTile
public import proofs.«01_k».proof.Proof.Gen.Kernel2Ideal.Frame

@[expose] public section

noncomputable section

namespace Cert.Ffn

open Idealize.ShloMosaic hiding ix1 ix2 ix3 ix4
open Idealize.ShloMosaic.TcCoe Idealize.ShloMosaic.ValueIdx
open Idealize.ShloMosaic.Pipeline (Dat)
open Cert.Kernel2Ideal Cert.Kernel2Ideal.Gen

variable (W : (c : Dev nD) → (b : Ref sig .tc) → Buf (Elt Ideal) ((c : Thread nD τ).loc b)) (c : Dev nD)

/-! ### The gradient of the input -/

section Region5

theorem lt5 (t : Fin cfg5.N) : t.val < 32 := lt_of_lt_of_eq t.isLt (show cfg5.N = 32 from N_5)

theorem idx5_0 : ∀ t : Fin cfg5.N, win5_0.index t (0 : Fin 2) = t.val / 8 ∧ win5_0.index t (1 : Fin 2) = 0 :=
  (by decide +kernel : ∀ t : Fin grid5.N, _)

theorem idx5_1 : ∀ t : Fin cfg5.N, win5_1.index t (0 : Fin 3) = 0 ∧ win5_1.index t (1 : Fin 3) = t.val % 8 ∧ win5_1.index t (2 : Fin 3) = 0 :=
  (by decide +kernel : ∀ t : Fin grid5.N, _)

theorem idx5_2 : ∀ t : Fin cfg5.N, win5_2.index t (0 : Fin 2) = t.val / 8 ∧ win5_2.index t (1 : Fin 2) = 0 :=
  (by decide +kernel : ∀ t : Fin grid5.N, _)

theorem idx5_3 : ∀ t : Fin cfg5.N, win5_3.index t (0 : Fin 3) = 0 ∧ win5_3.index t (1 : Fin 3) = t.val % 8 ∧ win5_3.index t (2 : Fin 3) = 0 :=
  (by decide +kernel : ∀ t : Fin grid5.N, _)

theorem idx5_4 : ∀ t : Fin cfg5.N, win5_4.index t (0 : Fin 2) = t.val / 8 ∧ win5_4.index t (1 : Fin 2) = t.val % 8 :=
  (by decide +kernel : ∀ t : Fin grid5.N, _)

theorem in5_0 {f : Fin 2048 → Fin 5632 → ℝ} (e : (W c main_v2_0 : S2048x5632.Idx → EReal) = arr f) (t : Fin cfg5.N) (x : Fin 512) (y : Fin 5632) :
    (iblk5 W c 0 t : Vec Ideal S512x5632 .bf16) (ix2 x y) = (f (pos 512 (t.val / 8) x (by have := lt5 t; omega) : Fin 2048) y : EReal) := by
  obtain ⟨h0, h1⟩ := idx5_0 t
  have r : (iblk5 W c 0 t : Vec Ideal S512x5632 .bf16) (ix2 x y) = (W c main_v2_0 : S2048x5632.Idx → EReal) (((cfg5.win 0).blk t).view.emb (ix2 x y : S512x5632.Idx)) := rfl
  refine r.trans ((congrFun e _).trans (arr_at f _ _ _ ?_ ?_))
  · show win5_0.index t (0 : Fin 2) * 512 + 1 * x.val = t.val / 8 * 512 + x.val
    rw [h0]; omega
  · show win5_0.index t (1 : Fin 2) * 5632 + 1 * y.val = y.val
    rw [h1]; omega

theorem in5_1 {f : Fin 2048 → Fin 5632 → ℝ} (e : (W c main_arg1 : S1x2048x5632.Idx → EReal) = arr1 f) (t : Fin cfg5.N) (x : Fin 256) (y : Fin 5632) :
    (iblk5 W c 1 t : Vec Ideal S1x256x5632 .bf16) (ix3 0 x y) = (f (pos 256 (t.val % 8) x (by have := lt5 t; omega) : Fin 2048) y : EReal) := by
  obtain ⟨-, h1, h2⟩ := idx5_1 t
  have r : (iblk5 W c 1 t : Vec Ideal S1x256x5632 .bf16) (ix3 0 x y) = (W c main_arg1 : S1x2048x5632.Idx → EReal) (((cfg5.win 1).blk t).view.emb (ix3 0 x y : S1x256x5632.Idx)) := rfl
  refine r.trans ((congrFun e _).trans (arr1_at f _ _ _ ?_ ?_))
  · show win5_1.index t (1 : Fin 3) * 256 + 1 * x.val = t.val % 8 * 256 + x.val
    rw [h1]; omega
  · show win5_1.index t (2 : Fin 3) * 5632 + 1 * y.val = y.val
    rw [h2]; omega

theorem in5_2 {f : Fin 2048 → Fin 5632 → ℝ} (e : (W c main_v2_1 : S2048x5632.Idx → EReal) = arr f) (t : Fin cfg5.N) (x : Fin 512) (y : Fin 5632) :
    (iblk5 W c 2 t : Vec Ideal S512x5632 .bf16) (ix2 x y) = (f (pos 512 (t.val / 8) x (by have := lt5 t; omega) : Fin 2048) y : EReal) := by
  obtain ⟨h0, h1⟩ := idx5_2 t
  have r : (iblk5 W c 2 t : Vec Ideal S512x5632 .bf16) (ix2 x y) = (W c main_v2_1 : S2048x5632.Idx → EReal) (((cfg5.win 2).blk t).view.emb (ix2 x y : S512x5632.Idx)) := rfl
  refine r.trans ((congrFun e _).trans (arr_at f _ _ _ ?_ ?_))
  · show win5_2.index t (0 : Fin 2) * 512 + 1 * x.val = t.val / 8 * 512 + x.val
    rw [h0]; omega
  · show win5_2.index t (1 : Fin 2) * 5632 + 1 * y.val = y.val
    rw [h1]; omega

theorem in5_3 {f : Fin 2048 → Fin 5632 → ℝ} (e : (W c main_arg2 : S1x2048x5632.Idx → EReal) = arr1 f) (t : Fin cfg5.N) (x : Fin 256) (y : Fin 5632) :
    (iblk5 W c 3 t : Vec Ideal S1x256x5632 .bf16) (ix3 0 x y) = (f (pos 256 (t.val % 8) x (by have := lt5 t; omega) : Fin 2048) y : EReal) := by
  obtain ⟨-, h1, h2⟩ := idx5_3 t
  have r : (iblk5 W c 3 t : Vec Ideal S1x256x5632 .bf16) (ix3 0 x y) = (W c main_arg2 : S1x2048x5632.Idx → EReal) (((cfg5.win 3).blk t).view.emb (ix3 0 x y : S1x256x5632.Idx)) := rfl
  refine r.trans ((congrFun e _).trans (arr1_at f _ _ _ ?_ ?_))
  · show win5_3.index t (1 : Fin 3) * 256 + 1 * x.val = t.val % 8 * 256 + x.val
    rw [h1]; omega
  · show win5_3.index t (2 : Fin 3) * 5632 + 1 * y.val = y.val
    rw [h2]; omega

theorem out5_4_eq (x0 : Vec Ideal S512x5632 .bf16) (x1 : Vec Ideal S1x256x5632 .bf16) (x2 : Vec Ideal S512x5632 .bf16) (x3 : Vec Ideal S1x256x5632 .bf16) :
    out5_4 (F := Ideal) x0 x1 x2 x3 = k5_pay1 (F := Ideal) x0 x1 x2 x3 := by
  unfold out5_4
  rw [View.canon_unit_zero zero2, View.ld_unit_zero (S := S512x5632) zero2 _ x0, View.ld_unit_zero (S := S1x256x5632) zero3 _ x1, View.ld_unit_zero (S := S512x5632) zero2 _ x2, View.ld_unit_zero (S := S1x256x5632) zero3 _ x3]

theorem at5_4 (f : Fin 2048 → Fin 2048 → ℝ) (t : Fin cfg5.N) (x : Fin 512) (y : Fin 256) :
    ((cfg5.win 4).blk t).view.read (Elt Ideal) (arr f) (ix2 x y : S512x256.Idx) = (f (pos 512 (t.val / 8) x (by have := lt5 t; omega) : Fin 2048) (pos 256 (t.val % 8) y (by have := lt5 t; omega) : Fin 2048) : EReal) := by
  obtain ⟨h0, h1⟩ := idx5_4 t
  refine arr_at f _ _ _ ?_ ?_
  · show win5_4.index t (0 : Fin 2) * 512 + 1 * x.val = t.val / 8 * 512 + x.val
    rw [h0]; omega
  · show win5_4.index t (1 : Fin 2) * 256 + 1 * y.val = t.val % 8 * 256 + y.val
    rw [h1]; omega

theorem final5_4 {D : Data} (e0 : (W c main_v2_0 : S2048x5632.Idx → EReal) = arr D.da) (e1 : (W c main_arg1 : S1x2048x5632.Idx → EReal) = arr1 D.w1) (e2 : (W c main_v2_1 : S2048x5632.Idx → EReal) = arr D.db) (e3 : (W c main_arg2 : S1x2048x5632.Idx → EReal) = arr1 D.w3) :
    ((dat5 W c).arrAt 4 cfg5.N : S2048x2048.Idx → EReal) = arr D.dh := by
  refine (dat5 W c).arrAt_eq_of_cover 4 (arr D.dh) (fun t _ => ?_) (fun z => ?_)
  · show (cfg5.win 4).cut (grid5.coords t) ((dat5 W c).after 4 t) = _
    rw [after5_4, out5_4_eq]
    funext z
    obtain ⟨x, y, rfl⟩ := exists_ix2 (n0 := 512) (n1 := 256) z
    exact (Tile.dh x y _ _ _ _ (fun k => in5_0 W c e0 t x k) (fun k => in5_1 W c e1 t y k) (fun k => in5_2 W c e2 t x k) (fun k => in5_3 W c e3 t y k)).trans (at5_4 D.dh t x y).symm
  · have b0 : (z (0 : Fin 2)).val < 2048 := (z (0 : Fin 2)).isLt
    have b1 : (z (1 : Fin 2)).val < 2048 := (z (1 : Fin 2)).isLt
    have hN : (z (0 : Fin 2)).val / 512 * 8 + (z (1 : Fin 2)).val / 256 < cfg5.N := by
      rw [show cfg5.N = 32 from N_5]; omega
    refine ⟨⟨_, hN⟩, flush5_4 _, ?_⟩
    show z ∈ ((View.whole main_v5).slice (win5_4.rect ⟨_, hN⟩)).set
    rw [View.set_slice_whole, Rect.mem_set_unit]
    obtain ⟨i0, i1⟩ := idx5_4 ⟨_, hN⟩
    intro a
    match a with
    | ⟨0, _⟩ =>
      show win5_4.index ⟨_, hN⟩ (0 : Fin 2) * 512 ≤ (z (0 : Fin 2)).val ∧ (z (0 : Fin 2)).val < win5_4.index ⟨_, hN⟩ (0 : Fin 2) * 512 + 512
      rw [i0]; dsimp only; omega
    | ⟨1, _⟩ =>
      show win5_4.index ⟨_, hN⟩ (1 : Fin 2) * 256 ≤ (z (1 : Fin 2)).val ∧ (z (1 : Fin 2)).val < win5_4.index ⟨_, hN⟩ (1 : Fin 2) * 256 + 256
      rw [i1]; dsimp only; omega

end Region5

end Cert.Ffn

end
-- ==== Proof.FfnRun.lean ====
/- The run of the feed-forward's six kernels, and what its five result arrays hold when the arguments are real. -/
module

public import proofs.«01_k».proof.Proof.FfnForward
public import proofs.«01_k».proof.Proof.FfnGate
public import proofs.«01_k».proof.Proof.FfnWeights
public import proofs.«01_k».proof.Proof.FfnInput

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

local notation "𝕄" => MT nD τ sig Unit (Elt Ideal) ℕ (UR sig nD τ) ℕ
variable (m : (ℓ : Loc nD τ sig) → Buf (Elt Ideal) ℓ) (ρ : Dev nD → PrngReg)

set_option backward.isDefEq.respectTransparency.types false in
/-- The run, with each result array as the last kernel leaves it. -/
theorem run : θ_run defs (onTc (τ := τ) (main (F := Ideal))) ⟨m, fun _ => 0, ρ⟩ (fun r => ∀ c : Dev nD,
      r.2.mem ((c.tc : Thread nD τ).loc main_v1) = W6 m ρ c (Proc.devRef .tc main_v1)
      ∧ r.2.mem ((c.tc : Thread nD τ).loc main_v5) = W6 m ρ c (Proc.devRef .tc main_v5)
      ∧ r.2.mem ((c.tc : Thread nD τ).loc main_v4_0) = W6 m ρ c (Proc.devRef .tc main_v4_0)
      ∧ r.2.mem ((c.tc : Thread nD τ).loc main_v4_1) = W6 m ρ c (Proc.devRef .tc main_v4_1)
      ∧ r.2.mem ((c.tc : Thread nD τ).loc main_v3) = W6 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v1 (by decide)),
       h c _ (mem_uc main_v5 (by decide)),
       h c _ (mem_uc main_v4_0 (by decide)),
       h c _ (mem_uc main_v4_1 (by decide)),
       h c _ (mem_uc main_v3 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

/-! ### What the arrays hold, kernel by kernel -/

/-- The argument arrays hold the real numbers of `D`. -/
structure Holds (D : Data) (x0 : S2048x2048.Idx → EReal) (x1 x2 : S1x2048x5632.Idx → EReal) (x3 : S1x5632x2048.Idx → EReal)
    (x4 : S2048x2048.Idx → EReal) : Prop where
  h : x0 = arr D.h
  w1 : x1 = arr1 D.w1
  w3 : x2 = arr1 D.w3
  w2 : x3 = arr1 D.w2
  g : x4 = arr D.g

variable (c : Dev nD) {D : Data}
  (H : Holds D (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)))

include H

theorem a_1 : (W1 m ρ c (Proc.devRef .tc main_v0_0) : S2048x5632.Idx → EReal) = arr D.a :=
  (W1_arr m ρ c 4).trans (final0_4 (V0 m ρ) c H.h H.w1)

theorem b_1 : (W1 m ρ c (Proc.devRef .tc main_v0_1) : S2048x5632.Idx → EReal) = arr D.b :=
  (W1_arr m ρ c 5).trans (final0_5 (V0 m ρ) c H.h H.w3)

theorem u_1 : (W1 m ρ c (Proc.devRef .tc main_v0_2) : S2048x5632.Idx → EReal) = arr D.u :=
  (W1_arr m ρ c 6).trans (final0_6 (V0 m ρ) c H.h H.w1 H.h H.w3)

theorem y_2 : (W2 m ρ c (Proc.devRef .tc main_v1) : S2048x2048.Idx → EReal) = arr D.y :=
  (W2_arr m ρ c 2).trans (final1_2 (V1 m ρ) c (u_1 m ρ c H) ((W1_args m ρ c main_arg3 (by decide)).trans H.w2))

theorem a_2 : (W2 m ρ c (Proc.devRef .tc main_v0_0) : S2048x5632.Idx → EReal) = arr D.a :=
  (W2_of m ρ c main_v0_0 (by decide)).trans (a_1 m ρ c H)

theorem b_2 : (W2 m ρ c (Proc.devRef .tc main_v0_1) : S2048x5632.Idx → EReal) = arr D.b :=
  (W2_of m ρ c main_v0_1 (by decide)).trans (b_1 m ρ c H)

theorem u_2 : (W2 m ρ c (Proc.devRef .tc main_v0_2) : S2048x5632.Idx → EReal) = arr D.u :=
  (W2_of m ρ c main_v0_2 (by decide)).trans (u_1 m ρ c H)

theorem da_3 : (W3 m ρ c (Proc.devRef .tc main_v2_0) : S2048x5632.Idx → EReal) = arr D.da :=
  (W3_arr m ρ c 4).trans (final2_4 (V2 m ρ) c ((W2_args m ρ c main_arg4 (by decide)).trans H.g) ((W2_args m ρ c main_arg3 (by decide)).trans H.w2) (a_2 m ρ c H) (b_2 m ρ c H))

theorem db_3 : (W3 m ρ c (Proc.devRef .tc main_v2_1) : S2048x5632.Idx → EReal) = arr D.db :=
  (W3_arr m ρ c 5).trans (final2_5 (V2 m ρ) c ((W2_args m ρ c main_arg4 (by decide)).trans H.g) ((W2_args m ρ c main_arg3 (by decide)).trans H.w2) (a_2 m ρ c H))

theorem u_3 : (W3 m ρ c (Proc.devRef .tc main_v0_2) : S2048x5632.Idx → EReal) = arr D.u :=
  (W3_of m ρ c main_v0_2 (by decide)).trans (u_2 m ρ c H)

theorem y_3 : (W3 m ρ c (Proc.devRef .tc main_v1) : S2048x2048.Idx → EReal) = arr D.y :=
  (W3_of m ρ c main_v1 (by decide)).trans (y_2 m ρ c H)

theorem dw2_4 : (W4 m ρ c (Proc.devRef .tc main_v3) : S5632x2048.Idx → EReal) = arr D.dw2 :=
  (W4_arr m ρ c 2).trans (final3_2 (V3 m ρ) c (u_3 m ρ c H) ((W3_args m ρ c main_arg4 (by decide)).trans H.g))

theorem da_4 : (W4 m ρ c (Proc.devRef .tc main_v2_0) : S2048x5632.Idx → EReal) = arr D.da :=
  (W4_of m ρ c main_v2_0 (by decide)).trans (da_3 m ρ c H)

theorem db_4 : (W4 m ρ c (Proc.devRef .tc main_v2_1) : S2048x5632.Idx → EReal) = arr D.db :=
  (W4_of m ρ c main_v2_1 (by decide)).trans (db_3 m ρ c H)

theorem y_4 : (W4 m ρ c (Proc.devRef .tc main_v1) : S2048x2048.Idx → EReal) = arr D.y :=
  (W4_of m ρ c main_v1 (by decide)).trans (y_3 m ρ c H)

theorem dw1_5 : (W5 m ρ c (Proc.devRef .tc main_v4_0) : S2048x5632.Idx → EReal) = arr D.dw1 :=
  (W5_arr m ρ c 4).trans (final4_4 (V4 m ρ) c ((W4_args m ρ c main_arg0 (by decide)).trans H.h) (da_4 m ρ c H))

theorem dw3_5 : (W5 m ρ c (Proc.devRef .tc main_v4_1) : S2048x5632.Idx → EReal) = arr D.dw3 :=
  (W5_arr m ρ c 5).trans (final4_5 (V4 m ρ) c ((W4_args m ρ c main_arg0 (by decide)).trans H.h) (db_4 m ρ c H))

theorem da_5 : (W5 m ρ c (Proc.devRef .tc main_v2_0) : S2048x5632.Idx → EReal) = arr D.da :=
  (W5_of m ρ c main_v2_0 (by decide)).trans (da_4 m ρ c H)

theorem db_5 : (W5 m ρ c (Proc.devRef .tc main_v2_1) : S2048x5632.Idx → EReal) = arr D.db :=
  (W5_of m ρ c main_v2_1 (by decide)).trans (db_4 m ρ c H)

theorem y_5 : (W5 m ρ c (Proc.devRef .tc main_v1) : S2048x2048.Idx → EReal) = arr D.y :=
  (W5_of m ρ c main_v1 (by decide)).trans (y_4 m ρ c H)

theorem dw2_5 : (W5 m ρ c (Proc.devRef .tc main_v3) : S5632x2048.Idx → EReal) = arr D.dw2 :=
  (W5_of m ρ c main_v3 (by decide)).trans (dw2_4 m ρ c H)

theorem dh_6 : (W6 m ρ c (Proc.devRef .tc main_v5) : S2048x2048.Idx → EReal) = arr D.dh :=
  (W6_arr m ρ c 4).trans (final5_4 (V5 m ρ) c (da_5 m ρ c H) ((W5_args m ρ c main_arg1 (by decide)).trans H.w1) (db_5 m ρ c H) ((W5_args m ρ c main_arg2 (by decide)).trans H.w3))

theorem y_6 : (W6 m ρ c (Proc.devRef .tc main_v1) : S2048x2048.Idx → EReal) = arr D.y :=
  (W6_of m ρ c main_v1 (by decide)).trans (y_5 m ρ c H)

theorem dw1_6 : (W6 m ρ c (Proc.devRef .tc main_v4_0) : S2048x5632.Idx → EReal) = arr D.dw1 :=
  (W6_of m ρ c main_v4_0 (by decide)).trans (dw1_5 m ρ c H)

theorem dw3_6 : (W6 m ρ c (Proc.devRef .tc main_v4_1) : S2048x5632.Idx → EReal) = arr D.dw3 :=
  (W6_of m ρ c main_v4_1 (by decide)).trans (dw3_5 m ρ c H)

theorem dw2_6 : (W6 m ρ c (Proc.devRef .tc main_v3) : S5632x2048.Idx → EReal) = arr D.dw2 :=
  (W6_of m ρ c main_v3 (by decide)).trans (dw2_5 m ρ c H)

end Cert.Ffn

end
-- ==== Proof.FfnFinite.lean ====
/- What finite arguments of the feed-forward layer hold. -/
module

public import proofs.«01_k».proof.Proof.FfnRun
public import proofs.«01_k».proof.Proof.Finite
public import proofs.«01_k».proof.Proof.Gen.Pre_finite2

@[expose] public section

noncomputable section

namespace Cert.Ffn

open Idealize.ShloMosaic hiding ix1 ix2 ix3 ix4
open Idealize.ShloMosaic.TcCoe Idealize.ShloMosaic.ValueIdx
open Cert.Kernel2Ideal
open Cert.Fox (and_one abs_of_cmp)

instance : Subsingleton Cert.Pre_finite2.S_.Idx := ⟨fun a b => funext fun x => Fin.elim0 x⟩

variable (x0 x4 : FVec Ideal S2048x2048 .bf16) (x1 x2 : FVec Ideal S1x2048x5632 .bf16) (x3 : FVec Ideal S1x5632x2048 .bf16)

theorem finite_args (h : Cert.Pre_finite2.fn (F := Ideal) x0 x1 x2 x3 x4 = fun _ => 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ ∀ i, x4 i = ((x4 i).toReal : EReal) := by
  have e := congrFun h (fun a => Fin.elim0 a)
  obtain ⟨e0123, e4⟩ := and_one e
  obtain ⟨e012, e3⟩ := and_one e0123
  obtain ⟨e01, e2⟩ := and_one e012
  obtain ⟨e0, e1⟩ := and_one e01
  exact ⟨fun i => abs_of_cmp (x0 i) (Host.reduce_andi_all _ _ _ _ _ e0 i), fun i => abs_of_cmp (x1 i) (Host.reduce_andi_all _ _ _ _ _ e1 i),
    fun i => abs_of_cmp (x2 i) (Host.reduce_andi_all _ _ _ _ _ e2 i), fun i => abs_of_cmp (x3 i) (Host.reduce_andi_all _ _ _ _ _ e3 i),
    fun i => abs_of_cmp (x4 i) (Host.reduce_andi_all _ _ _ _ _ e4 i)⟩

/-- The numbers the arguments hold. -/
def dataOf : Data where
  h := fun i k => (x0 (ix2 i k)).toReal
  w1 := fun k f => (x1 (ix3 0 k f)).toReal
  w3 := fun k f => (x2 (ix3 0 k f)).toReal
  w2 := fun f d => (x3 (ix3 0 f d)).toReal
  g := fun i d => (x4 (ix2 i d)).toReal

theorem arr_of {n0 n1 : Nat} (x : (⟨2, ![n0, n1]⟩ : Shape).Idx → EReal) (e : ∀ i, x i = ((x i).toReal : EReal)) :
    x = arr fun (a : Fin n0) (b : Fin n1) => (x (ix2 a b)).toReal := by
  funext z
  obtain ⟨a, b, rfl⟩ := exists_ix2 z
  exact e _

theorem arr1_of {n0 n1 : Nat} (x : (⟨3, ![1, n0, n1]⟩ : Shape).Idx → EReal) (e : ∀ i, x i = ((x i).toReal : EReal)) :
    x = arr1 fun (a : Fin n0) (b : Fin n1) => (x (ix3 0 a b)).toReal := by
  funext z
  have hz : z = ix3 0 (z 1) (z 2) := funext fun t => by
    match t with
    | ⟨0, _⟩ => exact Subsingleton.elim (α := Fin 1) _ _
    | ⟨1, _⟩ => rfl
    | ⟨2, _⟩ => rfl
  rw [hz]
  exact e _

theorem holds_dataOf (h : Cert.Pre_finite2.fn (F := Ideal) x0 x1 x2 x3 x4 = fun _ => 1#1) :
    Holds (dataOf x0 x4 x1 x2 x3) x0 x1 x2 x3 x4 := by
  obtain ⟨e0, e1, e2, e3, e4⟩ := finite_args x0 x4 x1 x2 x3 h
  exact { h := arr_of x0 e0, w1 := arr1_of x1 e1, w3 := arr1_of x2 e2, w2 := arr1_of x3 e3, g := arr_of x4 e4 }

end Cert.Ffn

end
-- ==== Proof.FfnAgree.lean ====
/- The feed-forward reference's five results, over arguments that hold real numbers. -/
module

public import proofs.«01_k».proof.Proof.FfnReference
public import proofs.«01_k».proof.Proof.FfnFinite

@[expose] public section

noncomputable section

namespace Cert.Ffn.Ref

open Idealize.ShloMosaic Cert.Reference2Ideal Cert.Reference2Ideal.Read

variable {D : Data} {x0 x4 : S2048x2048.Idx → EReal} {x1 x2 : S1x2048x5632.Idx → EReal} {x3 : S1x5632x2048.Idx → EReal}

theorem y_of (H : Holds D x0 x1 x2 x3 x4) : val_main_v12 (F := Ideal) x0 x1 x2 x3 = arr D.y := by
  obtain ⟨rfl, rfl, rfl, rfl, -⟩ := H
  exact y D

theorem dh_of (H : Holds D x0 x1 x2 x3 x4) : val_main_v25 (F := Ideal) x0 x1 x2 x3 x4 = arr D.dh := by
  obtain ⟨rfl, rfl, rfl, rfl, rfl⟩ := H
  exact dh D

theorem dw1_of (H : Holds D x0 x1 x2 x3 x4) : val_main_v26 (F := Ideal) x0 x1 x2 x3 x4 = arr D.dw1 := by
  obtain ⟨rfl, rfl, rfl, rfl, rfl⟩ := H
  exact dw1 D

theorem dw3_of (H : Holds D x0 x1 x2 x3 x4) : val_main_v27 (F := Ideal) x0 x1 x3 x4 = arr D.dw3 := by
  obtain ⟨rfl, rfl, -, rfl, rfl⟩ := H
  exact dw3 D

theorem dw2_of (H : Holds D x0 x1 x2 x3 x4) : val_main_v28 (F := Ideal) x0 x1 x2 x4 = arr D.dw2 := by
  obtain ⟨rfl, rfl, rfl, -, rfl⟩ := H
  exact dw2 D

end Cert.Ffn.Ref

namespace Cert.Ffn

open Idealize.ShloMosaic Idealize.ShloMosaic.TcCoe Cert.Reference2Ideal.Read

/-! ### The two programs' results, from equal arguments -/

section Same

variable (m : (ℓ : Loc Cert.Kernel2Ideal.nD Cert.Kernel2Ideal.τ Cert.Kernel2Ideal.sig) → Buf (Elt Ideal) ℓ) (g : Dev Cert.Kernel2Ideal.nD → PrngReg)
  (m' : (ℓ : Loc Cert.Reference2Ideal.nD Cert.Reference2Ideal.τ Cert.Reference2Ideal.sig) → Buf (Elt Ideal) ℓ) (c : Dev Cert.Kernel2Ideal.nD) {D : Data}
  (a0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
  (a1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
  (a2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
  (a3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
  (a4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
  (H : Holds D (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)))

include a0 a1 a2 a3 a4 H

theorem reads : Holds D (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) := by
  rw [a0, a1, a2, a3, a4]
  exact H

theorem same_y : val_main_v12 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3))
    = Cert.Kernel2Ideal.Gen.W6 m g c (Proc.devRef .tc Cert.Kernel2Ideal.main_v1) :=
  (Ref.y_of (reads m m' c a0 a1 a2 a3 a4 H)).trans (y_6 m g c H).symm

theorem same_dh : val_main_v25 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
    = Cert.Kernel2Ideal.Gen.W6 m g c (Proc.devRef .tc Cert.Kernel2Ideal.main_v5) :=
  (Ref.dh_of (reads m m' c a0 a1 a2 a3 a4 H)).trans (dh_6 m g c H).symm

theorem same_dw1 : val_main_v26 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
    = Cert.Kernel2Ideal.Gen.W6 m g c (Proc.devRef .tc Cert.Kernel2Ideal.main_v4_0) :=
  (Ref.dw1_of (reads m m' c a0 a1 a2 a3 a4 H)).trans (dw1_6 m g c H).symm

theorem same_dw3 : val_main_v27 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))
    = Cert.Kernel2Ideal.Gen.W6 m g c (Proc.devRef .tc Cert.Kernel2Ideal.main_v4_1) :=
  (Ref.dw3_of (reads m m' c a0 a1 a2 a3 a4 H)).trans (dw3_6 m g c H).symm

theorem same_dw2 : val_main_v28 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg4))
    = Cert.Kernel2Ideal.Gen.W6 m g c (Proc.devRef .tc Cert.Kernel2Ideal.main_v3) :=
  (Ref.dw2_of (reads m m' c a0 a1 a2 a3 a4 H)).trans (dw2_6 m g c H).symm

end Same

end Cert.Ffn

end
-- ==== Proof.ProjSpec.lean ====
/- A projection and its gradients, as sums of products of extended reals. -/
module

public import Idealize.ShloMosaic.Lib.ValueIdx

@[expose] public section

noncomputable section

namespace Cert.Proj

open Idealize.ShloMosaic Idealize.ShloMosaic.ValueIdx

/-- The arguments: the hidden rows, the weight of the projection in and the gradient of what it gives; the heads' outputs,
    the weight of the projection out and the gradient of what it gives. -/
structure Data where
  h : Fin 2048 → Fin 2048 → EReal
  wi : Fin 2048 → Fin 6272 → EReal
  g : Fin 2048 → Fin 6272 → EReal
  o : Fin 2048 → Fin 2048 → EReal
  wo : Fin 2048 → Fin 2048 → EReal
  dy : Fin 2048 → Fin 2048 → EReal

namespace Data

variable (D : Data)

/-- The projection out. -/
def y (i j : Fin 2048) : EReal := ∑ k, D.o i k * D.wo k j
/-- The gradient of the heads' outputs. -/
def go (i k : Fin 2048) : EReal := ∑ j, D.dy i j * D.wo k j
/-- The gradient of the weight of the projection out. -/
def dwo (k j : Fin 2048) : EReal := ∑ i, D.o i k * D.dy i j
/-- The gradient of the weight of the projection in. -/
def dwi (k : Fin 2048) (j : Fin 6272) : EReal := ∑ i, D.h i k * D.g i j
/-- The gradient of the hidden rows. -/
def dh (i k : Fin 2048) : EReal := ∑ j, D.g i j * D.wi k j

end Data

/-- A matrix as an array. -/
def mat {n0 n1 : Nat} (f : Fin n0 → Fin n1 → EReal) : (⟨2, ![n0, n1]⟩ : Shape).Idx → EReal := fun z => f (z 0) (z 1)

/-- A matrix as an array with a leading axis of one. -/
def mat1 {n0 n1 : Nat} (f : Fin n0 → Fin n1 → EReal) : (⟨3, ![1, n0, n1]⟩ : Shape).Idx → EReal := fun z => f (z 1) (z 2)

theorem mat_at {n0 n1 : Nat} (f : Fin n0 → Fin n1 → EReal) (j : (⟨2, ![n0, n1]⟩ : Shape).Idx) (a : Fin n0) (b : Fin n1)
    (h0 : (j 0).val = a.val) (h1 : (j 1).val = b.val) : mat f j = f a b :=
  congrArg₂ f (Fin.ext h0) (Fin.ext h1)

theorem mat1_at {n0 n1 : Nat} (f : Fin n0 → Fin n1 → EReal) (j : (⟨3, ![1, n0, n1]⟩ : Shape).Idx) (a : Fin n0) (b : Fin n1)
    (h1 : (j 1).val = a.val) (h2 : (j 2).val = b.val) : mat1 f j = f a b :=
  congrArg₂ f (Fin.ext h1) (Fin.ext h2)

theorem exists_pair {n0 n1 : Nat} (z : (⟨2, ![n0, n1]⟩ : Shape).Idx) : ∃ (a : Fin n0) (b : Fin n1), z = ix2 a b :=
  ⟨z 0, z 1, funext fun x => by match x with | ⟨0, _⟩ => rfl | ⟨1, _⟩ => rfl⟩

/-- Every array is a matrix. -/
theorem eq_mat {n0 n1 : Nat} (x : (⟨2, ![n0, n1]⟩ : Shape).Idx → EReal) : x = mat fun a b => x (ix2 a b) := by
  funext z
  obtain ⟨a, b, rfl⟩ := exists_pair z
  rfl

/-- Every array with a leading axis of one is a matrix. -/
theorem eq_mat1 {n0 n1 : Nat} (x : (⟨3, ![1, n0, n1]⟩ : Shape).Idx → EReal) : x = mat1 fun a b => x (ix3 0 a b) := by
  funext z
  refine congrArg x (funext fun d => ?_)
  match d with
  | ⟨0, _⟩ => exact Fin.ext (Nat.lt_one_iff.mp (show (z 0).val < 1 from (z 0).isLt))
  | ⟨1, _⟩ => rfl
  | ⟨2, _⟩ => rfl

/-- Place `x` of block `b`, of blocks of `B`. -/
abbrev place {n : Nat} (B b : Nat) (x : Fin B) (h : b * B + B ≤ n) : Fin n :=
  ⟨b * B + x.val, lt_of_lt_of_le (Nat.add_lt_add_left x.isLt _) h⟩

theorem start2 : (![0, 0] : Fin 2 → Nat) = fun _ => 0 := funext fun a => by match a with | ⟨0, _⟩ => rfl | ⟨1, _⟩ => rfl

theorem start3 : (![0, 0, 0] : Fin 3 → Nat) = fun _ => 0 :=
  funext fun a => by match a with | ⟨0, _⟩ => rfl | ⟨1, _⟩ => rfl | ⟨2, _⟩ => rfl

end Cert.Proj

end
-- ==== Proof.ProjReference.lean ====
/- What the projections' reference computes. -/
module

public import proofs.«01_k».proof.Proof.ProjSpec
public import proofs.«01_k».proof.Proof.Gen.Reference3Ideal.Read
public import Idealize.ShloMosaic.Lib.IdealHost

@[expose] public section

noncomputable section

namespace Cert.Proj.Ref

open Idealize.ShloMosaic Idealize.ShloMosaic.ValueIdx Cert.Reference3Ideal Cert.Reference3Ideal.Read

variable (D : Data)

/-! ### The arguments -/

theorem v2 (i k : Fin 2048) : val_main_v2 (F := Ideal) (mat D.h) (ix2 i k) = D.h i k := rfl

theorem v4 (i : Fin 2048) (j : Fin 6272) : val_main_v4 (F := Ideal) (mat D.g) (ix2 i j) = D.g i j := rfl

theorem v5 (i k : Fin 2048) : val_main_v5 (F := Ideal) (mat D.o) (ix2 i k) = D.o i k := rfl

theorem v7 (i j : Fin 2048) : val_main_v7 (F := Ideal) (mat D.dy) (ix2 i j) = D.dy i j := rfl

theorem v3 (k : Fin 2048) (j : Fin 6272) : val_main_v3 (F := Ideal) (mat1 D.wi) (ix2 k j) = D.wi k j := by
  rw [val_main_v3_apply, val_main_v0_apply, Ideal.extf_def]
  exact mat1_at D.wi _ k j (by show (k.val * 6272 + j.val) / 6272 % 2048 = k.val; omega) (by show (k.val * 6272 + j.val) % 6272 = j.val; omega)

theorem v6 (k j : Fin 2048) : val_main_v6 (F := Ideal) (mat1 D.wo) (ix2 k j) = D.wo k j := by
  rw [val_main_v6_apply, val_main_v1_apply, Ideal.extf_def]
  exact mat1_at D.wo _ k j (by show (k.val * 2048 + j.val) / 2048 % 2048 = k.val; omega) (by show (k.val * 2048 + j.val) % 2048 = j.val; omega)

/-! ### The five results -/

theorem y : val_main_v9 (F := Ideal) (mat D.o) (mat1 D.wo) = mat D.y := by
  funext z
  obtain ⟨i, j, rfl⟩ := exists_pair z
  rw [val_main_v9_apply]
  show _ = D.y i j
  rw [Data.y]
  refine Finset.sum_congr rfl fun k _ => ?_
  rw [← v5, ← v6]; rfl

theorem go : val_main_v16 (F := Ideal) (mat1 D.wo) (mat D.dy) = mat D.go := by
  funext z
  obtain ⟨i, k, rfl⟩ := exists_pair z
  rw [val_main_v16_apply, Ideal.truncf_def, val_main_v15_apply]
  show _ = D.go i k
  rw [Data.go]
  refine Finset.sum_congr rfl fun j _ => ?_
  rw [← v7, ← v6]; rfl

theorem v13 (j k : Fin 2048) : val_main_v13 (F := Ideal) (mat D.o) (mat D.dy) (ix2 j k) = D.dwo k j := by
  rw [val_main_v13_apply, Data.dwo]
  refine Finset.sum_congr rfl fun i _ => ?_
  rw [mul_comm (D.o i k), ← v5, ← v7]; rfl

theorem dwo : val_main_v17 (F := Ideal) (mat D.o) (mat D.dy) = mat D.dwo := by
  funext z
  obtain ⟨k, j, rfl⟩ := exists_pair z
  rw [val_main_v17_apply, val_main_v14_apply, Ideal.truncf_def,
    show idx_main_v14 (ix2 k j) = ix2 j k from funext fun x => by match x with | ⟨0, _⟩ => rfl | ⟨1, _⟩ => rfl, v13 D j k]
  rfl

theorem v10 (j : Fin 6272) (k : Fin 2048) : val_main_v10 (F := Ideal) (mat D.h) (mat D.g) (ix2 j k) = D.dwi k j := by
  rw [val_main_v10_apply, Data.dwi]
  refine Finset.sum_congr rfl fun i _ => ?_
  rw [mul_comm (D.h i k), ← v2, ← v4]; rfl

theorem dwi : val_main_v18 (F := Ideal) (mat D.h) (mat D.g) = mat D.dwi := by
  funext z
  obtain ⟨k, j, rfl⟩ := exists_pair z
  rw [val_main_v18_apply, val_main_v11_apply, Ideal.truncf_def,
    show idx_main_v11 (ix2 k j) = ix2 j k from funext fun x => by match x with | ⟨0, _⟩ => rfl | ⟨1, _⟩ => rfl, v10 D j k]
  rfl

theorem dh : val_main_v12 (F := Ideal) (mat1 D.wi) (mat D.g) = mat D.dh := by
  funext z
  obtain ⟨i, k, rfl⟩ := exists_pair z
  rw [val_main_v12_apply]
  show _ = D.dh i k
  rw [Data.dh]
  refine Finset.sum_congr rfl fun j _ => ?_
  rw [← v4, ← v3]; rfl

end Cert.Proj.Ref

end
-- ==== Proof.ProjTile.lean ====
/- What each projection kernel computes at one grid point, at an index. -/
module

public import proofs.«01_k».proof.Proof.ProjSpec
public import proofs.«01_k».proof.Proof.Gen.Kernel3Ideal.Skeleton
public import Idealize.ShloMosaic.Lib.Pointwise
public import Idealize.ShloMosaic.Lib.Pipeline.Value

@[expose] public section

noncomputable section

namespace Cert.Proj.Tile

open Idealize.ShloMosaic hiding ix1 ix2 ix3 ix4
open Idealize.ShloMosaic.TcCoe Idealize.ShloMosaic.ValueIdx
open Cert.Kernel3Ideal Cert.Kernel3Ideal.Gen

/-- A sum of products, factor by factor. -/
theorem sum_of {n : Nat} {x y A B : Fin n → EReal} (hx : ∀ k, x k = A k) (hy : ∀ k, y k = B k) :
    ∑ k, x k * y k = ∑ k, A k * B k := Finset.sum_congr rfl fun k _ => by rw [hx, hy]

theorem out {A B : Fin 2048 → EReal} (x : Fin 512) (y : Fin 512) (v0 : Vec Ideal S512x2048 .bf16) (v1 : Vec Ideal S1x2048x512 .bf16)
    (h0 : ∀ k, v0 (ix2 x k) = A k) (h1 : ∀ k, v1 (ix3 0 k y) = B k) :
    k0_pay1 (F := Ideal) v0 v1 (ix2 x y) = ∑ k, A k * B k := by
  rw [← sum_of h0 h1]
  unfold k0_pay1
  pointwise
  rfl

theorem go {A B : Fin 2048 → EReal} (x : Fin 512) (y : Fin 512) (v0 : Vec Ideal S512x2048 .bf16) (v1 : Vec Ideal S1x512x2048 .bf16)
    (h0 : ∀ k, v0 (ix2 x k) = A k) (h1 : ∀ k, v1 (ix3 0 y k) = B k) :
    k1_pay1 (F := Ideal) v0 v1 (ix2 x y) = ∑ k, A k * B k := by
  rw [← sum_of h0 h1]
  unfold k1_pay1
  pointwise
  rfl

theorem dwo {A B : Fin 2048 → EReal} (x : Fin 512) (y : Fin 512) (v0 : Vec Ideal S2048x512 .bf16) (v1 : Vec Ideal S2048x512 .bf16)
    (h0 : ∀ k, v0 (ix2 k x) = A k) (h1 : ∀ k, v1 (ix2 k y) = B k) :
    k2_pay1 (F := Ideal) v0 v1 (ix2 x y) = ∑ k, A k * B k := by
  rw [← sum_of h0 h1]
  unfold k2_pay1
  pointwise
  rfl

theorem dwi {A B : Fin 2048 → EReal} (x : Fin 512) (y : Fin 896) (v0 : Vec Ideal S2048x512 .bf16) (v1 : Vec Ideal S2048x896 .bf16)
    (h0 : ∀ k, v0 (ix2 k x) = A k) (h1 : ∀ k, v1 (ix2 k y) = B k) :
    k3_pay1 (F := Ideal) v0 v1 (ix2 x y) = ∑ k, A k * B k := by
  rw [← sum_of h0 h1]
  unfold k3_pay1
  pointwise
  rfl

theorem dh {A B : Fin 6272 → EReal} (x : Fin 512) (y : Fin 256) (v0 : Vec Ideal S512x6272 .bf16) (v1 : Vec Ideal S1x256x6272 .bf16)
    (h0 : ∀ k, v0 (ix2 x k) = A k) (h1 : ∀ k, v1 (ix3 0 y k) = B k) :
    k4_pay1 (F := Ideal) v0 v1 (ix2 x y) = ∑ k, A k * B k := by
  rw [← sum_of h0 h1]
  unfold k4_pay1
  pointwise
  rfl

end Cert.Proj.Tile

end
-- ==== Proof.ProjCalls.lean ====
/- The arrays the five projection kernels leave, whatever they start from. -/
module

public import proofs.«01_k».proof.Proof.ProjTile
public import proofs.«01_k».proof.Proof.Gen.Kernel3Ideal.Frame

@[expose] public section

noncomputable section

namespace Cert.Proj

open Idealize.ShloMosaic hiding ix1 ix2 ix3 ix4
open Idealize.ShloMosaic.TcCoe Idealize.ShloMosaic.ValueIdx
open Idealize.ShloMosaic.Pipeline (Dat)
open Cert.Kernel3Ideal Cert.Kernel3Ideal.Gen

variable (W : (c : Dev nD) → (b : Ref sig .tc) → Buf (Elt Ideal) ((c : Thread nD τ).loc b)) (c : Dev nD)

/-! ### The projection out -/

section Region0

theorem lt0 (t : Fin cfg0.N) : t.val < 16 := lt_of_lt_of_eq t.isLt (show cfg0.N = 16 from N_0)

theorem idx0_0 : ∀ t : Fin cfg0.N, win0_0.index t (0 : Fin 2) = t.val / 4 ∧ win0_0.index t (1 : Fin 2) = 0 :=
  (by decide +kernel : ∀ t : Fin grid0.N, _)

theorem idx0_1 : ∀ t : Fin cfg0.N, win0_1.index t (0 : Fin 3) = 0 ∧ win0_1.index t (1 : Fin 3) = 0 ∧ win0_1.index t (2 : Fin 3) = t.val % 4 :=
  (by decide +kernel : ∀ t : Fin grid0.N, _)

theorem idx0_2 : ∀ t : Fin cfg0.N, win0_2.index t (0 : Fin 2) = t.val / 4 ∧ win0_2.index t (1 : Fin 2) = t.val % 4 :=
  (by decide +kernel : ∀ t : Fin grid0.N, _)

theorem in0_0 {f : Fin 2048 → Fin 2048 → EReal} (e : (W c main_arg3 : S2048x2048.Idx → EReal) = mat f) (t : Fin cfg0.N) (x : Fin 512) (y : Fin 2048) :
    (iblk0 W c 0 t : Vec Ideal S512x2048 .bf16) (ix2 x y) = f (place 512 (t.val / 4) x (by have := lt0 t; omega) : Fin 2048) y := by
  obtain ⟨h0, h1⟩ := idx0_0 t
  have r : (iblk0 W c 0 t : Vec Ideal S512x2048 .bf16) (ix2 x y) = (W c main_arg3 : S2048x2048.Idx → EReal) (((cfg0.win 0).blk t).view.emb (ix2 x y : S512x2048.Idx)) := rfl
  refine r.trans ((congrFun e _).trans (mat_at f _ _ _ ?_ ?_))
  · show win0_0.index t (0 : Fin 2) * 512 + 1 * x.val = t.val / 4 * 512 + x.val
    rw [h0]; omega
  · show win0_0.index t (1 : Fin 2) * 2048 + 1 * y.val = y.val
    rw [h1]; omega

theorem in0_1 {f : Fin 2048 → Fin 2048 → EReal} (e : (W c main_arg4 : S1x2048x2048.Idx → EReal) = mat1 f) (t : Fin cfg0.N) (x : Fin 2048) (y : Fin 512) :
    (iblk0 W c 1 t : Vec Ideal S1x2048x512 .bf16) (ix3 0 x y) = f x (place 512 (t.val % 4) y (by have := lt0 t; omega) : Fin 2048) := by
  obtain ⟨-, h1, h2⟩ := idx0_1 t
  have r : (iblk0 W c 1 t : Vec Ideal S1x2048x512 .bf16) (ix3 0 x y) = (W c main_arg4 : S1x2048x2048.Idx → EReal) (((cfg0.win 1).blk t).view.emb (ix3 0 x y : S1x2048x512.Idx)) := rfl
  refine r.trans ((congrFun e _).trans (mat1_at f _ _ _ ?_ ?_))
  · show win0_1.index t (1 : Fin 3) * 2048 + 1 * x.val = x.val
    rw [h1]; omega
  · show win0_1.index t (2 : Fin 3) * 512 + 1 * y.val = t.val % 4 * 512 + y.val
    rw [h2]; omega

theorem out0_eq (x0 : Vec Ideal S512x2048 .bf16) (x1 : Vec Ideal S1x2048x512 .bf16) :
    out0_2 (F := Ideal) x0 x1 = k0_pay1 (F := Ideal) x0 x1 := by
  unfold out0_2
  rw [View.canon_unit_zero start2, View.ld_unit_zero (S := S512x2048) start2 _ x0, View.ld_unit_zero (S := S1x2048x512) start3 _ x1]

theorem at0 (f : Fin 2048 → Fin 2048 → EReal) (t : Fin cfg0.N) (x : Fin 512) (y : Fin 512) :
    ((cfg0.win 2).blk t).view.read (Elt Ideal) (mat f) (ix2 x y : S512x512.Idx) = f (place 512 (t.val / 4) x (by have := lt0 t; omega) : Fin 2048) (place 512 (t.val % 4) y (by have := lt0 t; omega) : Fin 2048) := by
  obtain ⟨h0, h1⟩ := idx0_2 t
  refine mat_at f _ _ _ ?_ ?_
  · show win0_2.index t (0 : Fin 2) * 512 + 1 * x.val = t.val / 4 * 512 + x.val
    rw [h0]; omega
  · show win0_2.index t (1 : Fin 2) * 512 + 1 * y.val = t.val % 4 * 512 + y.val
    rw [h1]; omega

theorem final0 {D : Data} (e0 : (W c main_arg3 : S2048x2048.Idx → EReal) = mat D.o) (e1 : (W c main_arg4 : S1x2048x2048.Idx → EReal) = mat1 D.wo) :
    ((dat0 W c).arrAt 2 cfg0.N : S2048x2048.Idx → EReal) = mat D.y := by
  refine (dat0 W c).arrAt_eq_of_cover 2 (mat D.y) (fun t _ => ?_) (fun z => ?_)
  · show (cfg0.win 2).cut (grid0.coords t) ((dat0 W c).after 2 t) = _
    rw [after0_2, out0_eq]
    funext z
    obtain ⟨x, y, rfl⟩ := exists_pair (n0 := 512) (n1 := 512) z
    exact (Tile.out x y _ _ (fun k => in0_0 W c e0 t x k) (fun k => in0_1 W c e1 t k y)).trans (at0 D.y t x y).symm
  · have b0 : (z (0 : Fin 2)).val < 2048 := (z (0 : Fin 2)).isLt
    have b1 : (z (1 : Fin 2)).val < 2048 := (z (1 : Fin 2)).isLt
    have hN : (z (0 : Fin 2)).val / 512 * 4 + (z (1 : Fin 2)).val / 512 < cfg0.N := by
      rw [show cfg0.N = 16 from N_0]; omega
    refine ⟨⟨_, hN⟩, flush0_2 _, ?_⟩
    show z ∈ ((View.whole main_v0).slice (win0_2.rect ⟨_, hN⟩)).set
    rw [View.set_slice_whole, Rect.mem_set_unit]
    obtain ⟨i0, i1⟩ := idx0_2 ⟨_, hN⟩
    intro a
    match a with
    | ⟨0, _⟩ =>
      show win0_2.index ⟨_, hN⟩ (0 : Fin 2) * 512 ≤ (z (0 : Fin 2)).val ∧ (z (0 : Fin 2)).val < win0_2.index ⟨_, hN⟩ (0 : Fin 2) * 512 + 512
      rw [i0]; dsimp only; omega
    | ⟨1, _⟩ =>
      show win0_2.index ⟨_, hN⟩ (1 : Fin 2) * 512 ≤ (z (1 : Fin 2)).val ∧ (z (1 : Fin 2)).val < win0_2.index ⟨_, hN⟩ (1 : Fin 2) * 512 + 512
      rw [i1]; dsimp only; omega

end Region0

/-! ### The gradient of the heads' outputs -/

section Region1

theorem lt1 (t : Fin cfg1.N) : t.val < 16 := lt_of_lt_of_eq t.isLt (show cfg1.N = 16 from N_1)

theorem idx1_0 : ∀ t : Fin cfg1.N, win1_0.index t (0 : Fin 2) = t.val / 4 ∧ win1_0.index t (1 : Fin 2) = 0 :=
  (by decide +kernel : ∀ t : Fin grid1.N, _)

theorem idx1_1 : ∀ t : Fin cfg1.N, win1_1.index t (0 : Fin 3) = 0 ∧ win1_1.index t (1 : Fin 3) = t.val % 4 ∧ win1_1.index t (2 : Fin 3) = 0 :=
  (by decide +kernel : ∀ t : Fin grid1.N, _)

theorem idx1_2 : ∀ t : Fin cfg1.N, win1_2.index t (0 : Fin 2) = t.val / 4 ∧ win1_2.index t (1 : Fin 2) = t.val % 4 :=
  (by decide +kernel : ∀ t : Fin grid1.N, _)

theorem in1_0 {f : Fin 2048 → Fin 2048 → EReal} (e : (W c main_arg5 : S2048x2048.Idx → EReal) = mat f) (t : Fin cfg1.N) (x : Fin 512) (y : Fin 2048) :
    (iblk1 W c 0 t : Vec Ideal S512x2048 .bf16) (ix2 x y) = f (place 512 (t.val / 4) x (by have := lt1 t; omega) : Fin 2048) y := by
  obtain ⟨h0, h1⟩ := idx1_0 t
  have r : (iblk1 W c 0 t : Vec Ideal S512x2048 .bf16) (ix2 x y) = (W c main_arg5 : S2048x2048.Idx → EReal) (((cfg1.win 0).blk t).view.emb (ix2 x y : S512x2048.Idx)) := rfl
  refine r.trans ((congrFun e _).trans (mat_at f _ _ _ ?_ ?_))
  · show win1_0.index t (0 : Fin 2) * 512 + 1 * x.val = t.val / 4 * 512 + x.val
    rw [h0]; omega
  · show win1_0.index t (1 : Fin 2) * 2048 + 1 * y.val = y.val
    rw [h1]; omega

theorem in1_1 {f : Fin 2048 → Fin 2048 → EReal} (e : (W c main_arg4 : S1x2048x2048.Idx → EReal) = mat1 f) (t : Fin cfg1.N) (x : Fin 512) (y : Fin 2048) :
    (iblk1 W c 1 t : Vec Ideal S1x512x2048 .bf16) (ix3 0 x y) = f (place 512 (t.val % 4) x (by have := lt1 t; omega) : Fin 2048) y := by
  obtain ⟨-, h1, h2⟩ := idx1_1 t
  have r : (iblk1 W c 1 t : Vec Ideal S1x512x2048 .bf16) (ix3 0 x y) = (W c main_arg4 : S1x2048x2048.Idx → EReal) (((cfg1.win 1).blk t).view.emb (ix3 0 x y : S1x512x2048.Idx)) := rfl
  refine r.trans ((congrFun e _).trans (mat1_at f _ _ _ ?_ ?_))
  · show win1_1.index t (1 : Fin 3) * 512 + 1 * x.val = t.val % 4 * 512 + x.val
    rw [h1]; omega
  · show win1_1.index t (2 : Fin 3) * 2048 + 1 * y.val = y.val
    rw [h2]; omega

theorem out1_eq (x0 : Vec Ideal S512x2048 .bf16) (x1 : Vec Ideal S1x512x2048 .bf16) :
    out1_2 (F := Ideal) x0 x1 = k1_pay1 (F := Ideal) x0 x1 := by
  unfold out1_2
  rw [View.canon_unit_zero start2, View.ld_unit_zero (S := S512x2048) start2 _ x0, View.ld_unit_zero (S := S1x512x2048) start3 _ x1]

theorem at1 (f : Fin 2048 → Fin 2048 → EReal) (t : Fin cfg1.N) (x : Fin 512) (y : Fin 512) :
    ((cfg1.win 2).blk t).view.read (Elt Ideal) (mat f) (ix2 x y : S512x512.Idx) = f (place 512 (t.val / 4) x (by have := lt1 t; omega) : Fin 2048) (place 512 (t.val % 4) y (by have := lt1 t; omega) : Fin 2048) := by
  obtain ⟨h0, h1⟩ := idx1_2 t
  refine mat_at f _ _ _ ?_ ?_
  · show win1_2.index t (0 : Fin 2) * 512 + 1 * x.val = t.val / 4 * 512 + x.val
    rw [h0]; omega
  · show win1_2.index t (1 : Fin 2) * 512 + 1 * y.val = t.val % 4 * 512 + y.val
    rw [h1]; omega

theorem final1 {D : Data} (e0 : (W c main_arg5 : S2048x2048.Idx → EReal) = mat D.dy) (e1 : (W c main_arg4 : S1x2048x2048.Idx → EReal) = mat1 D.wo) :
    ((dat1 W c).arrAt 2 cfg1.N : S2048x2048.Idx → EReal) = mat D.go := by
  refine (dat1 W c).arrAt_eq_of_cover 2 (mat D.go) (fun t _ => ?_) (fun z => ?_)
  · show (cfg1.win 2).cut (grid1.coords t) ((dat1 W c).after 2 t) = _
    rw [after1_2, out1_eq]
    funext z
    obtain ⟨x, y, rfl⟩ := exists_pair (n0 := 512) (n1 := 512) z
    exact (Tile.go x y _ _ (fun k => in1_0 W c e0 t x k) (fun k => in1_1 W c e1 t y k)).trans (at1 D.go t x y).symm
  · have b0 : (z (0 : Fin 2)).val < 2048 := (z (0 : Fin 2)).isLt
    have b1 : (z (1 : Fin 2)).val < 2048 := (z (1 : Fin 2)).isLt
    have hN : (z (0 : Fin 2)).val / 512 * 4 + (z (1 : Fin 2)).val / 512 < cfg1.N := by
      rw [show cfg1.N = 16 from N_1]; omega
    refine ⟨⟨_, hN⟩, flush1_2 _, ?_⟩
    show z ∈ ((View.whole main_v1).slice (win1_2.rect ⟨_, hN⟩)).set
    rw [View.set_slice_whole, Rect.mem_set_unit]
    obtain ⟨i0, i1⟩ := idx1_2 ⟨_, hN⟩
    intro a
    match a with
    | ⟨0, _⟩ =>
      show win1_2.index ⟨_, hN⟩ (0 : Fin 2) * 512 ≤ (z (0 : Fin 2)).val ∧ (z (0 : Fin 2)).val < win1_2.index ⟨_, hN⟩ (0 : Fin 2) * 512 + 512
      rw [i0]; dsimp only; omega
    | ⟨1, _⟩ =>
      show win1_2.index ⟨_, hN⟩ (1 : Fin 2) * 512 ≤ (z (1 : Fin 2)).val ∧ (z (1 : Fin 2)).val < win1_2.index ⟨_, hN⟩ (1 : Fin 2) * 512 + 512
      rw [i1]; dsimp only; omega

end Region1

/-! ### The gradient of the weight of the projection out -/

section Region2

theorem lt2 (t : Fin cfg2.N) : t.val < 16 := lt_of_lt_of_eq t.isLt (show cfg2.N = 16 from N_2)

theorem idx2_0 : ∀ t : Fin cfg2.N, win2_0.index t (0 : Fin 2) = 0 ∧ win2_0.index t (1 : Fin 2) = t.val / 4 :=
  (by decide +kernel : ∀ t : Fin grid2.N, _)

theorem idx2_1 : ∀ t : Fin cfg2.N, win2_1.index t (0 : Fin 2) = 0 ∧ win2_1.index t (1 : Fin 2) = t.val % 4 :=
  (by decide +kernel : ∀ t : Fin grid2.N, _)

theorem idx2_2 : ∀ t : Fin cfg2.N, win2_2.index t (0 : Fin 2) = t.val / 4 ∧ win2_2.index t (1 : Fin 2) = t.val % 4 :=
  (by decide +kernel : ∀ t : Fin grid2.N, _)

theorem in2_0 {f : Fin 2048 → Fin 2048 → EReal} (e : (W c main_arg3 : S2048x2048.Idx → EReal) = mat f) (t : Fin cfg2.N) (x : Fin 2048) (y : Fin 512) :
    (iblk2 W c 0 t : Vec Ideal S2048x512 .bf16) (ix2 x y) = f x (place 512 (t.val / 4) y (by have := lt2 t; omega) : Fin 2048) := by
  obtain ⟨h0, h1⟩ := idx2_0 t
  have r : (iblk2 W c 0 t : Vec Ideal S2048x512 .bf16) (ix2 x y) = (W c main_arg3 : S2048x2048.Idx → EReal) (((cfg2.win 0).blk t).view.emb (ix2 x y : S2048x512.Idx)) := rfl
  refine r.trans ((congrFun e _).trans (mat_at f _ _ _ ?_ ?_))
  · show win2_0.index t (0 : Fin 2) * 2048 + 1 * x.val = x.val
    rw [h0]; omega
  · show win2_0.index t (1 : Fin 2) * 512 + 1 * y.val = t.val / 4 * 512 + y.val
    rw [h1]; omega

theorem in2_1 {f : Fin 2048 → Fin 2048 → EReal} (e : (W c main_arg5 : S2048x2048.Idx → EReal) = mat f) (t : Fin cfg2.N) (x : Fin 2048) (y : Fin 512) :
    (iblk2 W c 1 t : Vec Ideal S2048x512 .bf16) (ix2 x y) = f x (place 512 (t.val % 4) y (by have := lt2 t; omega) : Fin 2048) := by
  obtain ⟨h0, h1⟩ := idx2_1 t
  have r : (iblk2 W c 1 t : Vec Ideal S2048x512 .bf16) (ix2 x y) = (W c main_arg5 : S2048x2048.Idx → EReal) (((cfg2.win 1).blk t).view.emb (ix2 x y : S2048x512.Idx)) := rfl
  refine r.trans ((congrFun e _).trans (mat_at f _ _ _ ?_ ?_))
  · show win2_1.index t (0 : Fin 2) * 2048 + 1 * x.val = x.val
    rw [h0]; omega
  · show win2_1.index t (1 : Fin 2) * 512 + 1 * y.val = t.val % 4 * 512 + y.val
    rw [h1]; omega

theorem out2_eq (x0 : Vec Ideal S2048x512 .bf16) (x1 : Vec Ideal S2048x512 .bf16) :
    out2_2 (F := Ideal) x0 x1 = k2_pay1 (F := Ideal) x0 x1 := by
  unfold out2_2
  rw [View.canon_unit_zero start2, View.ld_unit_zero (S := S2048x512) start2 _ x0, View.ld_unit_zero (S := S2048x512) start2 _ x1]

theorem at2 (f : Fin 2048 → Fin 2048 → EReal) (t : Fin cfg2.N) (x : Fin 512) (y : Fin 512) :
    ((cfg2.win 2).blk t).view.read (Elt Ideal) (mat f) (ix2 x y : S512x512.Idx) = f (place 512 (t.val / 4) x (by have := lt2 t; omega) : Fin 2048) (place 512 (t.val % 4) y (by have := lt2 t; omega) : Fin 2048) := by
  obtain ⟨h0, h1⟩ := idx2_2 t
  refine mat_at f _ _ _ ?_ ?_
  · show win2_2.index t (0 : Fin 2) * 512 + 1 * x.val = t.val / 4 * 512 + x.val
    rw [h0]; omega
  · show win2_2.index t (1 : Fin 2) * 512 + 1 * y.val = t.val % 4 * 512 + y.val
    rw [h1]; omega

theorem final2 {D : Data} (e0 : (W c main_arg3 : S2048x2048.Idx → EReal) = mat D.o) (e1 : (W c main_arg5 : S2048x2048.Idx → EReal) = mat D.dy) :
    ((dat2 W c).arrAt 2 cfg2.N : S2048x2048.Idx → EReal) = mat D.dwo := by
  refine (dat2 W c).arrAt_eq_of_cover 2 (mat D.dwo) (fun t _ => ?_) (fun z => ?_)
  · show (cfg2.win 2).cut (grid2.coords t) ((dat2 W c).after 2 t) = _
    rw [after2_2, out2_eq]
    funext z
    obtain ⟨x, y, rfl⟩ := exists_pair (n0 := 512) (n1 := 512) z
    exact (Tile.dwo x y _ _ (fun k => in2_0 W c e0 t k x) (fun k => in2_1 W c e1 t k y)).trans (at2 D.dwo t x y).symm
  · have b0 : (z (0 : Fin 2)).val < 2048 := (z (0 : Fin 2)).isLt
    have b1 : (z (1 : Fin 2)).val < 2048 := (z (1 : Fin 2)).isLt
    have hN : (z (0 : Fin 2)).val / 512 * 4 + (z (1 : Fin 2)).val / 512 < cfg2.N := by
      rw [show cfg2.N = 16 from N_2]; omega
    refine ⟨⟨_, hN⟩, flush2_2 _, ?_⟩
    show z ∈ ((View.whole main_v2).slice (win2_2.rect ⟨_, hN⟩)).set
    rw [View.set_slice_whole, Rect.mem_set_unit]
    obtain ⟨i0, i1⟩ := idx2_2 ⟨_, hN⟩
    intro a
    match a with
    | ⟨0, _⟩ =>
      show win2_2.index ⟨_, hN⟩ (0 : Fin 2) * 512 ≤ (z (0 : Fin 2)).val ∧ (z (0 : Fin 2)).val < win2_2.index ⟨_, hN⟩ (0 : Fin 2) * 512 + 512
      rw [i0]; dsimp only; omega
    | ⟨1, _⟩ =>
      show win2_2.index ⟨_, hN⟩ (1 : Fin 2) * 512 ≤ (z (1 : Fin 2)).val ∧ (z (1 : Fin 2)).val < win2_2.index ⟨_, hN⟩ (1 : Fin 2) * 512 + 512
      rw [i1]; dsimp only; omega

end Region2

/-! ### The gradient of the weight of the projection in -/

section Region3

theorem lt3 (t : Fin cfg3.N) : t.val < 28 := lt_of_lt_of_eq t.isLt (show cfg3.N = 28 from N_3)

theorem idx3_0 : ∀ t : Fin cfg3.N, win3_0.index t (0 : Fin 2) = 0 ∧ win3_0.index t (1 : Fin 2) = t.val / 7 :=
  (by decide +kernel : ∀ t : Fin grid3.N, _)

theorem idx3_1 : ∀ t : Fin cfg3.N, win3_1.index t (0 : Fin 2) = 0 ∧ win3_1.index t (1 : Fin 2) = t.val % 7 :=
  (by decide +kernel : ∀ t : Fin grid3.N, _)

theorem idx3_2 : ∀ t : Fin cfg3.N, win3_2.index t (0 : Fin 2) = t.val / 7 ∧ win3_2.index t (1 : Fin 2) = t.val % 7 :=
  (by decide +kernel : ∀ t : Fin grid3.N, _)

theorem in3_0 {f : Fin 2048 → Fin 2048 → EReal} (e : (W c main_arg0 : S2048x2048.Idx → EReal) = mat f) (t : Fin cfg3.N) (x : Fin 2048) (y : Fin 512) :
    (iblk3 W c 0 t : Vec Ideal S2048x512 .bf16) (ix2 x y) = f x (place 512 (t.val / 7) y (by have := lt3 t; omega) : Fin 2048) := by
  obtain ⟨h0, h1⟩ := idx3_0 t
  have r : (iblk3 W c 0 t : Vec Ideal S2048x512 .bf16) (ix2 x y) = (W c main_arg0 : S2048x2048.Idx → EReal) (((cfg3.win 0).blk t).view.emb (ix2 x y : S2048x512.Idx)) := rfl
  refine r.trans ((congrFun e _).trans (mat_at f _ _ _ ?_ ?_))
  · show win3_0.index t (0 : Fin 2) * 2048 + 1 * x.val = x.val
    rw [h0]; omega
  · show win3_0.index t (1 : Fin 2) * 512 + 1 * y.val = t.val / 7 * 512 + y.val
    rw [h1]; omega

theorem in3_1 {f : Fin 2048 → Fin 6272 → EReal} (e : (W c main_arg2 : S2048x6272.Idx → EReal) = mat f) (t : Fin cfg3.N) (x : Fin 2048) (y : Fin 896) :
    (iblk3 W c 1 t : Vec Ideal S2048x896 .bf16) (ix2 x y) = f x (place 896 (t.val % 7) y (by have := lt3 t; omega) : Fin 6272) := by
  obtain ⟨h0, h1⟩ := idx3_1 t
  have r : (iblk3 W c 1 t : Vec Ideal S2048x896 .bf16) (ix2 x y) = (W c main_arg2 : S2048x6272.Idx → EReal) (((cfg3.win 1).blk t).view.emb (ix2 x y : S2048x896.Idx)) := rfl
  refine r.trans ((congrFun e _).trans (mat_at f _ _ _ ?_ ?_))
  · show win3_1.index t (0 : Fin 2) * 2048 + 1 * x.val = x.val
    rw [h0]; omega
  · show win3_1.index t (1 : Fin 2) * 896 + 1 * y.val = t.val % 7 * 896 + y.val
    rw [h1]; omega

theorem out3_eq (x0 : Vec Ideal S2048x512 .bf16) (x1 : Vec Ideal S2048x896 .bf16) :
    out3_2 (F := Ideal) x0 x1 = k3_pay1 (F := Ideal) x0 x1 := by
  unfold out3_2
  rw [View.canon_unit_zero start2, View.ld_unit_zero (S := S2048x512) start2 _ x0, View.ld_unit_zero (S := S2048x896) start2 _ x1]

theorem at3 (f : Fin 2048 → Fin 6272 → EReal) (t : Fin cfg3.N) (x : Fin 512) (y : Fin 896) :
    ((cfg3.win 2).blk t).view.read (Elt Ideal) (mat f) (ix2 x y : S512x896.Idx) = f (place 512 (t.val / 7) x (by have := lt3 t; omega) : Fin 2048) (place 896 (t.val % 7) y (by have := lt3 t; omega) : Fin 6272) := by
  obtain ⟨h0, h1⟩ := idx3_2 t
  refine mat_at f _ _ _ ?_ ?_
  · show win3_2.index t (0 : Fin 2) * 512 + 1 * x.val = t.val / 7 * 512 + x.val
    rw [h0]; omega
  · show win3_2.index t (1 : Fin 2) * 896 + 1 * y.val = t.val % 7 * 896 + y.val
    rw [h1]; omega

theorem final3 {D : Data} (e0 : (W c main_arg0 : S2048x2048.Idx → EReal) = mat D.h) (e1 : (W c main_arg2 : S2048x6272.Idx → EReal) = mat D.g) :
    ((dat3 W c).arrAt 2 cfg3.N : S2048x6272.Idx → EReal) = mat D.dwi := by
  refine (dat3 W c).arrAt_eq_of_cover 2 (mat D.dwi) (fun t _ => ?_) (fun z => ?_)
  · show (cfg3.win 2).cut (grid3.coords t) ((dat3 W c).after 2 t) = _
    rw [after3_2, out3_eq]
    funext z
    obtain ⟨x, y, rfl⟩ := exists_pair (n0 := 512) (n1 := 896) z
    exact (Tile.dwi x y _ _ (fun k => in3_0 W c e0 t k x) (fun k => in3_1 W c e1 t k y)).trans (at3 D.dwi t x y).symm
  · have b0 : (z (0 : Fin 2)).val < 2048 := (z (0 : Fin 2)).isLt
    have b1 : (z (1 : Fin 2)).val < 6272 := (z (1 : Fin 2)).isLt
    have hN : (z (0 : Fin 2)).val / 512 * 7 + (z (1 : Fin 2)).val / 896 < cfg3.N := by
      rw [show cfg3.N = 28 from N_3]; omega
    refine ⟨⟨_, hN⟩, flush3_2 _, ?_⟩
    show z ∈ ((View.whole main_v3).slice (win3_2.rect ⟨_, hN⟩)).set
    rw [View.set_slice_whole, Rect.mem_set_unit]
    obtain ⟨i0, i1⟩ := idx3_2 ⟨_, hN⟩
    intro a
    match a with
    | ⟨0, _⟩ =>
      show win3_2.index ⟨_, hN⟩ (0 : Fin 2) * 512 ≤ (z (0 : Fin 2)).val ∧ (z (0 : Fin 2)).val < win3_2.index ⟨_, hN⟩ (0 : Fin 2) * 512 + 512
      rw [i0]; dsimp only; omega
    | ⟨1, _⟩ =>
      show win3_2.index ⟨_, hN⟩ (1 : Fin 2) * 896 ≤ (z (1 : Fin 2)).val ∧ (z (1 : Fin 2)).val < win3_2.index ⟨_, hN⟩ (1 : Fin 2) * 896 + 896
      rw [i1]; dsimp only; omega

end Region3

/-! ### The gradient of the hidden rows -/

section Region4

theorem lt4 (t : Fin cfg4.N) : t.val < 32 := lt_of_lt_of_eq t.isLt (show cfg4.N = 32 from N_4)

theorem idx4_0 : ∀ t : Fin cfg4.N, win4_0.index t (0 : Fin 2) = t.val / 8 ∧ win4_0.index t (1 : Fin 2) = 0 :=
  (by decide +kernel : ∀ t : Fin grid4.N, _)

theorem idx4_1 : ∀ t : Fin cfg4.N, win4_1.index t (0 : Fin 3) = 0 ∧ win4_1.index t (1 : Fin 3) = t.val % 8 ∧ win4_1.index t (2 : Fin 3) = 0 :=
  (by decide +kernel : ∀ t : Fin grid4.N, _)

theorem idx4_2 : ∀ t : Fin cfg4.N, win4_2.index t (0 : Fin 2) = t.val / 8 ∧ win4_2.index t (1 : Fin 2) = t.val % 8 :=
  (by decide +kernel : ∀ t : Fin grid4.N, _)

theorem in4_0 {f : Fin 2048 → Fin 6272 → EReal} (e : (W c main_arg2 : S2048x6272.Idx → EReal) = mat f) (t : Fin cfg4.N) (x : Fin 512) (y : Fin 6272) :
    (iblk4 W c 0 t : Vec Ideal S512x6272 .bf16) (ix2 x y) = f (place 512 (t.val / 8) x (by have := lt4 t; omega) : Fin 2048) y := by
  obtain ⟨h0, h1⟩ := idx4_0 t
  have r : (iblk4 W c 0 t : Vec Ideal S512x6272 .bf16) (ix2 x y) = (W c main_arg2 : S2048x6272.Idx → EReal) (((cfg4.win 0).blk t).view.emb (ix2 x y : S512x6272.Idx)) := rfl
  refine r.trans ((congrFun e _).trans (mat_at f _ _ _ ?_ ?_))
  · show win4_0.index t (0 : Fin 2) * 512 + 1 * x.val = t.val / 8 * 512 + x.val
    rw [h0]; omega
  · show win4_0.index t (1 : Fin 2) * 6272 + 1 * y.val = y.val
    rw [h1]; omega

theorem in4_1 {f : Fin 2048 → Fin 6272 → EReal} (e : (W c main_arg1 : S1x2048x6272.Idx → EReal) = mat1 f) (t : Fin cfg4.N) (x : Fin 256) (y : Fin 6272) :
    (iblk4 W c 1 t : Vec Ideal S1x256x6272 .bf16) (ix3 0 x y) = f (place 256 (t.val % 8) x (by have := lt4 t; omega) : Fin 2048) y := by
  obtain ⟨-, h1, h2⟩ := idx4_1 t
  have r : (iblk4 W c 1 t : Vec Ideal S1x256x6272 .bf16) (ix3 0 x y) = (W c main_arg1 : S1x2048x6272.Idx → EReal) (((cfg4.win 1).blk t).view.emb (ix3 0 x y : S1x256x6272.Idx)) := rfl
  refine r.trans ((congrFun e _).trans (mat1_at f _ _ _ ?_ ?_))
  · show win4_1.index t (1 : Fin 3) * 256 + 1 * x.val = t.val % 8 * 256 + x.val
    rw [h1]; omega
  · show win4_1.index t (2 : Fin 3) * 6272 + 1 * y.val = y.val
    rw [h2]; omega

theorem out4_eq (x0 : Vec Ideal S512x6272 .bf16) (x1 : Vec Ideal S1x256x6272 .bf16) :
    out4_2 (F := Ideal) x0 x1 = k4_pay1 (F := Ideal) x0 x1 := by
  unfold out4_2
  rw [View.canon_unit_zero start2, View.ld_unit_zero (S := S512x6272) start2 _ x0, View.ld_unit_zero (S := S1x256x6272) start3 _ x1]

theorem at4 (f : Fin 2048 → Fin 2048 → EReal) (t : Fin cfg4.N) (x : Fin 512) (y : Fin 256) :
    ((cfg4.win 2).blk t).view.read (Elt Ideal) (mat f) (ix2 x y : S512x256.Idx) = f (place 512 (t.val / 8) x (by have := lt4 t; omega) : Fin 2048) (place 256 (t.val % 8) y (by have := lt4 t; omega) : Fin 2048) := by
  obtain ⟨h0, h1⟩ := idx4_2 t
  refine mat_at f _ _ _ ?_ ?_
  · show win4_2.index t (0 : Fin 2) * 512 + 1 * x.val = t.val / 8 * 512 + x.val
    rw [h0]; omega
  · show win4_2.index t (1 : Fin 2) * 256 + 1 * y.val = t.val % 8 * 256 + y.val
    rw [h1]; omega

theorem final4 {D : Data} (e0 : (W c main_arg2 : S2048x6272.Idx → EReal) = mat D.g) (e1 : (W c main_arg1 : S1x2048x6272.Idx → EReal) = mat1 D.wi) :
    ((dat4 W c).arrAt 2 cfg4.N : S2048x2048.Idx → EReal) = mat D.dh := by
  refine (dat4 W c).arrAt_eq_of_cover 2 (mat D.dh) (fun t _ => ?_) (fun z => ?_)
  · show (cfg4.win 2).cut (grid4.coords t) ((dat4 W c).after 2 t) = _
    rw [after4_2, out4_eq]
    funext z
    obtain ⟨x, y, rfl⟩ := exists_pair (n0 := 512) (n1 := 256) z
    exact (Tile.dh x y _ _ (fun k => in4_0 W c e0 t x k) (fun k => in4_1 W c e1 t y k)).trans (at4 D.dh t x y).symm
  · have b0 : (z (0 : Fin 2)).val < 2048 := (z (0 : Fin 2)).isLt
    have b1 : (z (1 : Fin 2)).val < 2048 := (z (1 : Fin 2)).isLt
    have hN : (z (0 : Fin 2)).val / 512 * 8 + (z (1 : Fin 2)).val / 256 < cfg4.N := by
      rw [show cfg4.N = 32 from N_4]; omega
    refine ⟨⟨_, hN⟩, flush4_2 _, ?_⟩
    show z ∈ ((View.whole main_v4).slice (win4_2.rect ⟨_, hN⟩)).set
    rw [View.set_slice_whole, Rect.mem_set_unit]
    obtain ⟨i0, i1⟩ := idx4_2 ⟨_, hN⟩
    intro a
    match a with
    | ⟨0, _⟩ =>
      show win4_2.index ⟨_, hN⟩ (0 : Fin 2) * 512 ≤ (z (0 : Fin 2)).val ∧ (z (0 : Fin 2)).val < win4_2.index ⟨_, hN⟩ (0 : Fin 2) * 512 + 512
      rw [i0]; dsimp only; omega
    | ⟨1, _⟩ =>
      show win4_2.index ⟨_, hN⟩ (1 : Fin 2) * 256 ≤ (z (1 : Fin 2)).val ∧ (z (1 : Fin 2)).val < win4_2.index ⟨_, hN⟩ (1 : Fin 2) * 256 + 256
      rw [i1]; dsimp only; omega

end Region4

end Cert.Proj

end
-- ==== Proof.ProjRun.lean ====
/- The run of the five projection kernels, and what their result arrays hold. -/
module

public import proofs.«01_k».proof.Proof.ProjCalls

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

local notation "𝕄" => MT nD τ sig Unit (Elt Ideal) ℕ (UR sig nD τ) ℕ
variable (m : (ℓ : Loc nD τ sig) → Buf (Elt Ideal) ℓ) (ρ : Dev nD → PrngReg)

set_option backward.isDefEq.respectTransparency.types false in
/-- The run, with each result array as the last kernel leaves it. -/
theorem run : θ_run defs (onTc (τ := τ) (main (F := Ideal))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_v1) = W5 m ρ c (Proc.devRef .tc main_v1)
      ∧ r.2.mem ((c.tc : Thread nD τ).loc main_v2) = W5 m ρ c (Proc.devRef .tc main_v2)
      ∧ r.2.mem ((c.tc : Thread nD τ).loc main_v3) = W5 m ρ c (Proc.devRef .tc main_v3)
      ∧ r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v0 (by decide)),
       h c _ (mem_uc main_v1 (by decide)),
       h c _ (mem_uc main_v2 (by decide)),
       h c _ (mem_uc main_v3 (by decide)),
       h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

/-! ### What the arrays hold, kernel by kernel -/

/-- The argument arrays hold the matrices of `D`. -/
structure Holds (D : Data) (x0 : S2048x2048.Idx → EReal) (x1 : S1x2048x6272.Idx → EReal) (x2 : S2048x6272.Idx → EReal)
    (x3 : S2048x2048.Idx → EReal) (x4 : S1x2048x2048.Idx → EReal) (x5 : S2048x2048.Idx → EReal) : Prop where
  h : x0 = mat D.h
  wi : x1 = mat1 D.wi
  g : x2 = mat D.g
  o : x3 = mat D.o
  wo : x4 = mat1 D.wo
  dy : x5 = mat D.dy

/-- The matrices that six arrays hold. -/
def dataOf (x0 : S2048x2048.Idx → EReal) (x1 : S1x2048x6272.Idx → EReal) (x2 : S2048x6272.Idx → EReal)
    (x3 : S2048x2048.Idx → EReal) (x4 : S1x2048x2048.Idx → EReal) (x5 : S2048x2048.Idx → EReal) : Data where
  h := fun a b => x0 (ValueIdx.ix2 a b)
  wi := fun a b => x1 (ValueIdx.ix3 0 a b)
  g := fun a b => x2 (ValueIdx.ix2 a b)
  o := fun a b => x3 (ValueIdx.ix2 a b)
  wo := fun a b => x4 (ValueIdx.ix3 0 a b)
  dy := fun a b => x5 (ValueIdx.ix2 a b)

theorem holds_dataOf (x0 : S2048x2048.Idx → EReal) (x1 : S1x2048x6272.Idx → EReal) (x2 : S2048x6272.Idx → EReal)
    (x3 : S2048x2048.Idx → EReal) (x4 : S1x2048x2048.Idx → EReal) (x5 : S2048x2048.Idx → EReal) :
    Holds (dataOf x0 x1 x2 x3 x4 x5) x0 x1 x2 x3 x4 x5 :=
  ⟨eq_mat x0, eq_mat1 x1, eq_mat x2, eq_mat x3, eq_mat1 x4, eq_mat x5⟩

variable (c : Dev nD) {D : Data}
  (H : Holds D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))

include H

theorem y_1 : (W1 m ρ c (Proc.devRef .tc main_v0) : S2048x2048.Idx → EReal) = mat D.y :=
  (W1_arr m ρ c 2).trans (final0 (V0 m ρ) c H.o H.wo)

theorem y_2 : (W2 m ρ c (Proc.devRef .tc main_v0) : S2048x2048.Idx → EReal) = mat D.y :=
  (W2_of m ρ c main_v0 (by decide)).trans (y_1 m ρ c H)

theorem y_3 : (W3 m ρ c (Proc.devRef .tc main_v0) : S2048x2048.Idx → EReal) = mat D.y :=
  (W3_of m ρ c main_v0 (by decide)).trans (y_2 m ρ c H)

theorem y_4 : (W4 m ρ c (Proc.devRef .tc main_v0) : S2048x2048.Idx → EReal) = mat D.y :=
  (W4_of m ρ c main_v0 (by decide)).trans (y_3 m ρ c H)

theorem y_5 : (W5 m ρ c (Proc.devRef .tc main_v0) : S2048x2048.Idx → EReal) = mat D.y :=
  (W5_of m ρ c main_v0 (by decide)).trans (y_4 m ρ c H)

theorem go_2 : (W2 m ρ c (Proc.devRef .tc main_v1) : S2048x2048.Idx → EReal) = mat D.go :=
  (W2_arr m ρ c 2).trans (final1 (V1 m ρ) c ((W1_args m ρ c main_arg5 (by decide)).trans H.dy) ((W1_args m ρ c main_arg4 (by decide)).trans H.wo))

theorem go_3 : (W3 m ρ c (Proc.devRef .tc main_v1) : S2048x2048.Idx → EReal) = mat D.go :=
  (W3_of m ρ c main_v1 (by decide)).trans (go_2 m ρ c H)

theorem go_4 : (W4 m ρ c (Proc.devRef .tc main_v1) : S2048x2048.Idx → EReal) = mat D.go :=
  (W4_of m ρ c main_v1 (by decide)).trans (go_3 m ρ c H)

theorem go_5 : (W5 m ρ c (Proc.devRef .tc main_v1) : S2048x2048.Idx → EReal) = mat D.go :=
  (W5_of m ρ c main_v1 (by decide)).trans (go_4 m ρ c H)

theorem dwo_3 : (W3 m ρ c (Proc.devRef .tc main_v2) : S2048x2048.Idx → EReal) = mat D.dwo :=
  (W3_arr m ρ c 2).trans (final2 (V2 m ρ) c ((W2_args m ρ c main_arg3 (by decide)).trans H.o) ((W2_args m ρ c main_arg5 (by decide)).trans H.dy))

theorem dwo_4 : (W4 m ρ c (Proc.devRef .tc main_v2) : S2048x2048.Idx → EReal) = mat D.dwo :=
  (W4_of m ρ c main_v2 (by decide)).trans (dwo_3 m ρ c H)

theorem dwo_5 : (W5 m ρ c (Proc.devRef .tc main_v2) : S2048x2048.Idx → EReal) = mat D.dwo :=
  (W5_of m ρ c main_v2 (by decide)).trans (dwo_4 m ρ c H)

theorem dwi_4 : (W4 m ρ c (Proc.devRef .tc main_v3) : S2048x6272.Idx → EReal) = mat D.dwi :=
  (W4_arr m ρ c 2).trans (final3 (V3 m ρ) c ((W3_args m ρ c main_arg0 (by decide)).trans H.h) ((W3_args m ρ c main_arg2 (by decide)).trans H.g))

theorem dwi_5 : (W5 m ρ c (Proc.devRef .tc main_v3) : S2048x6272.Idx → EReal) = mat D.dwi :=
  (W5_of m ρ c main_v3 (by decide)).trans (dwi_4 m ρ c H)

theorem dh_5 : (W5 m ρ c (Proc.devRef .tc main_v4) : S2048x2048.Idx → EReal) = mat D.dh :=
  (W5_arr m ρ c 2).trans (final4 (V4 m ρ) c ((W4_args m ρ c main_arg2 (by decide)).trans H.g) ((W4_args m ρ c main_arg1 (by decide)).trans H.wi))

end Cert.Proj

end
-- ==== Proof.ProjAgree.lean ====
/- The projections' five results, from equal arguments. -/
module

public import proofs.«01_k».proof.Proof.ProjReference
public import proofs.«01_k».proof.Proof.ProjRun

@[expose] public section

noncomputable section

namespace Cert.Proj.Ref

open Idealize.ShloMosaic Cert.Reference3Ideal Cert.Reference3Ideal.Read

variable {D : Data} {x0 x3 x5 : S2048x2048.Idx → EReal} {x1 : S1x2048x6272.Idx → EReal} {x2 : S2048x6272.Idx → EReal} {x4 : S1x2048x2048.Idx → EReal}

theorem y_of (H : Holds D x0 x1 x2 x3 x4 x5) : val_main_v9 (F := Ideal) x3 x4 = mat D.y := by
  obtain ⟨rfl, rfl, rfl, rfl, rfl, rfl⟩ := H
  exact y D

theorem go_of (H : Holds D x0 x1 x2 x3 x4 x5) : val_main_v16 (F := Ideal) x4 x5 = mat D.go := by
  obtain ⟨rfl, rfl, rfl, rfl, rfl, rfl⟩ := H
  exact go D

theorem dwo_of (H : Holds D x0 x1 x2 x3 x4 x5) : val_main_v17 (F := Ideal) x3 x5 = mat D.dwo := by
  obtain ⟨rfl, rfl, rfl, rfl, rfl, rfl⟩ := H
  exact dwo D

theorem dwi_of (H : Holds D x0 x1 x2 x3 x4 x5) : val_main_v18 (F := Ideal) x0 x2 = mat D.dwi := by
  obtain ⟨rfl, rfl, rfl, rfl, rfl, rfl⟩ := H
  exact dwi D

theorem dh_of (H : Holds D x0 x1 x2 x3 x4 x5) : val_main_v12 (F := Ideal) x1 x2 = mat D.dh := by
  obtain ⟨rfl, rfl, rfl, rfl, rfl, rfl⟩ := H
  exact dh D

end Cert.Proj.Ref

namespace Cert.Proj

open Idealize.ShloMosaic Idealize.ShloMosaic.TcCoe Cert.Reference3Ideal.Read

section Same

variable (m : (ℓ : Loc Cert.Kernel3Ideal.nD Cert.Kernel3Ideal.τ Cert.Kernel3Ideal.sig) → Buf (Elt Ideal) ℓ) (g : Dev Cert.Kernel3Ideal.nD → PrngReg)
  (m' : (ℓ : Loc Cert.Reference3Ideal.nD Cert.Reference3Ideal.τ Cert.Reference3Ideal.sig) → Buf (Elt Ideal) ℓ) (c : Dev Cert.Kernel3Ideal.nD)
  (a0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
  (a1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
  (a2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
  (a3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
  (a4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
  (a5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))

include a0 a1 a2 a3 a4 a5

theorem reads : Holds (dataOf (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) := by
  rw [a0, a1, a2, a3, a4, a5]
  exact holds_dataOf _ _ _ _ _ _

theorem same_y : val_main_v9 (F := Ideal) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))
    = Cert.Kernel3Ideal.Gen.W5 m g c (Proc.devRef .tc Cert.Kernel3Ideal.main_v0) :=
  (Ref.y_of (reads m m' c a0 a1 a2 a3 a4 a5)).trans (y_5 m g c (holds_dataOf _ _ _ _ _ _)).symm

theorem same_go : val_main_v16 (F := Ideal) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5))
    = Cert.Kernel3Ideal.Gen.W5 m g c (Proc.devRef .tc Cert.Kernel3Ideal.main_v1) :=
  (Ref.go_of (reads m m' c a0 a1 a2 a3 a4 a5)).trans (go_5 m g c (holds_dataOf _ _ _ _ _ _)).symm

theorem same_dwo : val_main_v17 (F := Ideal) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg5))
    = Cert.Kernel3Ideal.Gen.W5 m g c (Proc.devRef .tc Cert.Kernel3Ideal.main_v2) :=
  (Ref.dwo_of (reads m m' c a0 a1 a2 a3 a4 a5)).trans (dwo_5 m g c (holds_dataOf _ _ _ _ _ _)).symm

theorem same_dwi : val_main_v18 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2))
    = Cert.Kernel3Ideal.Gen.W5 m g c (Proc.devRef .tc Cert.Kernel3Ideal.main_v3) :=
  (Ref.dwi_of (reads m m' c a0 a1 a2 a3 a4 a5)).trans (dwi_5 m g c (holds_dataOf _ _ _ _ _ _)).symm

theorem same_dh : val_main_v12 (F := Ideal) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))
    = Cert.Kernel3Ideal.Gen.W5 m g c (Proc.devRef .tc Cert.Kernel3Ideal.main_v4) :=
  (Ref.dh_of (reads m m' c a0 a1 a2 a3 a4 a5)).trans (dh_5 m g c (holds_dataOf _ _ _ _ _ _)).symm

end Same

end Cert.Proj

end
-- ==== Proof.lean ====
/- The kernel's run and the reference's leave the same five gradients; each program's frame; the mask's constant read as minus infinity. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Agree
public import proofs.«01_k».proof.Proof.FfnAgree
public import proofs.«01_k».proof.Proof.ProjAgree
public import Idealize.ShloMosaic.Adequacy
public import Idealize.ShloMosaic.Init

@[expose] public section

noncomputable section

namespace Cert.Proof

open Idealize.ShloMosaic Idealize.SL.Sem Cert.Kernel

variable (m' : (ℓ : Loc Cert.ReferenceIdeal.nD Cert.ReferenceIdeal.τ Cert.ReferenceIdeal.sig) → Buf (Elt Ideal) ℓ)

/-- The reference's run leaves its arguments, and there is no semaphore. -/
theorem reference_quiescent (g : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g⟩ (fun r => (∀ c : Dev Cert.ReferenceIdeal.nD,
      r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2.2.2.2, sem_eq_zero_of_no_sems (by decide) r.2⟩)
    (Cert.ReferenceIdeal.Value.run m' g)

section Equal

variable (m : (ℓ : Loc Cert.KernelIdeal.nD Cert.KernelIdeal.τ Cert.KernelIdeal.sig) → Buf (Elt Ideal) ℓ) (c : Dev Cert.KernelIdeal.nD)
variable {D : Cert.Fox.Data}
  (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (R : Cert.Fox.Reads D (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)))

include a0 a1 a2 R

theorem same8 : Cert.ReferenceIdeal.Value.res_main_v91 m' c = (Cert.KernelIdeal.Gen.dats m 0 c).arrAt 8 Cert.KernelIdeal.cfg0.N := by
  rw [Cert.ReferenceIdeal.Read.val_main_v91_eq]
  exact (Cert.Fox.agree8 m c a0.symm a1.symm a2.symm R).symm

theorem same9 : Cert.ReferenceIdeal.Value.res_main_v89 m' c = (Cert.KernelIdeal.Gen.dats m 0 c).arrAt 9 Cert.KernelIdeal.cfg0.N := by
  rw [Cert.ReferenceIdeal.Read.val_main_v89_eq]
  exact (Cert.Fox.agree9 m c a0.symm a1.symm a2.symm R).symm

theorem same10 : Cert.ReferenceIdeal.Value.res_main_v88 m' c = (Cert.KernelIdeal.Gen.dats m 0 c).arrAt 10 Cert.KernelIdeal.cfg0.N := by
  rw [Cert.ReferenceIdeal.Read.val_main_v88_eq]
  exact (Cert.Fox.agree10 m c a0.symm a1.symm a2.symm R).symm

theorem same11 : Cert.ReferenceIdeal.Value.res_main_v92 m' c = (Cert.KernelIdeal.Gen.dats m 0 c).arrAt 11 Cert.KernelIdeal.cfg0.N := by
  rw [Cert.ReferenceIdeal.Read.val_main_v92_eq]
  exact (Cert.Fox.agree11 m c a0.symm a1.symm a2.symm R).symm

theorem same12 : Cert.ReferenceIdeal.Value.res_main_v93 m' c = (Cert.KernelIdeal.Gen.dats m 0 c).arrAt 12 Cert.KernelIdeal.cfg0.N := by
  rw [Cert.ReferenceIdeal.Read.val_main_v93_eq]
  exact (Cert.Fox.agree12 m c a0.symm a1.symm a2.symm R).symm

end Equal

/-- The claim about values: from equal finite arguments both programs run and end with the same five gradients. -/
theorem agree : algebraic_KernelIdeal_ReferenceIdeal_pre_finite := by
  intro m g m' g' hpre hargs
  have R : ∀ c : Dev Cert.KernelIdeal.nD, Cert.Fox.Reads (Cert.Fox.dataOf _ _ _) _ _ _ := fun c => Cert.Fox.reads_dataOf _ _ _ (hpre c)
  refine ⟨_, _, _, _, _, Cert.KernelIdeal.Value.run_blocks m g, ?_⟩
  refine (θ_run Cert.ReferenceIdeal.defs _ _).mono (fun r h c => ?_) (Cert.ReferenceIdeal.Value.run m' g')
  obtain ⟨r0, r1, r2, r3, r4, k⟩ := h c
  obtain ⟨a0, a1, a2⟩ := hargs c
  have Rc := R c
  rw [← a0, ← a1, ← a2] at Rc
  exact ⟨r0.trans (same8 m' m c a0 a1 a2 Rc), r1.trans (same9 m' m c a0 a1 a2 Rc), r2.trans (same10 m' m c a0 a1 a2 Rc), r3.trans (same11 m' m c a0 a1 a2 Rc),
    r4.trans (same12 m' m c a0 a1 a2 Rc), k⟩

section Feed

variable (m' : (ℓ : Loc Cert.Reference2Ideal.nD Cert.Reference2Ideal.τ Cert.Reference2Ideal.sig) → Buf (Elt Ideal) ℓ)

/-- The feed-forward reference's run leaves its arguments, and there is no semaphore. -/
theorem reference2_quiescent (g : Dev Cert.Reference2Ideal.nD → PrngReg) :
    θ_run (Cert.Reference2Ideal.defs (F := Ideal)) (onTc (τ := Cert.Reference2Ideal.τ) (Cert.Reference2Ideal.main (F := Ideal))) ⟨m', fun _ => 0, g⟩ (fun r => (∀ c : Dev Cert.Reference2Ideal.nD,
      r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))
      ∧ r.2.sem = fun _ => 0) :=
  (θ_run Cert.Reference2Ideal.defs _ _).mono (fun r h => ⟨fun c => (h c).2.2.2.2.2, sem_eq_zero_of_no_sems (by decide) r.2⟩)
    (Cert.Reference2Ideal.Value.run m' g)

end Feed

/-- The claim about the feed-forward's values: from equal finite arguments both programs run and end with the same value
    and the same four gradients. -/
theorem agree2 : algebraic_Kernel2Ideal_Reference2Ideal_pre_finite2 := by
  intro m g m' g' hpre hargs
  have H : ∀ c : Dev Cert.Kernel2Ideal.nD, Cert.Ffn.Holds (Cert.Ffn.dataOf _ _ _ _ _) _ _ _ _ _ := fun c => Cert.Ffn.holds_dataOf _ _ _ _ _ (hpre c)
  refine ⟨_, _, _, _, _, Cert.Ffn.run m g, ?_⟩
  refine (θ_run Cert.Reference2Ideal.defs _ _).mono (fun r h c => ?_) (Cert.Reference2Ideal.Value.run m' g')
  obtain ⟨r0, r1, r2, r3, r4, k⟩ := h c
  obtain ⟨a0, a1, a2, a3, a4⟩ := hargs c
  exact ⟨(r0.trans (Cert.Reference2Ideal.Read.val_main_v12_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)))).trans (Cert.Ffn.same_y m g m' c a0 a1 a2 a3 a4 (H c)),
    (r1.trans (Cert.Reference2Ideal.Read.val_main_v25_eq m' c)).trans (Cert.Ffn.same_dh m g m' c a0 a1 a2 a3 a4 (H c)),
    (r2.trans (Cert.Reference2Ideal.Read.val_main_v26_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)))).trans (Cert.Ffn.same_dw1 m g m' c a0 a1 a2 a3 a4 (H c)),
    (r3.trans (Cert.Reference2Ideal.Read.val_main_v27_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)))).trans (Cert.Ffn.same_dw3 m g m' c a0 a1 a2 a3 a4 (H c)),
    (r4.trans (Cert.Reference2Ideal.Read.val_main_v28_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg4)))).trans (Cert.Ffn.same_dw2 m g m' c a0 a1 a2 a3 a4 (H c)), k⟩

section Projections

variable (m' : (ℓ : Loc Cert.Reference3Ideal.nD Cert.Reference3Ideal.τ Cert.Reference3Ideal.sig) → Buf (Elt Ideal) ℓ)

/-- The projections' reference's run leaves its arguments, and there is no semaphore. -/
theorem reference3_quiescent (g : Dev Cert.Reference3Ideal.nD → PrngReg) :
    θ_run (Cert.Reference3Ideal.defs (F := Ideal)) (onTc (τ := Cert.Reference3Ideal.τ) (Cert.Reference3Ideal.main (F := Ideal))) ⟨m', fun _ => 0, g⟩ (fun r => (∀ c : Dev Cert.Reference3Ideal.nD,
      r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))
      ∧ r.2.sem = fun _ => 0) :=
  (θ_run Cert.Reference3Ideal.defs _ _).mono (fun r h => ⟨fun c => (h c).2.2.2.2.2, sem_eq_zero_of_no_sems (by decide) r.2⟩)
    (Cert.Reference3Ideal.Value.run m' g)

end Projections

/-- The claim about the projections' values: from equal arguments both programs run and end with the same five arrays. -/
theorem agree3 : algebraic_Kernel3Ideal_Reference3Ideal := by
  intro m g m' g' _ hargs
  refine ⟨_, _, _, _, _, Cert.Proj.run m g, ?_⟩
  refine (θ_run Cert.Reference3Ideal.defs _ _).mono (fun r h c => ?_) (Cert.Reference3Ideal.Value.run m' g')
  obtain ⟨r0, r1, r2, r3, r4, k⟩ := h c
  obtain ⟨a0, a1, a2, a3, a4, a5⟩ := hargs c
  exact ⟨(r0.trans (Cert.Reference3Ideal.Read.val_main_v9_eq (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)))).trans (Cert.Proj.same_y m g m' c a0 a1 a2 a3 a4 a5),
    (r1.trans (Cert.Reference3Ideal.Read.val_main_v16_eq (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)))).trans (Cert.Proj.same_go m g m' c a0 a1 a2 a3 a4 a5),
    (r2.trans (Cert.Reference3Ideal.Read.val_main_v17_eq (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg5)))).trans (Cert.Proj.same_dwo m g m' c a0 a1 a2 a3 a4 a5),
    (r3.trans (Cert.Reference3Ideal.Read.val_main_v18_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)))).trans (Cert.Proj.same_dwi m g m' c a0 a1 a2 a3 a4 a5),
    (r4.trans (Cert.Reference3Ideal.Read.val_main_v12_eq (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)))).trans (Cert.Proj.same_dh m g m' c a0 a1 a2 a3 a4 a5), k⟩

/-- Everything that is claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_finite.Gen.facts, Cert.Pre_finite2.Gen.facts,
    fun m g _ => Cert.Kernel.Gen.frame m g,
    fun m g _ => Cert.KernelIdeal.Gen.frame m g,
    fun m g _ => Cert.KernelIdeal.Gen.frame m g,
    fun m g _ => reference_quiescent m g,
    fun m g _ => reference_quiescent m g,
    fun m g _ => Cert.Kernel2.Gen.frame m g,
    fun m g _ => Cert.Kernel2Ideal.Gen.frame m g,
    fun m g _ => Cert.Kernel2Ideal.Gen.frame m g,
    fun m g _ => reference2_quiescent m g,
    fun m g _ => reference2_quiescent m g,
    fun m g _ => Cert.Kernel3.Gen.frame m g,
    fun m g _ => Cert.Kernel3Ideal.Gen.frame m g,
    fun m g _ => reference3_quiescent m g,
    IdealRules.named_const.statement Cert.KernelIdeal.κ "mask" .f32 0xF149F2CA#32 ⊥ rfl,
    agree, trivial, agree2, trivial, agree3⟩

end Cert.Proof

end
